-- ==== Defs.lean ====
def Pre_Xatt (m : (ℓ : Loc Cert.Xatt.nD Cert.Xatt.τ Cert.Xatt.sig) → Buf (Elt Bits) ℓ) : Prop :=
  True

def Pre_XattIdeal (m : (ℓ : Loc Cert.XattIdeal.nD Cert.XattIdeal.τ Cert.XattIdeal.sig) → Buf (Elt Ideal) ℓ) : Prop :=
  True

def Pre_XattIdeal_finite_scores [hPre_finite_scores : Cert.Pre_finite_scores.Facts] (m : (ℓ : Loc Cert.XattIdeal.nD Cert.XattIdeal.τ Cert.XattIdeal.sig) → Buf (Elt Ideal) ℓ) : Prop :=
  ∀ c : Dev Cert.XattIdeal.nD,
    (Cert.Pre_finite_scores.fn (F := Ideal) (m ((c.tc : Thread Cert.XattIdeal.nD Cert.XattIdeal.τ).loc Cert.XattIdeal.main_arg0)) (m ((c.tc : Thread Cert.XattIdeal.nD Cert.XattIdeal.τ).loc Cert.XattIdeal.main_arg1))) = (fun _ => 1#1)

def Pre_XattRefIdeal (m : (ℓ : Loc Cert.XattRefIdeal.nD Cert.XattRefIdeal.τ Cert.XattRefIdeal.sig) → Buf (Elt Ideal) ℓ) : Prop :=
  True

def Pre_XattRefIdeal_finite_scores [hPre_finite_scores : Cert.Pre_finite_scores.Facts] (m : (ℓ : Loc Cert.XattRefIdeal.nD Cert.XattRefIdeal.τ Cert.XattRefIdeal.sig) → Buf (Elt Ideal) ℓ) : Prop :=
  ∀ c : Dev Cert.XattRefIdeal.nD,
    (Cert.Pre_finite_scores.fn (F := Ideal) (m ((c.tc : Thread Cert.XattRefIdeal.nD Cert.XattRefIdeal.τ).loc Cert.XattRefIdeal.main_arg0)) (m ((c.tc : Thread Cert.XattRefIdeal.nD Cert.XattRefIdeal.τ).loc Cert.XattRefIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5Ideal_finite_inputs [hPre_finite_inputs : Cert.Pre_finite_inputs.Facts] (m : (ℓ : Loc Cert.S5Ideal.nD Cert.S5Ideal.τ Cert.S5Ideal.sig) → Buf (Elt Ideal) ℓ) : Prop :=
  ∀ c : Dev Cert.S5Ideal.nD,
    (Cert.Pre_finite_inputs.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7))).1 = (fun _ => 1#1)
    ∧ (Cert.Pre_finite_inputs.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7))).2 = (fun _ => 1#1)

def Pre_S5RefIdeal (m : (ℓ : Loc Cert.S5RefIdeal.nD Cert.S5RefIdeal.τ Cert.S5RefIdeal.sig) → Buf (Elt Ideal) ℓ) : Prop :=
  True

def Pre_S5RefIdeal_finite_inputs [hPre_finite_inputs : Cert.Pre_finite_inputs.Facts] (m : (ℓ : Loc Cert.S5RefIdeal.nD Cert.S5RefIdeal.τ Cert.S5RefIdeal.sig) → Buf (Elt Ideal) ℓ) : Prop :=
  ∀ c : Dev Cert.S5RefIdeal.nD,
    (Cert.Pre_finite_inputs.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7))).1 = (fun _ => 1#1)
    ∧ (Cert.Pre_finite_inputs.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7))).2 = (fun _ => 1#1)

def quiescent_Xatt [hXatt : Cert.Xatt.Facts] : Prop :=
  ∀ (m : (ℓ : Loc Cert.Xatt.nD Cert.Xatt.τ Cert.Xatt.sig) → Buf (Elt Bits) ℓ) (g : Dev Cert.Xatt.nD → PrngReg), Pre_Xatt m →
    θ_run (Cert.Xatt.defs (F := Bits)) (onTc (τ := Cert.Xatt.τ) (Cert.Xatt.main (F := Bits))) ⟨m, fun _ => 0, g⟩ (fun r => (∀ c : Dev Cert.Xatt.nD,
      r.2.mem ((c.tc : Thread Cert.Xatt.nD Cert.Xatt.τ).loc Cert.Xatt.main_arg0) = m ((c.tc : Thread Cert.Xatt.nD Cert.Xatt.τ).loc Cert.Xatt.main_arg0)
      ∧ r.2.mem ((c.tc : Thread Cert.Xatt.nD Cert.Xatt.τ).loc Cert.Xatt.main_arg1) = m ((c.tc : Thread Cert.Xatt.nD Cert.Xatt.τ).loc Cert.Xatt.main_arg1))
      ∧ r.2.sem = fun _ => 0)

def quiescent_XattIdeal [hXattIdeal : Cert.XattIdeal.Facts] : Prop :=
  ∀ (m : (ℓ : Loc Cert.XattIdeal.nD Cert.XattIdeal.τ Cert.XattIdeal.sig) → Buf (Elt Ideal) ℓ) (g : Dev Cert.XattIdeal.nD → PrngReg), Pre_XattIdeal m →
    θ_run (Cert.XattIdeal.defs (F := Ideal)) (onTc (τ := Cert.XattIdeal.τ) (Cert.XattIdeal.main (F := Ideal))) ⟨m, fun _ => 0, g⟩ (fun r => (∀ c : Dev Cert.XattIdeal.nD,
      r.2.mem ((c.tc : Thread Cert.XattIdeal.nD Cert.XattIdeal.τ).loc Cert.XattIdeal.main_arg0) = m ((c.tc : Thread Cert.XattIdeal.nD Cert.XattIdeal.τ).loc Cert.XattIdeal.main_arg0)
      ∧ r.2.mem ((c.tc : Thread Cert.XattIdeal.nD Cert.XattIdeal.τ).loc Cert.XattIdeal.main_arg1) = m ((c.tc : Thread Cert.XattIdeal.nD Cert.XattIdeal.τ).loc Cert.XattIdeal.main_arg1))
      ∧ r.2.sem = fun _ => 0)

def quiescent_XattIdeal_pre_finite_scores [hXattIdeal : Cert.XattIdeal.Facts] [hPre_finite_scores : Cert.Pre_finite_scores.Facts] : Prop :=
  ∀ (m : (ℓ : Loc Cert.XattIdeal.nD Cert.XattIdeal.τ Cert.XattIdeal.sig) → Buf (Elt Ideal) ℓ) (g : Dev Cert.XattIdeal.nD → PrngReg), Pre_XattIdeal_finite_scores m →
    θ_run (Cert.XattIdeal.defs (F := Ideal)) (onTc (τ := Cert.XattIdeal.τ) (Cert.XattIdeal.main (F := Ideal))) ⟨m, fun _ => 0, g⟩ (fun r => (∀ c : Dev Cert.XattIdeal.nD,
      r.2.mem ((c.tc : Thread Cert.XattIdeal.nD Cert.XattIdeal.τ).loc Cert.XattIdeal.main_arg0) = m ((c.tc : Thread Cert.XattIdeal.nD Cert.XattIdeal.τ).loc Cert.XattIdeal.main_arg0)
      ∧ r.2.mem ((c.tc : Thread Cert.XattIdeal.nD Cert.XattIdeal.τ).loc Cert.XattIdeal.main_arg1) = m ((c.tc : Thread Cert.XattIdeal.nD Cert.XattIdeal.τ).loc Cert.XattIdeal.main_arg1))
      ∧ r.2.sem = fun _ => 0)

def quiescent_XattRefIdeal [hXattRefIdeal : Cert.XattRefIdeal.Facts] : Prop :=
  ∀ (m : (ℓ : Loc Cert.XattRefIdeal.nD Cert.XattRefIdeal.τ Cert.XattRefIdeal.sig) → Buf (Elt Ideal) ℓ) (g : Dev Cert.XattRefIdeal.nD → PrngReg), Pre_XattRefIdeal m →
    θ_run (Cert.XattRefIdeal.defs (F := Ideal)) (onTc (τ := Cert.XattRefIdeal.τ) (Cert.XattRefIdeal.main (F := Ideal))) ⟨m, fun _ => 0, g⟩ (fun r => (∀ c : Dev Cert.XattRefIdeal.nD,
      r.2.mem ((c.tc : Thread Cert.XattRefIdeal.nD Cert.XattRefIdeal.τ).loc Cert.XattRefIdeal.main_arg0) = m ((c.tc : Thread Cert.XattRefIdeal.nD Cert.XattRefIdeal.τ).loc Cert.XattRefIdeal.main_arg0)
      ∧ r.2.mem ((c.tc : Thread Cert.XattRefIdeal.nD Cert.XattRefIdeal.τ).loc Cert.XattRefIdeal.main_arg1) = m ((c.tc : Thread Cert.XattRefIdeal.nD Cert.XattRefIdeal.τ).loc Cert.XattRefIdeal.main_arg1))
      ∧ r.2.sem = fun _ => 0)

def quiescent_XattRefIdeal_pre_finite_scores [hXattRefIdeal : Cert.XattRefIdeal.Facts] [hPre_finite_scores : Cert.Pre_finite_scores.Facts] : Prop :=
  ∀ (m : (ℓ : Loc Cert.XattRefIdeal.nD Cert.XattRefIdeal.τ Cert.XattRefIdeal.sig) → Buf (Elt Ideal) ℓ) (g : Dev Cert.XattRefIdeal.nD → PrngReg), Pre_XattRefIdeal_finite_scores m →
    θ_run (Cert.XattRefIdeal.defs (F := Ideal)) (onTc (τ := Cert.XattRefIdeal.τ) (Cert.XattRefIdeal.main (F := Ideal))) ⟨m, fun _ => 0, g⟩ (fun r => (∀ c : Dev Cert.XattRefIdeal.nD,
      r.2.mem ((c.tc : Thread Cert.XattRefIdeal.nD Cert.XattRefIdeal.τ).loc Cert.XattRefIdeal.main_arg0) = m ((c.tc : Thread Cert.XattRefIdeal.nD Cert.XattRefIdeal.τ).loc Cert.XattRefIdeal.main_arg0)
      ∧ r.2.mem ((c.tc : Thread Cert.XattRefIdeal.nD Cert.XattRefIdeal.τ).loc Cert.XattRefIdeal.main_arg1) = m ((c.tc : Thread Cert.XattRefIdeal.nD Cert.XattRefIdeal.τ).loc Cert.XattRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4)
      ∧ r.2.mem ((c.tc : Thread Cert.Ret.nD Cert.Ret.τ).loc Cert.Ret.main_arg5) = m ((c.tc : Thread Cert.Ret.nD Cert.Ret.τ).loc Cert.Ret.main_arg5)
      ∧ r.2.mem ((c.tc : Thread Cert.Ret.nD Cert.Ret.τ).loc Cert.Ret.main_arg6) = m ((c.tc : Thread Cert.Ret.nD Cert.Ret.τ).loc Cert.Ret.main_arg6)
      ∧ r.2.mem ((c.tc : Thread Cert.Ret.nD Cert.Ret.τ).loc Cert.Ret.main_arg7) = m ((c.tc : Thread Cert.Ret.nD Cert.Ret.τ).loc Cert.Ret.main_arg7))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
      ∧ r.2.mem ((c.tc : Thread Cert.RetIdeal.nD Cert.RetIdeal.τ).loc Cert.RetIdeal.main_arg6) = m ((c.tc : Thread Cert.RetIdeal.nD Cert.RetIdeal.τ).loc Cert.RetIdeal.main_arg6)
      ∧ r.2.mem ((c.tc : Thread Cert.RetIdeal.nD Cert.RetIdeal.τ).loc Cert.RetIdeal.main_arg7) = m ((c.tc : Thread Cert.RetIdeal.nD Cert.RetIdeal.τ).loc Cert.RetIdeal.main_arg7))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5)
      ∧ r.2.mem ((c.tc : Thread Cert.RetRefIdeal.nD Cert.RetRefIdeal.τ).loc Cert.RetRefIdeal.main_arg6) = m ((c.tc : Thread Cert.RetRefIdeal.nD Cert.RetRefIdeal.τ).loc Cert.RetRefIdeal.main_arg6)
      ∧ r.2.mem ((c.tc : Thread Cert.RetRefIdeal.nD Cert.RetRefIdeal.τ).loc Cert.RetRefIdeal.main_arg7) = m ((c.tc : Thread Cert.RetRefIdeal.nD Cert.RetRefIdeal.τ).loc Cert.RetRefIdeal.main_arg7))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7))
      ∧ r.2.sem = fun _ => 0)

def quiescent_S5Ideal_pre_finite_inputs [hS5Ideal : Cert.S5Ideal.Facts] [hPre_finite_inputs : Cert.Pre_finite_inputs.Facts] : Prop :=
  ∀ (m : (ℓ : Loc Cert.S5Ideal.nD Cert.S5Ideal.τ Cert.S5Ideal.sig) → Buf (Elt Ideal) ℓ) (g : Dev Cert.S5Ideal.nD → PrngReg), Pre_S5Ideal_finite_inputs m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7))
      ∧ r.2.sem = fun _ => 0)

def quiescent_S5RefIdeal [hS5RefIdeal : Cert.S5RefIdeal.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7))
      ∧ r.2.sem = fun _ => 0)

def quiescent_S5RefIdeal_pre_finite_inputs [hS5RefIdeal : Cert.S5RefIdeal.Facts] [hPre_finite_inputs : Cert.Pre_finite_inputs.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal_finite_inputs m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7))
      ∧ r.2.sem = fun _ => 0)

def preserves_Xatt_XattIdeal : Prop :=
  True

def algebraic_XattIdeal_XattRefIdeal_pre_finite_scores [hXattIdeal : Cert.XattIdeal.Facts] [hXattRefIdeal : Cert.XattRefIdeal.Facts] [hPre_finite_scores : Cert.Pre_finite_scores.Facts] : Prop :=
  ∀ (m : (ℓ : Loc Cert.XattIdeal.nD Cert.XattIdeal.τ Cert.XattIdeal.sig) → Buf (Elt Ideal) ℓ) (g : Dev Cert.XattIdeal.nD → PrngReg)
    (m' : (ℓ : Loc Cert.XattRefIdeal.nD Cert.XattRefIdeal.τ Cert.XattRefIdeal.sig) → Buf (Elt Ideal) ℓ) (g' : Dev Cert.XattRefIdeal.nD → PrngReg), Pre_XattIdeal_finite_scores m →
    (∀ c : Dev Cert.XattIdeal.nD,
      m' ((c.tc : Thread Cert.XattRefIdeal.nD Cert.XattRefIdeal.τ).loc Cert.XattRefIdeal.main_arg0) = m ((c.tc : Thread Cert.XattIdeal.nD Cert.XattIdeal.τ).loc Cert.XattIdeal.main_arg0)
      ∧ m' ((c.tc : Thread Cert.XattRefIdeal.nD Cert.XattRefIdeal.τ).loc Cert.XattRefIdeal.main_arg1) = m ((c.tc : Thread Cert.XattIdeal.nD Cert.XattIdeal.τ).loc Cert.XattIdeal.main_arg1)) →
    ∃ (v0 : (c : Dev Cert.XattIdeal.nD) → Buf (Elt Ideal) ((c.tc : Thread Cert.XattIdeal.nD Cert.XattIdeal.τ).loc Cert.XattIdeal.main_v0)),
      θ_run (Cert.XattIdeal.defs (F := Ideal)) (onTc (τ := Cert.XattIdeal.τ) (Cert.XattIdeal.main (F := Ideal))) ⟨m, fun _ => 0, g⟩ (fun r => ∀ c : Dev Cert.XattIdeal.nD,
          r.2.mem ((c.tc : Thread Cert.XattIdeal.nD Cert.XattIdeal.τ).loc Cert.XattIdeal.main_v0) = v0 c
          ∧ r.2.mem ((c.tc : Thread Cert.XattIdeal.nD Cert.XattIdeal.τ).loc Cert.XattIdeal.main_arg0) = m ((c.tc : Thread Cert.XattIdeal.nD Cert.XattIdeal.τ).loc Cert.XattIdeal.main_arg0)
          ∧ r.2.mem ((c.tc : Thread Cert.XattIdeal.nD Cert.XattIdeal.τ).loc Cert.XattIdeal.main_arg1) = m ((c.tc : Thread Cert.XattIdeal.nD Cert.XattIdeal.τ).loc Cert.XattIdeal.main_arg1))
      ∧ θ_run (Cert.XattRefIdeal.defs (F := Ideal)) (onTc (τ := Cert.XattRefIdeal.τ) (Cert.XattRefIdeal.main (F := Ideal))) ⟨m', fun _ => 0, g'⟩ (fun r => ∀ c : Dev Cert.XattRefIdeal.nD,
          r.2.mem ((c.tc : Thread Cert.XattRefIdeal.nD Cert.XattRefIdeal.τ).loc Cert.XattRefIdeal.main_v25) = v0 c
          ∧ r.2.mem ((c.tc : Thread Cert.XattRefIdeal.nD Cert.XattRefIdeal.τ).loc Cert.XattRefIdeal.main_arg0) = m' ((c.tc : Thread Cert.XattRefIdeal.nD Cert.XattRefIdeal.τ).loc Cert.XattRefIdeal.main_arg0)
          ∧ r.2.mem ((c.tc : Thread Cert.XattRefIdeal.nD Cert.XattRefIdeal.τ).loc Cert.XattRefIdeal.main_arg1) = m' ((c.tc : Thread Cert.XattRefIdeal.nD Cert.XattRefIdeal.τ).loc Cert.XattRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v16) = v3 c
          ∧ r.2.mem ((c.tc : Thread Cert.ProjRefIdeal.nD Cert.ProjRefIdeal.τ).loc Cert.ProjRefIdeal.main_v17) = v4 c
          ∧ r.2.mem ((c.tc : Thread Cert.ProjRefIdeal.nD Cert.ProjRefIdeal.τ).loc Cert.ProjRefIdeal.main_v18) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)) →
    ∃ (v0 : (c : Dev Cert.MemProjIdeal.nD) → Buf (Elt Ideal) ((c.tc : Thread Cert.MemProjIdeal.nD Cert.MemProjIdeal.τ).loc Cert.MemProjIdeal.main_v2)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v2) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v13) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v19_0)) (v1 : (c : Dev Cert.RopeIdeal.nD) → Buf (Elt Ideal) ((c.tc : Thread Cert.RopeIdeal.nD Cert.RopeIdeal.τ).loc Cert.RopeIdeal.main_v19_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19_0) = v0 c
          ∧ r.2.mem ((c.tc : Thread Cert.RopeIdeal.nD Cert.RopeIdeal.τ).loc Cert.RopeIdeal.main_v19_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v14) = v0 c
          ∧ r.2.mem ((c.tc : Thread Cert.RopeRefIdeal.nD Cert.RopeRefIdeal.τ).loc Cert.RopeRefIdeal.main_v16) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v44) = v0 c
          ∧ r.2.mem ((c.tc : Thread Cert.PrepRefIdeal.nD Cert.PrepRefIdeal.τ).loc Cert.PrepRefIdeal.main_v46) = v1 c
          ∧ r.2.mem ((c.tc : Thread Cert.PrepRefIdeal.nD Cert.PrepRefIdeal.τ).loc Cert.PrepRefIdeal.main_v48) = v2 c
          ∧ r.2.mem ((c.tc : Thread Cert.PrepRefIdeal.nD Cert.PrepRefIdeal.τ).loc Cert.PrepRefIdeal.main_v50) = v3 c
          ∧ r.2.mem ((c.tc : Thread Cert.PrepRefIdeal.nD Cert.PrepRefIdeal.τ).loc Cert.PrepRefIdeal.main_v51) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)
      ∧ m' ((c.tc : Thread Cert.RetRefIdeal.nD Cert.RetRefIdeal.τ).loc Cert.RetRefIdeal.main_arg5) = m ((c.tc : Thread Cert.RetIdeal.nD Cert.RetIdeal.τ).loc Cert.RetIdeal.main_arg5)
      ∧ m' ((c.tc : Thread Cert.RetRefIdeal.nD Cert.RetRefIdeal.τ).loc Cert.RetRefIdeal.main_arg6) = m ((c.tc : Thread Cert.RetIdeal.nD Cert.RetIdeal.τ).loc Cert.RetIdeal.main_arg6)
      ∧ m' ((c.tc : Thread Cert.RetRefIdeal.nD Cert.RetRefIdeal.τ).loc Cert.RetRefIdeal.main_arg7) = m ((c.tc : Thread Cert.RetIdeal.nD Cert.RetIdeal.τ).loc Cert.RetIdeal.main_arg7)) →
    ∃ (v0 : (c : Dev Cert.RetIdeal.nD) → Buf (Elt Ideal) ((c.tc : Thread Cert.RetIdeal.nD Cert.RetIdeal.τ).loc Cert.RetIdeal.main_v1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v1) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
          ∧ r.2.mem ((c.tc : Thread Cert.RetIdeal.nD Cert.RetIdeal.τ).loc Cert.RetIdeal.main_arg5) = m ((c.tc : Thread Cert.RetIdeal.nD Cert.RetIdeal.τ).loc Cert.RetIdeal.main_arg5)
          ∧ r.2.mem ((c.tc : Thread Cert.RetIdeal.nD Cert.RetIdeal.τ).loc Cert.RetIdeal.main_arg6) = m ((c.tc : Thread Cert.RetIdeal.nD Cert.RetIdeal.τ).loc Cert.RetIdeal.main_arg6)
          ∧ r.2.mem ((c.tc : Thread Cert.RetIdeal.nD Cert.RetIdeal.τ).loc Cert.RetIdeal.main_arg7) = m ((c.tc : Thread Cert.RetIdeal.nD Cert.RetIdeal.τ).loc Cert.RetIdeal.main_arg7))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v65) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4)
          ∧ r.2.mem ((c.tc : Thread Cert.RetRefIdeal.nD Cert.RetRefIdeal.τ).loc Cert.RetRefIdeal.main_arg5) = m' ((c.tc : Thread Cert.RetRefIdeal.nD Cert.RetRefIdeal.τ).loc Cert.RetRefIdeal.main_arg5)
          ∧ r.2.mem ((c.tc : Thread Cert.RetRefIdeal.nD Cert.RetRefIdeal.τ).loc Cert.RetRefIdeal.main_arg6) = m' ((c.tc : Thread Cert.RetRefIdeal.nD Cert.RetRefIdeal.τ).loc Cert.RetRefIdeal.main_arg6)
          ∧ r.2.mem ((c.tc : Thread Cert.RetRefIdeal.nD Cert.RetRefIdeal.τ).loc Cert.RetRefIdeal.main_arg7) = m' ((c.tc : Thread Cert.RetRefIdeal.nD Cert.RetRefIdeal.τ).loc Cert.RetRefIdeal.main_arg7))

def preserves_S5_S5Ideal : Prop :=
  True

def algebraic_S5Ideal_S5RefIdeal_pre_finite_inputs [hS5Ideal : Cert.S5Ideal.Facts] [hS5RefIdeal : Cert.S5RefIdeal.Facts] [hPre_finite_inputs : Cert.Pre_finite_inputs.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5RefIdeal.nD Cert.S5RefIdeal.τ Cert.S5RefIdeal.sig) → Buf (Elt Ideal) ℓ) (g' : Dev Cert.S5RefIdeal.nD → PrngReg), Pre_S5Ideal_finite_inputs m →
    (∀ c : Dev Cert.S5Ideal.nD,
      m' ((c.tc : Thread Cert.S5RefIdeal.nD Cert.S5RefIdeal.τ).loc Cert.S5RefIdeal.main_arg0) = m ((c.tc : Thread Cert.S5Ideal.nD Cert.S5Ideal.τ).loc Cert.S5Ideal.main_arg0)
      ∧ m' ((c.tc : Thread Cert.S5RefIdeal.nD Cert.S5RefIdeal.τ).loc Cert.S5RefIdeal.main_arg1) = m ((c.tc : Thread Cert.S5Ideal.nD Cert.S5Ideal.τ).loc Cert.S5Ideal.main_arg1)
      ∧ m' ((c.tc : Thread Cert.S5RefIdeal.nD Cert.S5RefIdeal.τ).loc Cert.S5RefIdeal.main_arg2) = m ((c.tc : Thread Cert.S5Ideal.nD Cert.S5Ideal.τ).loc Cert.S5Ideal.main_arg2)
      ∧ m' ((c.tc : Thread Cert.S5RefIdeal.nD Cert.S5RefIdeal.τ).loc Cert.S5RefIdeal.main_arg3) = m ((c.tc : Thread Cert.S5Ideal.nD Cert.S5Ideal.τ).loc Cert.S5Ideal.main_arg3)
      ∧ m' ((c.tc : Thread Cert.S5RefIdeal.nD Cert.S5RefIdeal.τ).loc Cert.S5RefIdeal.main_arg4) = m ((c.tc : Thread Cert.S5Ideal.nD Cert.S5Ideal.τ).loc Cert.S5Ideal.main_arg4)
      ∧ m' ((c.tc : Thread Cert.S5RefIdeal.nD Cert.S5RefIdeal.τ).loc Cert.S5RefIdeal.main_arg5) = m ((c.tc : Thread Cert.S5Ideal.nD Cert.S5Ideal.τ).loc Cert.S5Ideal.main_arg5)
      ∧ m' ((c.tc : Thread Cert.S5RefIdeal.nD Cert.S5RefIdeal.τ).loc Cert.S5RefIdeal.main_arg6) = m ((c.tc : Thread Cert.S5Ideal.nD Cert.S5Ideal.τ).loc Cert.S5Ideal.main_arg6)
      ∧ m' ((c.tc : Thread Cert.S5RefIdeal.nD Cert.S5RefIdeal.τ).loc Cert.S5RefIdeal.main_arg7) = m ((c.tc : Thread Cert.S5Ideal.nD Cert.S5Ideal.τ).loc Cert.S5Ideal.main_arg7)) →
    ∃ (v0 : (c : Dev Cert.S5Ideal.nD) → Buf (Elt Ideal) ((c.tc : Thread Cert.S5Ideal.nD Cert.S5Ideal.τ).loc Cert.S5Ideal.main_v108)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v108) = v0 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7))
      ∧ θ_run (Cert.S5RefIdeal.defs (F := Ideal)) (onTc (τ := Cert.S5RefIdeal.τ) (Cert.S5RefIdeal.main (F := Ideal))) ⟨m', fun _ => 0, g'⟩ (fun r => ∀ c : Dev Cert.S5RefIdeal.nD,
          r.2.mem ((c.tc : Thread Cert.S5RefIdeal.nD Cert.S5RefIdeal.τ).loc Cert.S5RefIdeal.main_v54) = v0 c
          ∧ r.2.mem ((c.tc : Thread Cert.S5RefIdeal.nD Cert.S5RefIdeal.τ).loc Cert.S5RefIdeal.main_arg0) = m' ((c.tc : Thread Cert.S5RefIdeal.nD Cert.S5RefIdeal.τ).loc Cert.S5RefIdeal.main_arg0)
          ∧ r.2.mem ((c.tc : Thread Cert.S5RefIdeal.nD Cert.S5RefIdeal.τ).loc Cert.S5RefIdeal.main_arg1) = m' ((c.tc : Thread Cert.S5RefIdeal.nD Cert.S5RefIdeal.τ).loc Cert.S5RefIdeal.main_arg1)
          ∧ r.2.mem ((c.tc : Thread Cert.S5RefIdeal.nD Cert.S5RefIdeal.τ).loc Cert.S5RefIdeal.main_arg2) = m' ((c.tc : Thread Cert.S5RefIdeal.nD Cert.S5RefIdeal.τ).loc Cert.S5RefIdeal.main_arg2)
          ∧ r.2.mem ((c.tc : Thread Cert.S5RefIdeal.nD Cert.S5RefIdeal.τ).loc Cert.S5RefIdeal.main_arg3) = m' ((c.tc : Thread Cert.S5RefIdeal.nD Cert.S5RefIdeal.τ).loc Cert.S5RefIdeal.main_arg3)
          ∧ r.2.mem ((c.tc : Thread Cert.S5RefIdeal.nD Cert.S5RefIdeal.τ).loc Cert.S5RefIdeal.main_arg4) = m' ((c.tc : Thread Cert.S5RefIdeal.nD Cert.S5RefIdeal.τ).loc Cert.S5RefIdeal.main_arg4)
          ∧ r.2.mem ((c.tc : Thread Cert.S5RefIdeal.nD Cert.S5RefIdeal.τ).loc Cert.S5RefIdeal.main_arg5) = m' ((c.tc : Thread Cert.S5RefIdeal.nD Cert.S5RefIdeal.τ).loc Cert.S5RefIdeal.main_arg5)
          ∧ r.2.mem ((c.tc : Thread Cert.S5RefIdeal.nD Cert.S5RefIdeal.τ).loc Cert.S5RefIdeal.main_arg6) = m' ((c.tc : Thread Cert.S5RefIdeal.nD Cert.S5RefIdeal.τ).loc Cert.S5RefIdeal.main_arg6)
          ∧ r.2.mem ((c.tc : Thread Cert.S5RefIdeal.nD Cert.S5RefIdeal.τ).loc Cert.S5RefIdeal.main_arg7) = m' ((c.tc : Thread Cert.S5RefIdeal.nD Cert.S5RefIdeal.τ).loc Cert.S5RefIdeal.main_arg7))

def Claim : Prop :=
  ∃ (hXatt : Cert.Xatt.Facts) (hXattIdeal : Cert.XattIdeal.Facts) (hXattRefIdeal : Cert.XattRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hMemProj : Cert.MemProj.Facts) (hMemProjIdeal : Cert.MemProjIdeal.Facts) (hMemProjRefIdeal : Cert.MemProjRefIdeal.Facts) (hRope : Cert.Rope.Facts) (hRopeIdeal : Cert.RopeIdeal.Facts) (hRopeRefIdeal : Cert.RopeRefIdeal.Facts) (hPrep : Cert.Prep.Facts) (hPrepIdeal : Cert.PrepIdeal.Facts) (hPrepRefIdeal : Cert.PrepRefIdeal.Facts) (hRet : Cert.Ret.Facts) (hRetIdeal : Cert.RetIdeal.Facts) (hRetRefIdeal : Cert.RetRefIdeal.Facts) (hS5 : Cert.S5.Facts) (hS5Ideal : Cert.S5Ideal.Facts) (hS5RefIdeal : Cert.S5RefIdeal.Facts) (hPre_finite_scores : Cert.Pre_finite_scores.Facts) (hPre_finite_inputs : Cert.Pre_finite_inputs.Facts),
    quiescent_Xatt (hXatt := hXatt)
    ∧ quiescent_XattIdeal (hXattIdeal := hXattIdeal)
    ∧ quiescent_XattIdeal_pre_finite_scores (hXattIdeal := hXattIdeal) (hPre_finite_scores := hPre_finite_scores)
    ∧ quiescent_XattRefIdeal (hXattRefIdeal := hXattRefIdeal)
    ∧ quiescent_XattRefIdeal_pre_finite_scores (hXattRefIdeal := hXattRefIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_Rope (hRope := hRope)
    ∧ quiescent_RopeIdeal (hRopeIdeal := hRopeIdeal)
    ∧ quiescent_RopeRefIdeal (hRopeRefIdeal := hRopeRefIdeal)
    ∧ quiescent_Prep (hPrep := hPrep)
    ∧ quiescent_PrepIdeal (hPrepIdeal := hPrepIdeal)
    ∧ quiescent_PrepRefIdeal (hPrepRefIdeal := hPrepRefIdeal)
    ∧ quiescent_Ret (hRet := hRet)
    ∧ quiescent_RetIdeal (hRetIdeal := hRetIdeal)
    ∧ quiescent_RetRefIdeal (hRetRefIdeal := hRetRefIdeal)
    ∧ quiescent_S5 (hS5 := hS5)
    ∧ quiescent_S5Ideal (hS5Ideal := hS5Ideal)
    ∧ quiescent_S5Ideal_pre_finite_inputs (hS5Ideal := hS5Ideal) (hPre_finite_inputs := hPre_finite_inputs)
    ∧ quiescent_S5RefIdeal (hS5RefIdeal := hS5RefIdeal)
    ∧ quiescent_S5RefIdeal_pre_finite_inputs (hS5RefIdeal := hS5RefIdeal) (hPre_finite_inputs := hPre_finite_inputs)
    ∧ preserves_Xatt_XattIdeal
    ∧ algebraic_XattIdeal_XattRefIdeal_pre_finite_scores (hXattIdeal := hXattIdeal) (hXattRefIdeal := hXattRefIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_MemProj_MemProjIdeal
    ∧ algebraic_MemProjIdeal_MemProjRefIdeal (hMemProjIdeal := hMemProjIdeal) (hMemProjRefIdeal := hMemProjRefIdeal)
    ∧ preserves_Rope_RopeIdeal
    ∧ algebraic_RopeIdeal_RopeRefIdeal (hRopeIdeal := hRopeIdeal) (hRopeRefIdeal := hRopeRefIdeal)
    ∧ preserves_Prep_PrepIdeal
    ∧ algebraic_PrepIdeal_PrepRefIdeal (hPrepIdeal := hPrepIdeal) (hPrepRefIdeal := hPrepRefIdeal)
    ∧ preserves_Ret_RetIdeal
    ∧ algebraic_RetIdeal_RetRefIdeal (hRetIdeal := hRetIdeal) (hRetRefIdeal := hRetRefIdeal)
    ∧ preserves_S5_S5Ideal
    ∧ algebraic_S5Ideal_S5RefIdeal_pre_finite_inputs (hS5Ideal := hS5Ideal) (hS5RefIdeal := hS5RefIdeal) (hPre_finite_inputs := hPre_finite_inputs)
-- ==== Pre_finite_inputs.lean ====
abbrev S8x4096x512 : Shape := ⟨3, ![8, 4096, 512]⟩
abbrev S16x64 : Shape := ⟨2, ![16, 64]⟩
abbrev S16 : Shape := ⟨1, ![16]⟩
abbrev S256x2048 : Shape := ⟨2, ![256, 2048]⟩
abbrev S2048x256 : Shape := ⟨2, ![2048, 256]⟩
abbrev S256 : Shape := ⟨1, ![256]⟩
abbrev S256x256 : Shape := ⟨2, ![256, 256]⟩
abbrev S8x4096x256 : Shape := ⟨3, ![8, 4096, 256]⟩
abbrev S8x4096x2048 : Shape := ⟨3, ![8, 4096, 2048]⟩
abbrev S_ : Shape := ⟨0, ![]⟩

class Facts : Prop where
  slices_S8x4096x512_S8x4096x256_0_0_0 : S8x4096x512.Slices ![0, 0, 0] S8x4096x256
  bcast_S_S8x4096x2048 : S_.BroadcastsInDim S8x4096x2048 (![] : Fin 0 → Fin S8x4096x2048.rank)
  bcast_S_S16x64 : S_.BroadcastsInDim S16x64 (![] : Fin 0 → Fin S16x64.rank)
  dot_S8x4096x256_S256x2048_S8x4096x2048_2_0_01_1_n_n_wf : DotDims.WF S8x4096x256 S256x2048 S8x4096x2048 [2] [0] [0, 1] [1] [] []

variable [Facts]

def dot_S8x4096x256_S256x2048_S8x4096x2048_2_0_01_1_n_n : DotDims S8x4096x256 S256x2048 S8x4096x2048 where
  lhsContracting := [2]
  rhsContracting := [0]
  lhsNonContracting := [0, 1]
  rhsNonContracting := [1]
  lhsBatch := []
  rhsBatch := []
  wf := dot_S8x4096x256_S256x2048_S8x4096x2048_2_0_01_1_n_n_wf
def fn {F : FTy → Type} [FloatOps F] (main_arg0 : FVec F S8x4096x512 .f32) (main_arg1 : FVec F S16x64 .f32) (main_arg2 : FVec F S16x64 .f32) (main_arg3 : FVec F S16 .f32) (main_arg4 : FVec F S256x2048 .f32) (main_arg5 : FVec F S2048x256 .f32) (main_arg6 : FVec F S256 .f32) (main_arg7 : FVec F S256x256 .f32) : IVec S8x4096x2048 1 × IVec S16x64 1 :=
  let main_v0 : FVec F S8x4096x256 .f32 := (extractStridedSlice S8x4096x256 ![0, 0, 0] · slices_S8x4096x512_S8x4096x256_0_0_0) main_arg0
  let main_v1 : FVec F S8x4096x2048 .f32 := (fun l r => Host.dotGeneral dot_S8x4096x256_S256x2048_S8x4096x2048_2_0_01_1_n_n none l r) main_v0 main_arg4
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  let main_v5 : FVec F S16x64 .f32 := Host.absf main_arg2
  let main_cst_0 : FVec F S_ .f32 := constant S_ .f32 0x7F800000#32
  let main_v6 : FVec F S16x64 .f32 := broadcastInDim S16x64 ![] bcast_S_S16x64 main_cst_0
  let main_v7 : IVec S16x64 1 := cmpf .olt main_v5 main_v6
  (main_v4, main_v7)
-- ==== Pre_finite_scores.lean ====
abbrev S8x4096x512 : Shape := ⟨3, ![8, 4096, 512]⟩
abbrev S8x256x512 : Shape := ⟨3, ![8, 256, 512]⟩
abbrev S8x4096x256 : Shape := ⟨3, ![8, 4096, 256]⟩
abbrev S8x256x256 : Shape := ⟨3, ![8, 256, 256]⟩
abbrev S8x4352x256 : Shape := ⟨3, ![8, 4352, 256]⟩
abbrev S_ : Shape := ⟨0, ![]⟩

class Facts : Prop where
  slices_S8x4096x512_S8x4096x256_0_0_0 : S8x4096x512.Slices ![0, 0, 0] S8x4096x256
  slices_S8x256x512_S8x256x256_0_0_0 : S8x256x512.Slices ![0, 0, 0] S8x256x256
  concatenates_S8x4096x256_S8x256x256_S8x4352x256_d1 : Shape.Concatenates [S8x4096x256, S8x256x256] S8x4352x256 1
  bcast_S_S8x4352x256 : S_.BroadcastsInDim S8x4352x256 (![] : Fin 0 → Fin S8x4352x256.rank)

variable [Facts]

def fn {F : FTy → Type} [FloatOps F] (main_arg0 : FVec F S8x4096x512 .f32) (main_arg1 : FVec F S8x256x512 .f32) : IVec S8x4352x256 1 :=
  let main_v0 : FVec F S8x4096x256 .f32 := (extractStridedSlice S8x4096x256 ![0, 0, 0] · slices_S8x4096x512_S8x4096x256_0_0_0) main_arg0
  let main_v1 : FVec F S8x256x256 .f32 := (extractStridedSlice S8x256x256 ![0, 0, 0] · slices_S8x256x512_S8x256x256_0_0_0) main_arg1
  let main_v2 : FVec F S8x4352x256 .f32 := (fun a b => concatenate S8x4352x256 1 [⟨S8x4096x256, a⟩, ⟨S8x256x256, b⟩] concatenates_S8x4096x256_S8x256x256_S8x4352x256_d1) main_v0 main_v1
  let main_v3 : FVec F S8x4352x256 .f32 := Host.absf main_v2
  let main_cst : FVec F S_ .f32 := constant S_ .f32 0x7F800000#32
  let main_v4 : FVec F S8x4352x256 .f32 := broadcastInDim S8x4352x256 ![] bcast_S_S8x4352x256 main_cst
  let main_v5 : IVec S8x4352x256 1 := cmpf .olt main_v3 main_v4
  main_v5
-- ==== Xatt.lean ====
abbrev S8x4096x512 : Shape := ⟨3, ![8, 4096, 512]⟩
abbrev S8x256x512 : Shape := ⟨3, ![8, 256, 512]⟩
abbrev S8x4096x256 : Shape := ⟨3, ![8, 4096, 256]⟩
abbrev S1x512x512 : Shape := ⟨3, ![1, 512, 512]⟩
abbrev S1x256x512 : Shape := ⟨3, ![1, 256, 512]⟩
abbrev S1x512x256 : Shape := ⟨3, ![1, 512, 256]⟩
abbrev S512x256 : Shape := ⟨2, ![512, 256]⟩
abbrev S512x512 : Shape := ⟨2, ![512, 512]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S8x256x512, .f32⟩
  | .hbm, ⟨2, _⟩ => ⟨S8x4096x256, .f32⟩
  | .local _ .vmem, ⟨0, _⟩ => ⟨S1x512x512, .f32⟩
  | .local _ .vmem, ⟨1, _⟩ => ⟨S1x512x512, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XattRefIdeal.lean ====
abbrev S8x4096x512 : Shape := ⟨3, ![8, 4096, 512]⟩
abbrev S8x256x512 : Shape := ⟨3, ![8, 256, 512]⟩
abbrev S8x4096x256 : Shape := ⟨3, ![8, 4096, 256]⟩
abbrev S8x4096x4x64 : Shape := ⟨4, ![8, 4096, 4, 64]⟩
abbrev S8x256x256 : Shape := ⟨3, ![8, 256, 256]⟩
abbrev S8x256x4x64 : Shape := ⟨4, ![8, 256, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256x512, .f32⟩
  | .hbm, ⟨2, _⟩ => ⟨S8x4096x256, .f32⟩
  | .hbm, ⟨3, _⟩ => ⟨S8x4096x256, .f32⟩
  | .hbm, ⟨4, _⟩ => ⟨S8x4096x4x64, .f32⟩
  | .hbm, ⟨5, _⟩ => ⟨S8x256x256, .f32⟩
  | .hbm, ⟨6, _⟩ => ⟨S8x256x256, .f32⟩
  | .hbm, ⟨7, _⟩ => ⟨S8x256x4x64, .f32⟩
  | .hbm, ⟨8, _⟩ => ⟨S8x256x4x64, .f32⟩
  | .hbm, ⟨9, _⟩ => ⟨S8x4x4096x256, .f32⟩
  | .hbm, ⟨10, _⟩ => ⟨S_, .f32⟩
  | .hbm, ⟨11, _⟩ => ⟨S8x4x4096x256, .f32⟩
  | .hbm, ⟨12, _⟩ => ⟨S8x4x4096x256, .f32⟩
  | .hbm, ⟨13, _⟩ => ⟨S_, .f32⟩
  | .hbm, ⟨14, _⟩ => ⟨S8x4x4096, .f32⟩
  | .hbm, ⟨15, _⟩ => ⟨S_, .f32⟩
  | .hbm, ⟨16, _⟩ => ⟨S8x4x4096, .f32⟩
  | .hbm, ⟨17, _⟩ => ⟨S8x4x4096, .f32⟩
  | .hbm, ⟨18, _⟩ => ⟨S8x4x4096x1, .f32⟩
  | .hbm, ⟨19, _⟩ => ⟨S8x4x4096x256, .f32⟩
  | .hbm, ⟨20, _⟩ => ⟨S8x4x4096x256, .f32⟩
  | .hbm, ⟨21, _⟩ => ⟨S8x4x4096x256, .f32⟩
  | .hbm, ⟨22, _⟩ => ⟨S_, .f32⟩
  | .hbm, ⟨23, _⟩ => ⟨S8x4x4096, .f32⟩
  | .hbm, ⟨24, _⟩ => ⟨S8x4x4096x1, .f32⟩
  | .hbm, ⟨25, _⟩ => ⟨S8x4x4096x256, .f32⟩
  | .hbm, ⟨26, _⟩ => ⟨S8x4x4096x256, .f32⟩
  | .hbm, ⟨27, _⟩ => ⟨S8x4x64x4096, .f32⟩
  | .hbm, ⟨28, _⟩ => ⟨S8x4096x4x64, .f32⟩
  | .hbm, ⟨29, _⟩ => ⟨S8x4096x256, .f32⟩
  | .hbm, ⟨30, _⟩ => ⟨S8x4096x256, .f32⟩
  | .hbm, ⟨31, _⟩ => ⟨S8x4096x256, .f32⟩
  | .hbm, ⟨32, _⟩ => ⟨S_, .f32⟩
  | .hbm, ⟨33, _⟩ => ⟨S8x4096x256, .f32⟩
  | .hbm, ⟨34, _⟩ => ⟨S8x4096x256, .f32⟩
  | .hbm, ⟨35, _⟩ => ⟨S_, .f32⟩
  | .hbm, ⟨36, _⟩ => ⟨S8x4096x256, .f32⟩
  | .hbm, ⟨37, _⟩ => ⟨S8x4096x256, .f32⟩
  | .hbm, ⟨38, _⟩ => ⟨S8x4096x256, .f32⟩
  | .hbm, ⟨39, _⟩ => ⟨S8x4096x256, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Merge.lean ====
abbrev S32768x1024 : Shape := ⟨2, ![32768, 1024]⟩
abbrev S1024 : Shape := ⟨1, ![1024]⟩
abbrev S1024x9668 : Shape := ⟨2, ![1024, 9668]⟩
abbrev S5x256x1024 : Shape := ⟨3, ![5, 256, 1024]⟩
abbrev S1024x1024 : Shape := ⟨2, ![1024, 1024]⟩
abbrev S32768x256 : Shape := ⟨2, ![32768, 256]⟩
abbrev S1024x5120 : Shape := ⟨2, ![1024, 5120]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 18
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x9668, .f32⟩
  | .hbm, ⟨4, _⟩ => ⟨S5x256x1024, .f32⟩
  | .hbm, ⟨5, _⟩ => ⟨S1024x1024, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S1024x5120, .f32⟩
  | .hbm, ⟨12, _⟩ => ⟨S1024x5120, .bf16⟩
  | .hbm, ⟨13, _⟩ => ⟨S5x256x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x5120, .bf16⟩
  | .local _ .vmem, ⟨5, _⟩ => ⟨S5x256x1024, .bf16⟩
  | .local _ .vmem, ⟨6, _⟩ => ⟨S1024x1024, .bf16⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x1024, .f32⟩
  | .local _ .vmem, ⟨18, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S32768x1024 : Shape := ⟨2, ![32768, 1024]⟩
abbrev S1024 : Shape := ⟨1, ![1024]⟩
abbrev S1024x9668 : Shape := ⟨2, ![1024, 9668]⟩
abbrev S5x256x1024 : Shape := ⟨3, ![5, 256, 1024]⟩
abbrev S1024x1024 : Shape := ⟨2, ![1024, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9668 : Shape := ⟨2, ![32768, 9668]⟩
abbrev S32768x5120 : Shape := ⟨2, ![32768, 5120]⟩
abbrev S32768x5x1024 : Shape := ⟨3, ![32768, 5, 1024]⟩
abbrev S32768x1x1024 : Shape := ⟨3, ![32768, 1, 1024]⟩
abbrev S1x256x1024 : Shape := ⟨3, ![1, 256, 1024]⟩
abbrev S256x1024 : Shape := ⟨2, ![256, 1024]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x9668, .f32⟩
  | .hbm, ⟨4, _⟩ => ⟨S5x256x1024, .f32⟩
  | .hbm, ⟨5, _⟩ => ⟨S1024x1024, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x9668, .f32⟩
  | .hbm, ⟨28, _⟩ => ⟨S32768x5120, .f32⟩
  | .hbm, ⟨29, _⟩ => ⟨S32768x5120, .f32⟩
  | .hbm, ⟨30, _⟩ => ⟨S32768x5120, .f32⟩
  | .hbm, ⟨31, _⟩ => ⟨S_, .f32⟩
  | .hbm, ⟨32, _⟩ => ⟨S32768x5120, .f32⟩
  | .hbm, ⟨33, _⟩ => ⟨S32768x5120, .f32⟩
  | .hbm, ⟨34, _⟩ => ⟨S_, .f32⟩
  | .hbm, ⟨35, _⟩ => ⟨S32768x5120, .f32⟩
  | .hbm, ⟨36, _⟩ => ⟨S32768x5120, .f32⟩
  | .hbm, ⟨37, _⟩ => ⟨S32768x5x1024, .f32⟩
  | .hbm, ⟨38, _⟩ => ⟨S32768x1x1024, .f32⟩
  | .hbm, ⟨39, _⟩ => ⟨S32768x1024, .f32⟩
  | .hbm, ⟨40, _⟩ => ⟨S1x256x1024, .f32⟩
  | .hbm, ⟨41, _⟩ => ⟨S256x1024, .f32⟩
  | .hbm, ⟨42, _⟩ => ⟨S32768x1024, .f32⟩
  | .hbm, ⟨43, _⟩ => ⟨S32768x1024, .f32⟩
  | .hbm, ⟨44, _⟩ => ⟨S32768x1x1024, .f32⟩
  | .hbm, ⟨45, _⟩ => ⟨S32768x1024, .f32⟩
  | .hbm, ⟨46, _⟩ => ⟨S1x256x1024, .f32⟩
  | .hbm, ⟨47, _⟩ => ⟨S256x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1x1024, .f32⟩
  | .hbm, ⟨52, _⟩ => ⟨S32768x1024, .f32⟩
  | .hbm, ⟨53, _⟩ => ⟨S1x256x1024, .f32⟩
  | .hbm, ⟨54, _⟩ => ⟨S256x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1x1024, .f32⟩
  | .hbm, ⟨59, _⟩ => ⟨S32768x1024, .f32⟩
  | .hbm, ⟨60, _⟩ => ⟨S1x256x1024, .f32⟩
  | .hbm, ⟨61, _⟩ => ⟨S256x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1x1024, .f32⟩
  | .hbm, ⟨66, _⟩ => ⟨S32768x1024, .f32⟩
  | .hbm, ⟨67, _⟩ => ⟨S1x256x1024, .f32⟩
  | .hbm, ⟨68, _⟩ => ⟨S256x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S32768x1, .f32⟩
  | .hbm, ⟨84, _⟩ => ⟨S32768x1024, .f32⟩
  | .hbm, ⟨85, _⟩ => ⟨S32768x1024, .f32⟩
  | .hbm, ⟨86, _⟩ => ⟨S1x1024, .f32⟩
  | .hbm, ⟨87, _⟩ => ⟨S32768x1024, .f32⟩
  | .hbm, ⟨88, _⟩ => ⟨S32768x1024, .f32⟩
  | .hbm, ⟨89, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x9668 : Shape := ⟨2, ![1024, 9668]⟩
abbrev S1024x1152 : Shape := ⟨2, ![1024, 1152]⟩
abbrev S1024x1024 : Shape := ⟨2, ![1024, 1024]⟩
abbrev S1024x256 : Shape := ⟨2, ![1024, 256]⟩
abbrev S1024x68 : Shape := ⟨2, ![1024, 68]⟩
abbrev S_ : Shape := ⟨0, ![]⟩
abbrev S1024x60 : Shape := ⟨2, ![1024, 60]⟩
abbrev S1024x2048 : Shape := ⟨2, ![1024, 2048]⟩
abbrev S1024x4608 : Shape := ⟨2, ![1024, 4608]⟩
abbrev S1x1024 : Shape := ⟨2, ![1, 1024]⟩
abbrev S32768x1152 : Shape := ⟨2, ![32768, 1152]⟩
abbrev S32768x1280 : Shape := ⟨2, ![32768, 1280]⟩
abbrev S32768x128 : Shape := ⟨2, ![32768, 128]⟩
abbrev S32768x512 : Shape := ⟨2, ![32768, 512]⟩
abbrev S256x1024 : Shape := ⟨2, ![256, 1024]⟩
abbrev S256x1152 : Shape := ⟨2, ![256, 1152]⟩
abbrev S256x1280 : Shape := ⟨2, ![256, 1280]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1024x1280 : Shape := ⟨2, ![1024, 1280]⟩
abbrev S1024x128 : Shape := ⟨2, ![1024, 128]⟩
abbrev S1024x512 : Shape := ⟨2, ![1024, 512]⟩

abbrev nBuf : Space → Nat
  | .hbm => 19
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9668, .f32⟩
  | .hbm, ⟨3, _⟩ => ⟨S1024x1152, .f32⟩
  | .hbm, ⟨4, _⟩ => ⟨S1024x1024, .f32⟩
  | .hbm, ⟨5, _⟩ => ⟨S1024x256, .f32⟩
  | .hbm, ⟨6, _⟩ => ⟨S1024x68, .f32⟩
  | .hbm, ⟨7, _⟩ => ⟨S_, .f32⟩
  | .hbm, ⟨8, _⟩ => ⟨S1024x60, .f32⟩
  | .hbm, ⟨9, _⟩ => ⟨S1024x2048, .f32⟩
  | .hbm, ⟨10, _⟩ => ⟨S1024x4608, .f32⟩
  | .hbm, ⟨11, _⟩ => ⟨S1024x4608, .bf16⟩
  | .hbm, ⟨12, _⟩ => ⟨S1x1024, .f32⟩
  | .hbm, ⟨13, _⟩ => ⟨S32768x1152, .f32⟩
  | .hbm, ⟨14, _⟩ => ⟨S32768x1280, .f32⟩
  | .hbm, ⟨15, _⟩ => ⟨S32768x128, .f32⟩
  | .hbm, ⟨16, _⟩ => ⟨S32768x1024, .f32⟩
  | .hbm, ⟨17, _⟩ => ⟨S32768x512, .f32⟩
  | .hbm, ⟨18, _⟩ => ⟨S32768x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S256x1152, .f32⟩
  | .local _ .vmem, ⟨5, _⟩ => ⟨S256x1152, .f32⟩
  | .local _ .vmem, ⟨6, _⟩ => ⟨S256x1280, .f32⟩
  | .local _ .vmem, ⟨7, _⟩ => ⟨S256x1280, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S32768x1024 : Shape := ⟨2, ![32768, 1024]⟩
abbrev S1024 : Shape := ⟨1, ![1024]⟩
abbrev S1024x9668 : Shape := ⟨2, ![1024, 9668]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9668 : Shape := ⟨2, ![32768, 9668]⟩
abbrev S32768x1152 : Shape := ⟨2, ![32768, 1152]⟩
abbrev S32768x1348 : Shape := ⟨2, ![32768, 1348]⟩
abbrev S32768x512 : Shape := ⟨2, ![32768, 512]⟩
abbrev S32768x68 : Shape := ⟨2, ![32768, 68]⟩
abbrev S32768x256 : Shape := ⟨2, ![32768, 256]⟩
abbrev S32768x1280 : Shape := ⟨2, ![32768, 1280]⟩
abbrev S32768x128 : Shape := ⟨2, ![32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9668, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x9668, .f32⟩
  | .hbm, ⟨20, _⟩ => ⟨S32768x1152, .f32⟩
  | .hbm, ⟨21, _⟩ => ⟨S32768x1348, .f32⟩
  | .hbm, ⟨22, _⟩ => ⟨S32768x1024, .f32⟩
  | .hbm, ⟨23, _⟩ => ⟨S32768x512, .f32⟩
  | .hbm, ⟨24, _⟩ => ⟨S32768x512, .f32⟩
  | .hbm, ⟨25, _⟩ => ⟨S32768x1024, .f32⟩
  | .hbm, ⟨26, _⟩ => ⟨S32768x68, .f32⟩
  | .hbm, ⟨27, _⟩ => ⟨S32768x256, .f32⟩
  | .hbm, ⟨28, _⟩ => ⟨S32768x1280, .f32⟩
  | .hbm, ⟨29, _⟩ => ⟨S_, .i32⟩
  | .hbm, ⟨30, _⟩ => ⟨S_, .f32⟩
  | .hbm, ⟨31, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MemProj.lean ====
abbrev S2048x1024 : Shape := ⟨2, ![2048, 1024]⟩
abbrev S1024 : Shape := ⟨1, ![1024]⟩
abbrev S1024x512 : Shape := ⟨2, ![1024, 512]⟩
abbrev S1x1024 : Shape := ⟨2, ![1, 1024]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S2048x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemProjRefIdeal.lean ====
abbrev S2048x1024 : Shape := ⟨2, ![2048, 1024]⟩
abbrev S1024 : Shape := ⟨1, ![1024]⟩
abbrev S1024x512 : Shape := ⟨2, ![1024, 512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Rope.lean ====
abbrev S8x4096 : Shape := ⟨2, ![8, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S8x4096x1 : Shape := ⟨3, ![8, 4096, 1]⟩
abbrev S8x4096x256 : Shape := ⟨3, ![8, 4096, 256]⟩
abbrev S1x512x1 : Shape := ⟨3, ![1, 512, 1]⟩
abbrev S1x512x256 : Shape := ⟨3, ![1, 512, 256]⟩
abbrev S512x1 : Shape := ⟨2, ![512, 1]⟩
abbrev S512x128 : Shape := ⟨2, ![512, 128]⟩
abbrev S512x256 : Shape := ⟨2, ![512, 256]⟩

abbrev nBuf : Space → Nat
  | .hbm => 26
  | .vmem => 8
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S8x4096x1, .i32⟩
  | .hbm, ⟨23, _⟩ => ⟨S1x128, .f32⟩
  | .hbm, ⟨24, _⟩ => ⟨S8x4096x256, .f32⟩
  | .hbm, ⟨25, _⟩ => ⟨S8x4096x256, .f32⟩
  | .local _ .vmem, ⟨0, _⟩ => ⟨S1x512x1, .i32⟩
  | .local _ .vmem, ⟨1, _⟩ => ⟨S1x512x1, .i32⟩
  | .local _ .vmem, ⟨2, _⟩ => ⟨S1x128, .f32⟩
  | .local _ .vmem, ⟨3, _⟩ => ⟨S1x128, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeRefIdeal.lean ====
abbrev S8x4096 : Shape := ⟨2, ![8, 4096]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S8x4096x256 : Shape := ⟨3, ![8, 4096, 256]⟩

abbrev nBuf : Space → Nat
  | .hbm => 20
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8x4096, .f32⟩
  | .hbm, ⟨10, _⟩ => ⟨S8x4096x1, .f32⟩
  | .hbm, ⟨11, _⟩ => ⟨S1x1x32, .f32⟩
  | .hbm, ⟨12, _⟩ => ⟨S8x4096x32, .f32⟩
  | .hbm, ⟨13, _⟩ => ⟨S8x4096x32, .f32⟩
  | .hbm, ⟨14, _⟩ => ⟨S8x4096x32, .f32⟩
  | .hbm, ⟨15, _⟩ => ⟨S8x4096x32, .f32⟩
  | .hbm, ⟨16, _⟩ => ⟨S8x4096x32, .f32⟩
  | .hbm, ⟨17, _⟩ => ⟨S8x4096x256, .f32⟩
  | .hbm, ⟨18, _⟩ => ⟨S8x4096x32, .f32⟩
  | .hbm, ⟨19, _⟩ => ⟨S8x4096x256, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Prep.lean ====
abbrev S8x4096x1280 : Shape := ⟨3, ![8, 4096, 1280]⟩
abbrev S8x4096x128 : Shape := ⟨3, ![8, 4096, 128]⟩
abbrev S8x4096x256 : Shape := ⟨3, ![8, 4096, 256]⟩
abbrev S8x4x4096x64 : Shape := ⟨4, ![8, 4, 4096, 64]⟩
abbrev S8x4096x64 : Shape := ⟨3, ![8, 4096, 64]⟩
abbrev S1x512x1024 : Shape := ⟨3, ![1, 512, 1024]⟩
abbrev S1x512x128 : Shape := ⟨3, ![1, 512, 128]⟩
abbrev S1x512x256 : Shape := ⟨3, ![1, 512, 256]⟩
abbrev S1x4x512x64 : Shape := ⟨4, ![1, 4, 512, 64]⟩
abbrev S1x512x64 : Shape := ⟨3, ![1, 512, 64]⟩
abbrev S512x1024 : Shape := ⟨2, ![512, 1024]⟩
abbrev S512x256 : Shape := ⟨2, ![512, 256]⟩
abbrev S512x128 : Shape := ⟨2, ![512, 128]⟩
abbrev S512x64 : Shape := ⟨2, ![512, 64]⟩
abbrev S1x1x512x64 : Shape := ⟨4, ![1, 1, 512, 64]⟩

abbrev nBuf : Space → Nat
  | .hbm => 9
  | .vmem => 18
  | .smem => 0
  | _ => 0

abbrev bufTy : (tb : Table) → Fin (tcTables nBuf tb) → BufTy
  | .hbm, ⟨0, _⟩ => ⟨S8x4096x1280, .f32⟩
  | .hbm, ⟨1, _⟩ => ⟨S8x4096x128, .f32⟩
  | .hbm, ⟨2, _⟩ => ⟨S8x4096x256, .f32⟩
  | .hbm, ⟨3, _⟩ => ⟨S8x4096x256, .f32⟩
  | .hbm, ⟨4, _⟩ => ⟨S8x4x4096x64, .bf16⟩
  | .hbm, ⟨5, _⟩ => ⟨S8x4x4096x64, .bf16⟩
  | .hbm, ⟨6, _⟩ => ⟨S8x4x4096x64, .bf16⟩
  | .hbm, ⟨7, _⟩ => ⟨S8x4x4096x64, .bf16⟩
  | .hbm, ⟨8, _⟩ => ⟨S8x4096x64, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x4x512x64, .bf16⟩
  | .local _ .vmem, ⟨9, _⟩ => ⟨S1x4x512x64, .bf16⟩
  | .local _ .vmem, ⟨10, _⟩ => ⟨S1x4x512x64, .bf16⟩
  | .local _ .vmem, ⟨11, _⟩ => ⟨S1x4x512x64, .bf16⟩
  | .local _ .vmem, ⟨12, _⟩ => ⟨S1x4x512x64, .bf16⟩
  | .local _ .vmem, ⟨13, _⟩ => ⟨S1x4x512x64, .bf16⟩
  | .local _ .vmem, ⟨14, _⟩ => ⟨S1x4x512x64, .bf16⟩
  | .local _ .vmem, ⟨15, _⟩ => ⟨S1x4x512x64, .bf16⟩
  | .local _ .vmem, ⟨16, _⟩ => ⟨S1x512x64, .bf16⟩
  | .local _ .vmem, ⟨17, _⟩ => ⟨S1x512x64, .bf16⟩
  | _, _ => ⟨S8x4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PrepRefIdeal.lean ====
abbrev S8x4096x1280 : Shape := ⟨3, ![8, 4096, 1280]⟩
abbrev S8x4096x128 : Shape := ⟨3, ![8, 4096, 128]⟩
abbrev S8x4096x256 : Shape := ⟨3, ![8, 4096, 256]⟩
abbrev S8x4096x4x64 : Shape := ⟨4, ![8, 4096, 4, 64]⟩
abbrev S8x4096x4x32 : Shape := ⟨4, ![8, 4096, 4, 32]⟩
abbrev S_ : Shape := ⟨0, ![]⟩
abbrev S8x4096x64 : Shape := ⟨3, ![8, 4096, 64]⟩
abbrev S8x4096x1x64 : Shape := ⟨4, ![8, 4096, 1, 64]⟩
abbrev S8x4096x32 : Shape := ⟨3, ![8, 4096, 32]⟩
abbrev S8x4x4096x64 : Shape := ⟨4, ![8, 4, 4096, 64]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1280, .f32⟩
  | .hbm, ⟨1, _⟩ => ⟨S8x4096x128, .f32⟩
  | .hbm, ⟨2, _⟩ => ⟨S8x4096x256, .f32⟩
  | .hbm, ⟨3, _⟩ => ⟨S8x4096x256, .f32⟩
  | .hbm, ⟨4, _⟩ => ⟨S8x4096x4x64, .f32⟩
  | .hbm, ⟨5, _⟩ => ⟨S8x4096x4x64, .f32⟩
  | .hbm, ⟨6, _⟩ => ⟨S8x4096x256, .f32⟩
  | .hbm, ⟨7, _⟩ => ⟨S8x4096x4x64, .f32⟩
  | .hbm, ⟨8, _⟩ => ⟨S8x4096x256, .f32⟩
  | .hbm, ⟨9, _⟩ => ⟨S8x4096x4x64, .f32⟩
  | .hbm, ⟨10, _⟩ => ⟨S8x4096x256, .f32⟩
  | .hbm, ⟨11, _⟩ => ⟨S8x4096x4x64, .f32⟩
  | .hbm, ⟨12, _⟩ => ⟨S8x4096x256, .f32⟩
  | .hbm, ⟨13, _⟩ => ⟨S8x4096x4x64, .f32⟩
  | .hbm, ⟨14, _⟩ => ⟨S8x4096x4x32, .f32⟩
  | .hbm, ⟨15, _⟩ => ⟨S8x4096x4x32, .f32⟩
  | .hbm, ⟨16, _⟩ => ⟨S8x4096x4x64, .f32⟩
  | .hbm, ⟨17, _⟩ => ⟨S8x4096x4x64, .f32⟩
  | .hbm, ⟨18, _⟩ => ⟨S8x4096x4x64, .f32⟩
  | .hbm, ⟨19, _⟩ => ⟨S8x4096x4x64, .f32⟩
  | .hbm, ⟨20, _⟩ => ⟨S_, .f32⟩
  | .hbm, ⟨21, _⟩ => ⟨S8x4096x4x64, .f32⟩
  | .hbm, ⟨22, _⟩ => ⟨S8x4096x4x64, .f32⟩
  | .hbm, ⟨23, _⟩ => ⟨S8x4096x4x32, .f32⟩
  | .hbm, ⟨24, _⟩ => ⟨S8x4096x4x32, .f32⟩
  | .hbm, ⟨25, _⟩ => ⟨S8x4096x4x64, .f32⟩
  | .hbm, ⟨26, _⟩ => ⟨S8x4096x4x64, .f32⟩
  | .hbm, ⟨27, _⟩ => ⟨S8x4096x4x64, .f32⟩
  | .hbm, ⟨28, _⟩ => ⟨S8x4096x4x64, .f32⟩
  | .hbm, ⟨29, _⟩ => ⟨S8x4096x4x32, .f32⟩
  | .hbm, ⟨30, _⟩ => ⟨S8x4096x4x32, .f32⟩
  | .hbm, ⟨31, _⟩ => ⟨S8x4096x4x64, .f32⟩
  | .hbm, ⟨32, _⟩ => ⟨S8x4096x4x64, .f32⟩
  | .hbm, ⟨33, _⟩ => ⟨S8x4096x4x64, .f32⟩
  | .hbm, ⟨34, _⟩ => ⟨S8x4096x4x64, .f32⟩
  | .hbm, ⟨35, _⟩ => ⟨S_, .f32⟩
  | .hbm, ⟨36, _⟩ => ⟨S8x4096x4x64, .f32⟩
  | .hbm, ⟨37, _⟩ => ⟨S8x4096x4x64, .f32⟩
  | .hbm, ⟨38, _⟩ => ⟨S8x4096x64, .f32⟩
  | .hbm, ⟨39, _⟩ => ⟨S8x4096x1x64, .f32⟩
  | .hbm, ⟨40, _⟩ => ⟨S8x4096x64, .f32⟩
  | .hbm, ⟨41, _⟩ => ⟨S8x4096x1x64, .f32⟩
  | .hbm, ⟨42, _⟩ => ⟨S8x4096x64, .f32⟩
  | .hbm, ⟨43, _⟩ => ⟨S8x4096x32, .f32⟩
  | .hbm, ⟨44, _⟩ => ⟨S8x4096x32, .f32⟩
  | .hbm, ⟨45, _⟩ => ⟨S8x4096x64, .f32⟩
  | .hbm, ⟨46, _⟩ => ⟨S8x4096x64, .f32⟩
  | .hbm, ⟨47, _⟩ => ⟨S8x4096x64, .f32⟩
  | .hbm, ⟨48, _⟩ => ⟨S8x4096x64, .f32⟩
  | .hbm, ⟨49, _⟩ => ⟨S8x4x4096x64, .f32⟩
  | .hbm, ⟨50, _⟩ => ⟨S8x4x4096x64, .bf16⟩
  | .hbm, ⟨51, _⟩ => ⟨S8x4x4096x64, .f32⟩
  | .hbm, ⟨52, _⟩ => ⟨S8x4x4096x64, .bf16⟩
  | .hbm, ⟨53, _⟩ => ⟨S8x4x4096x64, .f32⟩
  | .hbm, ⟨54, _⟩ => ⟨S8x4x4096x64, .bf16⟩
  | .hbm, ⟨55, _⟩ => ⟨S8x4x4096x64, .f32⟩
  | .hbm, ⟨56, _⟩ => ⟨S8x4x4096x64, .bf16⟩
  | .hbm, ⟨57, _⟩ => ⟨S8x4096x64, .bf16⟩
  | _, _ => ⟨S8x4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Ret.lean ====
abbrev S8x4096x1024 : Shape := ⟨3, ![8, 4096, 1024]⟩
abbrev S8x4096x256 : Shape := ⟨3, ![8, 4096, 256]⟩
abbrev S4x256x256 : Shape := ⟨3, ![4, 256, 256]⟩
abbrev S256x256 : Shape := ⟨2, ![256, 256]⟩
abbrev S1x256 : Shape := ⟨2, ![1, 256]⟩
abbrev S256 : Shape := ⟨1, ![256]⟩
abbrev S1x256x1024 : Shape := ⟨3, ![1, 256, 1024]⟩
abbrev S1x256x256 : Shape := ⟨3, ![1, 256, 256]⟩
abbrev S4x64x64 : Shape := ⟨3, ![4, 64, 64]⟩
abbrev S256x1024 : Shape := ⟨2, ![256, 1024]⟩
abbrev S256x64 : Shape := ⟨2, ![256, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 10
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S4x256x256, .f32⟩
  | .hbm, ⟨4, _⟩ => ⟨S256x256, .f32⟩
  | .hbm, ⟨5, _⟩ => ⟨S256x256, .f32⟩
  | .hbm, ⟨6, _⟩ => ⟨S1x256, .f32⟩
  | .hbm, ⟨7, _⟩ => ⟨S256, .f32⟩
  | .hbm, ⟨8, _⟩ => ⟨S1x256, .f32⟩
  | .hbm, ⟨9, _⟩ => ⟨S8x4096x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S4x256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256x256, .f32⟩
  | .local _ .vmem, ⟨12, _⟩ => ⟨S1x256x256, .f32⟩
  | .local _ .vmem, ⟨13, _⟩ => ⟨S4x64x64, .f32⟩
  | .local _ .vmem, ⟨14, _⟩ => ⟨S256x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetRefIdeal.lean ====
abbrev S8x4096x1024 : Shape := ⟨3, ![8, 4096, 1024]⟩
abbrev S8x4096x256 : Shape := ⟨3, ![8, 4096, 256]⟩
abbrev S4x256x256 : Shape := ⟨3, ![4, 256, 256]⟩
abbrev S256x256 : Shape := ⟨2, ![256, 256]⟩
abbrev S1x256 : Shape := ⟨2, ![1, 256]⟩
abbrev S256 : Shape := ⟨1, ![256]⟩
abbrev S8x4096x4x64 : Shape := ⟨4, ![8, 4096, 4, 64]⟩
abbrev S8x4096x4x32 : Shape := ⟨4, ![8, 4096, 4, 32]⟩
abbrev S_ : Shape := ⟨0, ![]⟩
abbrev S256x4x64 : Shape := ⟨3, ![256, 4, 64]⟩
abbrev S4x256x64 : Shape := ⟨3, ![4, 256, 64]⟩
abbrev S1x4x64 : Shape := ⟨3, ![1, 4, 64]⟩
abbrev S4x1x64 : Shape := ⟨3, ![4, 1, 64]⟩
abbrev S8x4x64x64 : Shape := ⟨4, ![8, 4, 64, 64]⟩
abbrev S8x16x256x4x64 : Shape := ⟨5, ![8, 16, 256, 4, 64]⟩
abbrev S16x8x4x256x64 : Shape := ⟨5, ![16, 8, 4, 256, 64]⟩
abbrev S1x8x4x256x64 : Shape := ⟨5, ![1, 8, 4, 256, 64]⟩
abbrev S8x4x256x64 : Shape := ⟨4, ![8, 4, 256, 64]⟩
abbrev S8x4x256x256 : Shape := ⟨4, ![8, 4, 256, 256]⟩
abbrev S1x4x256x256 : Shape := ⟨4, ![1, 4, 256, 256]⟩
abbrev S1x4x256x64 : Shape := ⟨4, ![1, 4, 256, 64]⟩
abbrev S1x4x1x64 : Shape := ⟨4, ![1, 4, 1, 64]⟩
abbrev S8x4096x4 : Shape := ⟨3, ![8, 4096, 4]⟩
abbrev S8x4096x4x1 : Shape := ⟨4, ![8, 4096, 4, 1]⟩
abbrev S1x1x256 : Shape := ⟨3, ![1, 1, 256]⟩

abbrev nBuf : Space → Nat
  | .hbm => 146
  | .vmem => 0
  | .smem => 0
  | _ => 0

abbrev hbmTy0_0 (i : Nat) : BufTy := match i % 128 with
  | 0 => ⟨S8x4096x1024, .f32⟩
  | 1 => ⟨S8x4096x256, .f32⟩
  | 2 => ⟨S8x4096x256, .f32⟩
  | 3 => ⟨S4x256x256, .f32⟩
  | 4 => ⟨S256x256, .f32⟩
  | 5 => ⟨S256x256, .f32⟩
  | 6 => ⟨S1x256, .f32⟩
  | 7 => ⟨S256, .f32⟩
  | 8 => ⟨S8x4096x256, .f32⟩
  | 9 => ⟨S8x4096x256, .f32⟩
  | 10 => ⟨S8x4096x256, .f32⟩
  | 11 => ⟨S8x4096x4x64, .f32⟩
  | 12 => ⟨S8x4096x4x64, .f32⟩
  | 13 => ⟨S8x4096x4x64, .f32⟩
  | 14 => ⟨S8x4096x4x32, .f32⟩
  | 15 => ⟨S8x4096x4x32, .f32⟩
  | 16 => ⟨S8x4096x4x64, .f32⟩
  | 17 => ⟨S8x4096x4x64, .f32⟩
  | 18 => ⟨S8x4096x4x64, .f32⟩
  | 19 => ⟨S8x4096x4x64, .f32⟩
  | 20 => ⟨S8x4096x4x64, .f32⟩
  | 21 => ⟨S8x4096x4x64, .f32⟩
  | 22 => ⟨S8x4096x4x64, .f32⟩
  | 23 => ⟨S8x4096x4x32, .f32⟩
  | 24 => ⟨S8x4096x4x32, .f32⟩
  | 25 => ⟨S8x4096x4x64, .f32⟩
  | 26 => ⟨S8x4096x4x64, .f32⟩
  | 27 => ⟨S8x4096x4x64, .f32⟩
  | 28 => ⟨S8x4096x4x64, .f32⟩
  | 29 => ⟨S_, .f32⟩
  | 30 => ⟨S8x4096x4x64, .f32⟩
  | 31 => ⟨S8x4096x4x64, .f32⟩
  | 32 => ⟨S256x4x64, .f32⟩
  | 33 => ⟨S4x256x64, .f32⟩
  | 34 => ⟨S256x4x64, .f32⟩
  | 35 => ⟨S4x256x64, .f32⟩
  | 36 => ⟨S1x4x64, .f32⟩
  | 37 => ⟨S4x1x64, .f32⟩
  | 38 => ⟨S_, .f32⟩
  | 39 => ⟨S8x4x64x64, .f32⟩
  | 40 => ⟨S8x16x256x4x64, .f32⟩
  | 41 => ⟨S16x8x4x256x64, .f32⟩
  | 42 => ⟨S8x16x256x4x64, .f32⟩
  | 43 => ⟨S16x8x4x256x64, .f32⟩
  | 44 => ⟨S8x4096x4x64, .f32⟩
  | 45 => ⟨S8x16x256x4x64, .f32⟩
  | 46 => ⟨S16x8x4x256x64, .f32⟩
  | 47 => ⟨S_, .f32⟩
  | 48 => ⟨S16x8x4x256x64, .f32⟩
  | 49 => ⟨S_, .i32⟩
  | 50 => ⟨S16x8x4x256x64, .f32⟩
  | 51 => ⟨S16x8x4x256x64, .f32⟩
  | 52 => ⟨S16x8x4x256x64, .f32⟩
  | 53 => ⟨S4x256x256, .f32⟩
  | 54 => ⟨S4x256x64, .f32⟩
  | 55 => ⟨S4x1x64, .f32⟩
  | 56 => ⟨S4x256x64, .f32⟩
  | 57 => ⟨S_, .i32⟩
  | 58 => ⟨S8x4x64x64, .f32⟩
  | 59 => ⟨S16x8x4x256x64, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1x8x4x256x64, .f32⟩
  | 67 => ⟨S8x4x256x64, .f32⟩
  | 68 => ⟨S_, .i32⟩
  | 69 => ⟨S_, .i32⟩
  | 70 => ⟨S_, .i32⟩
  | 71 => ⟨S_, .i32⟩
  | 72 => ⟨S1x8x4x256x64, .f32⟩
  | 73 => ⟨S8x4x256x64, .f32⟩
  | 74 => ⟨S_, .i32⟩
  | 75 => ⟨S_, .i32⟩
  | 76 => ⟨S_, .i32⟩
  | 77 => ⟨S_, .i32⟩
  | 78 => ⟨S1x8x4x256x64, .f32⟩
  | 79 => ⟨S8x4x256x64, .f32⟩
  | 80 => ⟨S8x4x256x256, .f32⟩
  | 81 => ⟨S1x4x256x256, .f32⟩
  | 82 => ⟨S8x4x256x256, .f32⟩
  | 83 => ⟨S8x4x256x256, .f32⟩
  | 84 => ⟨S8x4x256x64, .f32⟩
  | 85 => ⟨S8x4x256x64, .f32⟩
  | 86 => ⟨S1x4x256x64, .f32⟩
  | 87 => ⟨S8x4x256x64, .f32⟩
  | 88 => ⟨S8x4x256x64, .f32⟩
  | 89 => ⟨S8x4x256x64, .f32⟩
  | 90 => ⟨S1x4x1x64, .f32⟩
  | 91 => ⟨S8x4x64x64, .f32⟩
  | 92 => ⟨S8x4x64x64, .f32⟩
  | 93 => ⟨S1x4x256x64, .f32⟩
  | 94 => ⟨S8x4x256x64, .f32⟩
  | 95 => ⟨S8x4x256x64, .f32⟩
  | 96 => ⟨S8x4x64x64, .f32⟩
  | 97 => ⟨S8x4x64x64, .f32⟩
  | 98 => ⟨S1x8x4x256x64, .f32⟩
  | 99 => ⟨S_, .i32⟩
  | 100 => ⟨S_, .i32⟩
  | 101 => ⟨S_, .i32⟩
  | 102 => ⟨S_, .i32⟩
  | 103 => ⟨S16x8x4x256x64, .f32⟩
  | 104 => ⟨S_, .i32⟩
  | 105 => ⟨S_, .i32⟩
  | 106 => ⟨S8x16x256x4x64, .f32⟩
  | 107 => ⟨S8x4096x4x64, .f32⟩
  | 108 => ⟨S_, .f32⟩
  | 109 => ⟨S8x4096x4, .f32⟩
  | 110 => ⟨S8x4096x4x1, .f32⟩
  | 111 => ⟨S_, .f32⟩
  | 112 => ⟨S8x4096x4x1, .f32⟩
  | 113 => ⟨S8x4096x4x1, .f32⟩
  | 114 => ⟨S8x4096x4x64, .f32⟩
  | 115 => ⟨S8x4096x4x64, .f32⟩
  | 116 => ⟨S8x4096x4x64, .f32⟩
  | 117 => ⟨S_, .f32⟩
  | 118 => ⟨S8x4096x4, .f32⟩
  | 119 => ⟨S8x4096x4x1, .f32⟩
  | 120 => ⟨S_, .f32⟩
  | 121 => ⟨S8x4096x4x1, .f32⟩
  | 122 => ⟨S8x4096x4x1, .f32⟩
  | 123 => ⟨S8x4096x4x64, .f32⟩
  | 124 => ⟨S8x4096x4x64, .f32⟩
  | 125 => ⟨S_, .f32⟩
  | 126 => ⟨S8x4096x4x1, .f32⟩
  | 127 => ⟨S8x4096x4x1, .f32⟩
  | _ => ⟨S8x4096x1024, .f32⟩

abbrev hbmTy0_1 (i : Nat) : BufTy := match i % 128 with
  | 0 => ⟨S8x4096x4x1, .f32⟩
  | 1 => ⟨S8x4096x4x64, .f32⟩
  | 2 => ⟨S8x4096x4x64, .f32⟩
  | 3 => ⟨S8x4096x256, .f32⟩
  | 4 => ⟨S1x1x256, .f32⟩
  | 5 => ⟨S8x4096x256, .f32⟩
  | 6 => ⟨S8x4096x256, .f32⟩
  | 7 => ⟨S8x4096x256, .f32⟩
  | 8 => ⟨S8x4096x256, .f32⟩
  | 9 => ⟨S8x4096x256, .f32⟩
  | 10 => ⟨S_, .f32⟩
  | 11 => ⟨S8x4096x256, .f32⟩
  | 12 => ⟨S8x4096x256, .f32⟩
  | 13 => ⟨S_, .f32⟩
  | 14 => ⟨S8x4096x256, .f32⟩
  | 15 => ⟨S8x4096x256, .f32⟩
  | 16 => ⟨S8x4096x256, .f32⟩
  | 17 => ⟨S8x4096x256, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_c : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev main_v38_5 : Ref sig .tc := ⟨.hbm, 55, rfl⟩
abbrev main_v38_6 : Ref sig .tc := ⟨.hbm, 56, rfl⟩
abbrev main_v38_7 : Ref sig .tc := ⟨.hbm, 57, rfl⟩
abbrev main_v38_8 : Ref sig .tc := ⟨.hbm, 58, rfl⟩
abbrev main_v38_9 : Ref sig .tc := ⟨.hbm, 59, rfl⟩
abbrev main_while0c_c_16 : Ref sig .tc := ⟨.hbm, 60, rfl⟩
abbrev main_while0c_v66 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_c_2 : Ref sig .tc := ⟨.hbm, 65, rfl⟩
abbrev main_while0b_call0_v0 : Ref sig .tc := ⟨.hbm, 66, rfl⟩
abbrev main_while0b_v66 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v0 : Ref sig .tc := ⟨.hbm, 72, rfl⟩
abbrev main_while0b_v67 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_v82 : Ref sig .tc := ⟨.hbm, 93, rfl⟩
abbrev main_while0b_v83 : Ref sig .tc := ⟨.hbm, 94, rfl⟩
abbrev main_while0b_v84 : Ref sig .tc := ⟨.hbm, 95, rfl⟩
abbrev main_while0b_v85 : Ref sig .tc := ⟨.hbm, 96, rfl⟩
abbrev main_while0b_v86 : Ref sig .tc := ⟨.hbm, 97, rfl⟩
abbrev main_while0b_call3_v0 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_v87 : Ref sig .tc := ⟨.hbm, 103, rfl⟩
abbrev main_while0b_c_16 : Ref sig .tc := ⟨.hbm, 104, rfl⟩
abbrev main_while0b_v88 : Ref sig .tc := ⟨.hbm, 105, rfl⟩
abbrev main_v39 : Ref sig .tc := ⟨.hbm, 106, rfl⟩
abbrev main_v40 : Ref sig .tc := ⟨.hbm, 107, rfl⟩
abbrev main_cst_2 : Ref sig .tc := ⟨.hbm, 108, rfl⟩
abbrev main_v41 : Ref sig .tc := ⟨.hbm, 109, rfl⟩
abbrev main_v42 : Ref sig .tc := ⟨.hbm, 110, rfl⟩
abbrev main_cst_3 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_4 : Ref sig .tc := ⟨.hbm, 117, rfl⟩
abbrev main_v48 : Ref sig .tc := ⟨.hbm, 118, rfl⟩
abbrev main_v49 : Ref sig .tc := ⟨.hbm, 119, rfl⟩
abbrev main_cst_5 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_cst_6 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v64 : Ref sig .tc := ⟨.hbm, 144, rfl⟩
abbrev main_v65 : Ref sig .tc := ⟨.hbm, 145, rfl⟩

abbrev nD : Nat := 1
abbrev τ : Topo := Topo.v7x

variable {F : FTy → Type} [FloatOps F]

abbrev main_while0_count : Scf.Loop 32 := ⟨0#32, 16#32, 1#32⟩
-- ==== S5.lean ====
abbrev S8x4096x512 : Shape := ⟨3, ![8, 4096, 512]⟩
abbrev S16x64 : Shape := ⟨2, ![16, 64]⟩
abbrev S16 : Shape := ⟨1, ![16]⟩
abbrev S256x2048 : Shape := ⟨2, ![256, 2048]⟩
abbrev S2048x256 : Shape := ⟨2, ![2048, 256]⟩
abbrev S256 : Shape := ⟨1, ![256]⟩
abbrev S256x256 : Shape := ⟨2, ![256, 256]⟩
abbrev S_ : Shape := ⟨0, ![]⟩
abbrev S16x1 : Shape := ⟨2, ![16, 1]⟩
abbrev S7 : Shape := ⟨1, ![7]⟩
abbrev S7x1x1 : Shape := ⟨3, ![7, 1, 1]⟩
abbrev S1x16x64 : Shape := ⟨3, ![1, 16, 64]⟩
abbrev S7x16x64 : Shape := ⟨3, ![7, 16, 64]⟩
abbrev S7x1024 : Shape := ⟨2, ![7, 1024]⟩
abbrev S128 : Shape := ⟨1, ![128]⟩
abbrev S128x1x1 : Shape := ⟨3, ![128, 1, 1]⟩
abbrev S128x16x64 : Shape := ⟨3, ![128, 16, 64]⟩
abbrev S128x1024 : Shape := ⟨2, ![128, 1024]⟩
abbrev S1x256 : Shape := ⟨2, ![1, 256]⟩
abbrev S8x4096x256 : Shape := ⟨3, ![8, 4096, 256]⟩
abbrev S1x128x512 : Shape := ⟨3, ![1, 128, 512]⟩
abbrev S1x128x256 : Shape := ⟨3, ![1, 128, 256]⟩
abbrev S8x1024 : Shape := ⟨2, ![8, 1024]⟩
abbrev S128x512 : Shape := ⟨2, ![128, 512]⟩
abbrev S128x256 : Shape := ⟨2, ![128, 256]⟩
abbrev S128x2048 : Shape := ⟨2, ![128, 2048]⟩
abbrev S1x1024 : Shape := ⟨2, ![1, 1024]⟩

abbrev nBuf : Space → Nat
  | .hbm => 159
  | .vmem => 14
  | .smem => 0
  | _ => 0

abbrev hbmTy0_0 (i : Nat) : BufTy := match i % 128 with
  | 0 => ⟨S8x4096x512, .f32⟩
  | 1 => ⟨S16x64, .f32⟩
  | 2 => ⟨S16x64, .f32⟩
  | 3 => ⟨S16, .f32⟩
  | 4 => ⟨S256x2048, .f32⟩
  | 5 => ⟨S2048x256, .f32⟩
  | 6 => ⟨S256, .f32⟩
  | 7 => ⟨S256x256, .f32⟩
  | 8 => ⟨S_, .f32⟩
  | 9 => ⟨S16x64, .f32⟩
  | 10 => ⟨S16x64, .f32⟩
  | 11 => ⟨S16, .f32⟩
  | 12 => ⟨S16x1, .f32⟩
  | 13 => ⟨S7, .i32⟩
  | 14 => ⟨S_, .i32⟩
  | 15 => ⟨S_, .i32⟩
  | 16 => ⟨S_, .i1⟩
  | 17 => ⟨S_, .i32⟩
  | 18 => ⟨S7, .i32⟩
  | 19 => ⟨S7, .i1⟩
  | 20 => ⟨S7, .i1⟩
  | 21 => ⟨S7, .i1⟩
  | 22 => ⟨S_, .i32⟩
  | 23 => ⟨S_, .i32⟩
  | 24 => ⟨S7, .i32⟩
  | 25 => ⟨S7, .i32⟩
  | 26 => ⟨S7, .i32⟩
  | 27 => ⟨S_, .i32⟩
  | 28 => ⟨S7, .i32⟩
  | 29 => ⟨S7, .i32⟩
  | 30 => ⟨S_, .i32⟩
  | 31 => ⟨S7, .i32⟩
  | 32 => ⟨S7, .i32⟩
  | 33 => ⟨S_, .i32⟩
  | 34 => ⟨S7, .i32⟩
  | 35 => ⟨S7, .i1⟩
  | 36 => ⟨S7, .i32⟩
  | 37 => ⟨S_, .i32⟩
  | 38 => ⟨S_, .i32⟩
  | 39 => ⟨S_, .i32⟩
  | 40 => ⟨S_, .i32⟩
  | 41 => ⟨S7, .i32⟩
  | 42 => ⟨S7, .i32⟩
  | 43 => ⟨S_, .i32⟩
  | 44 => ⟨S7, .i32⟩
  | 45 => ⟨S7, .i32⟩
  | 46 => ⟨S7, .i32⟩
  | 47 => ⟨S7, .i32⟩
  | 48 => ⟨S_, .i32⟩
  | 49 => ⟨S7, .i32⟩
  | 50 => ⟨S7, .i1⟩
  | 51 => ⟨S7, .i32⟩
  | 52 => ⟨S_, .i32⟩
  | 53 => ⟨S_, .i32⟩
  | 54 => ⟨S7, .i32⟩
  | 55 => ⟨S7, .i32⟩
  | 56 => ⟨S_, .i32⟩
  | 57 => ⟨S7, .i32⟩
  | 58 => ⟨S7, .i32⟩
  | 59 => ⟨S7, .i32⟩
  | 60 => ⟨S7, .i32⟩
  | 61 => ⟨S_, .i32⟩
  | 62 => ⟨S7, .i32⟩
  | 63 => ⟨S7, .i1⟩
  | 64 => ⟨S7, .i32⟩
  | 65 => ⟨S_, .i32⟩
  | 66 => ⟨S_, .i32⟩
  | 67 => ⟨S7, .i32⟩
  | 68 => ⟨S7, .i32⟩
  | 69 => ⟨S_, .i32⟩
  | 70 => ⟨S7, .i32⟩
  | 71 => ⟨S7, .i32⟩
  | 72 => ⟨S7, .i32⟩
  | 73 => ⟨S7, .i32⟩
  | 74 => ⟨S_, .i32⟩
  | 75 => ⟨S7, .i32⟩
  | 76 => ⟨S7, .i1⟩
  | 77 => ⟨S7, .i32⟩
  | 78 => ⟨S_, .i32⟩
  | 79 => ⟨S_, .i32⟩
  | 80 => ⟨S7, .i32⟩
  | 81 => ⟨S7, .i32⟩
  | 82 => ⟨S_, .i32⟩
  | 83 => ⟨S7, .i32⟩
  | 84 => ⟨S7, .i32⟩
  | 85 => ⟨S7, .i32⟩
  | 86 => ⟨S7, .i32⟩
  | 87 => ⟨S_, .i32⟩
  | 88 => ⟨S7, .i32⟩
  | 89 => ⟨S7, .i1⟩
  | 90 => ⟨S7, .i32⟩
  | 91 => ⟨S_, .i32⟩
  | 92 => ⟨S_, .i32⟩
  | 93 => ⟨S7, .i32⟩
  | 94 => ⟨S7, .i32⟩
  | 95 => ⟨S_, .i32⟩
  | 96 => ⟨S7, .i32⟩
  | 97 => ⟨S7, .i32⟩
  | 98 => ⟨S7, .i32⟩
  | 99 => ⟨S7, .i32⟩
  | 100 => ⟨S_, .i32⟩
  | 101 => ⟨S7, .i32⟩
  | 102 => ⟨S7, .i1⟩
  | 103 => ⟨S7, .i32⟩
  | 104 => ⟨S_, .i32⟩
  | 105 => ⟨S_, .i32⟩
  | 106 => ⟨S7, .i32⟩
  | 107 => ⟨S7, .i32⟩
  | 108 => ⟨S7, .f32⟩
  | 109 => ⟨S7x1x1, .f32⟩
  | 110 => ⟨S16x64, .f32⟩
  | 111 => ⟨S16x64, .f32⟩
  | 112 => ⟨S1x16x64, .f32⟩
  | 113 => ⟨S7x16x64, .f32⟩
  | 114 => ⟨S7x16x64, .f32⟩
  | 115 => ⟨S7x16x64, .f32⟩
  | 116 => ⟨S7x16x64, .f32⟩
  | 117 => ⟨S16x64, .f32⟩
  | 118 => ⟨S16x64, .f32⟩
  | 119 => ⟨S1x16x64, .f32⟩
  | 120 => ⟨S7x16x64, .f32⟩
  | 121 => ⟨S7x16x64, .f32⟩
  | 122 => ⟨S7x16x64, .f32⟩
  | 123 => ⟨S7x16x64, .f32⟩
  | 124 => ⟨S7x16x64, .f32⟩
  | 125 => ⟨S7x1024, .f32⟩
  | 126 => ⟨S7x16x64, .f32⟩
  | 127 => ⟨S7x16x64, .f32⟩
  | _ => ⟨S8x4096x512, .f32⟩

abbrev hbmTy0_1 (i : Nat) : BufTy := match i % 128 with
  | 0 => ⟨S7x1024, .f32⟩
  | 1 => ⟨S128, .i32⟩
  | 2 => ⟨S_, .i32⟩
  | 3 => ⟨S128, .i32⟩
  | 4 => ⟨S128, .i32⟩
  | 5 => ⟨S128, .f32⟩
  | 6 => ⟨S128x1x1, .f32⟩
  | 7 => ⟨S16x64, .f32⟩
  | 8 => ⟨S16x64, .f32⟩
  | 9 => ⟨S1x16x64, .f32⟩
  | 10 => ⟨S128x16x64, .f32⟩
  | 11 => ⟨S128x16x64, .f32⟩
  | 12 => ⟨S128x16x64, .f32⟩
  | 13 => ⟨S128x16x64, .f32⟩
  | 14 => ⟨S16x64, .f32⟩
  | 15 => ⟨S16x64, .f32⟩
  | 16 => ⟨S1x16x64, .f32⟩
  | 17 => ⟨S128x16x64, .f32⟩
  | 18 => ⟨S128x16x64, .f32⟩
  | 19 => ⟨S128x16x64, .f32⟩
  | 20 => ⟨S128x16x64, .f32⟩
  | 21 => ⟨S128x16x64, .f32⟩
  | 22 => ⟨S128x1024, .f32⟩
  | 23 => ⟨S128x16x64, .f32⟩
  | 24 => ⟨S128x16x64, .f32⟩
  | 25 => ⟨S128x1024, .f32⟩
  | 26 => ⟨S256x2048, .bf16⟩
  | 27 => ⟨S2048x256, .bf16⟩
  | 28 => ⟨S1x256, .f32⟩
  | 29 => ⟨S256x256, .bf16⟩
  | 30 => ⟨S8x4096x256, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | .local _ .vmem, ⟨0, _⟩ => ⟨S1x128x512, .f32⟩
  | .local _ .vmem, ⟨1, _⟩ => ⟨S1x128x512, .f32⟩
  | .local _ .vmem, ⟨2, _⟩ => ⟨S256x2048, .bf16⟩
  | .local _ .vmem, ⟨3, _⟩ => ⟨S2048x256, .bf16⟩
  | .local _ .vmem, ⟨4, _⟩ => ⟨S7x1024, .f32⟩
  | .local _ .vmem, ⟨5, _⟩ => ⟨S7x1024, .f32⟩
  | .local _ .vmem, ⟨6, _⟩ => ⟨S128x1024, .f32⟩
  | .local _ .vmem, ⟨7, _⟩ => ⟨S128x1024, .f32⟩
  | .local _ .vmem, ⟨8, _⟩ => ⟨S1x256, .f32⟩
  | .local _ .vmem, ⟨9, _⟩ => ⟨S256x256, .bf16⟩
  | .local _ .vmem, ⟨10, _⟩ => ⟨S1x128x256, .f32⟩
  | .local _ .vmem, ⟨11, _⟩ => ⟨S1x128x256, .f32⟩
  | .local _ .vmem, ⟨12, _⟩ => ⟨S8x1024, .f32⟩
  | .local _ .vmem, ⟨13, _⟩ => ⟨S8x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_c_0 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_v14 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_v15 : Ref sig .tc := ⟨.hbm, 36, rfl⟩
abbrev main_c_6 : Ref sig .tc := ⟨.hbm, 37, rfl⟩
abbrev main_c_7 : Ref sig .tc := ⟨.hbm, 38, rfl⟩
abbrev main_v16 : Ref sig .tc := ⟨.hbm, 39, rfl⟩
abbrev main_c_8 : Ref sig .tc := ⟨.hbm, 40, rfl⟩
abbrev main_v17 : Ref sig .tc := ⟨.hbm, 41, rfl⟩
abbrev main_v18 : Ref sig .tc := ⟨.hbm, 42, rfl⟩
abbrev main_c_9 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_v23 : Ref sig .tc := ⟨.hbm, 51, rfl⟩
abbrev main_v24 : Ref sig .tc := ⟨.hbm, 52, rfl⟩
abbrev main_c_10 : Ref sig .tc := ⟨.hbm, 53, rfl⟩
abbrev main_v25 : Ref sig .tc := ⟨.hbm, 54, rfl⟩
abbrev main_v26 : Ref sig .tc := ⟨.hbm, 55, rfl⟩
abbrev main_c_11 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_v31 : Ref sig .tc := ⟨.hbm, 64, rfl⟩
abbrev main_v32 : Ref sig .tc := ⟨.hbm, 65, rfl⟩
abbrev main_c_12 : Ref sig .tc := ⟨.hbm, 66, rfl⟩
abbrev main_v33 : Ref sig .tc := ⟨.hbm, 67, rfl⟩
abbrev main_v34 : Ref sig .tc := ⟨.hbm, 68, rfl⟩
abbrev main_c_13 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_v39 : Ref sig .tc := ⟨.hbm, 77, rfl⟩
abbrev main_v40 : Ref sig .tc := ⟨.hbm, 78, rfl⟩
abbrev main_c_14 : Ref sig .tc := ⟨.hbm, 79, rfl⟩
abbrev main_v41 : Ref sig .tc := ⟨.hbm, 80, rfl⟩
abbrev main_v42 : Ref sig .tc := ⟨.hbm, 81, rfl⟩
abbrev main_c_15 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_v47 : Ref sig .tc := ⟨.hbm, 90, rfl⟩
abbrev main_v48 : Ref sig .tc := ⟨.hbm, 91, rfl⟩
abbrev main_c_16 : Ref sig .tc := ⟨.hbm, 92, rfl⟩
abbrev main_v49 : Ref sig .tc := ⟨.hbm, 93, rfl⟩
abbrev main_v50 : Ref sig .tc := ⟨.hbm, 94, rfl⟩
abbrev main_c_17 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call6_c : Ref sig .tc := ⟨.hbm, 100, rfl⟩
abbrev main_call6_v0 : Ref sig .tc := ⟨.hbm, 101, rfl⟩
abbrev main_call6_v1 : Ref sig .tc := ⟨.hbm, 102, rfl⟩
abbrev main_v55 : Ref sig .tc := ⟨.hbm, 103, rfl⟩
abbrev main_v56 : Ref sig .tc := ⟨.hbm, 104, rfl⟩
abbrev main_c_18 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_c_19 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S7x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S7x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== S5RefIdeal.lean ====
abbrev S8x4096x512 : Shape := ⟨3, ![8, 4096, 512]⟩
abbrev S16x64 : Shape := ⟨2, ![16, 64]⟩
abbrev S16 : Shape := ⟨1, ![16]⟩
abbrev S256x2048 : Shape := ⟨2, ![256, 2048]⟩
abbrev S2048x256 : Shape := ⟨2, ![2048, 256]⟩
abbrev S256 : Shape := ⟨1, ![256]⟩
abbrev S256x256 : Shape := ⟨2, ![256, 256]⟩
abbrev S_ : Shape := ⟨0, ![]⟩
abbrev S16x1 : Shape := ⟨2, ![16, 1]⟩
abbrev S1024 : Shape := ⟨1, ![1024]⟩
abbrev S8x4096x256 : Shape := ⟨3, ![8, 4096, 256]⟩
abbrev S2048x8x4096 : Shape := ⟨3, ![2048, 8, 4096]⟩
abbrev S4096x8x2048 : Shape := ⟨3, ![4096, 8, 2048]⟩
abbrev S8x1024 : Shape := ⟨2, ![8, 1024]⟩
abbrev S1x8x2048 : Shape := ⟨3, ![1, 8, 2048]⟩
abbrev S8x2048 : Shape := ⟨2, ![8, 2048]⟩
abbrev S1x1024 : Shape := ⟨2, ![1, 1024]⟩
abbrev S256x4096x8 : Shape := ⟨3, ![256, 4096, 8]⟩
abbrev S1x1x256 : Shape := ⟨3, ![1, 1, 256]⟩

abbrev nBuf : Space → Nat
  | .hbm => 119
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S16x64, .f32⟩
  | .hbm, ⟨2, _⟩ => ⟨S16x64, .f32⟩
  | .hbm, ⟨3, _⟩ => ⟨S16, .f32⟩
  | .hbm, ⟨4, _⟩ => ⟨S256x2048, .f32⟩
  | .hbm, ⟨5, _⟩ => ⟨S2048x256, .f32⟩
  | .hbm, ⟨6, _⟩ => ⟨S256, .f32⟩
  | .hbm, ⟨7, _⟩ => ⟨S256x256, .f32⟩
  | .hbm, ⟨8, _⟩ => ⟨S_, .f32⟩
  | .hbm, ⟨9, _⟩ => ⟨S16x64, .f32⟩
  | .hbm, ⟨10, _⟩ => ⟨S16x64, .f32⟩
  | .hbm, ⟨11, _⟩ => ⟨S16, .f32⟩
  | .hbm, ⟨12, _⟩ => ⟨S16x1, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S1024, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S1024, .f32⟩
  | .hbm, ⟨26, _⟩ => ⟨S8x4096x256, .f32⟩
  | .hbm, ⟨27, _⟩ => ⟨S2048x8x4096, .f32⟩
  | .hbm, ⟨28, _⟩ => ⟨S4096x8x2048, .f32⟩
  | .hbm, ⟨29, _⟩ => ⟨S_, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S_, .f32⟩
  | .hbm, ⟨34, _⟩ => ⟨S4096x8x2048, .f32⟩
  | .hbm, ⟨35, _⟩ => ⟨S_, .i32⟩
  | .hbm, ⟨36, _⟩ => ⟨S4096x8x2048, .f32⟩
  | .hbm, ⟨37, _⟩ => ⟨S1024, .f32⟩
  | .hbm, ⟨38, _⟩ => ⟨S1024, .f32⟩
  | .hbm, ⟨39, _⟩ => ⟨S_, .i32⟩
  | .hbm, ⟨40, _⟩ => ⟨S8x1024, .f32⟩
  | .hbm, ⟨41, _⟩ => ⟨S8x1024, .f32⟩
  | .hbm, ⟨42, _⟩ => ⟨S4096x8x2048, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S1x8x2048, .f32⟩
  | .hbm, ⟨48, _⟩ => ⟨S8x2048, .f32⟩
  | .hbm, ⟨49, _⟩ => ⟨S1x1024, .f32⟩
  | .hbm, ⟨50, _⟩ => ⟨S8x1024, .f32⟩
  | .hbm, ⟨51, _⟩ => ⟨S8x1024, .f32⟩
  | .hbm, ⟨52, _⟩ => ⟨S1x1024, .f32⟩
  | .hbm, ⟨53, _⟩ => ⟨S8x1024, .f32⟩
  | .hbm, ⟨54, _⟩ => ⟨S8x1024, .f32⟩
  | .hbm, ⟨55, _⟩ => ⟨S8x1024, .f32⟩
  | .hbm, ⟨56, _⟩ => ⟨S8x1024, .f32⟩
  | .hbm, ⟨57, _⟩ => ⟨S8x1024, .f32⟩
  | .hbm, ⟨58, _⟩ => ⟨S1x1024, .f32⟩
  | .hbm, ⟨59, _⟩ => ⟨S8x1024, .f32⟩
  | .hbm, ⟨60, _⟩ => ⟨S8x1024, .f32⟩
  | .hbm, ⟨61, _⟩ => ⟨S1x1024, .f32⟩
  | .hbm, ⟨62, _⟩ => ⟨S8x1024, .f32⟩
  | .hbm, ⟨63, _⟩ => ⟨S8x1024, .f32⟩
  | .hbm, ⟨64, _⟩ => ⟨S8x1024, .f32⟩
  | .hbm, ⟨65, _⟩ => ⟨S8x1024, .f32⟩
  | .hbm, ⟨66, _⟩ => ⟨S8x1024, .f32⟩
  | .hbm, ⟨67, _⟩ => ⟨S8x2048, .f32⟩
  | .hbm, ⟨68, _⟩ => ⟨S1x8x2048, .f32⟩
  | .hbm, ⟨69, _⟩ => ⟨S_, .i32⟩
  | .hbm, ⟨70, _⟩ => ⟨S_, .i32⟩
  | .hbm, ⟨71, _⟩ => ⟨S4096x8x2048, .f32⟩
  | .hbm, ⟨72, _⟩ => ⟨S_, .i32⟩
  | .hbm, ⟨73, _⟩ => ⟨S_, .i32⟩
  | .hbm, ⟨74, _⟩ => ⟨S8x4096x256, .f32⟩
  | .hbm, ⟨75, _⟩ => ⟨S8x4096x256, .f32⟩
  | .hbm, ⟨76, _⟩ => ⟨S256x4096x8, .f32⟩
  | .hbm, ⟨77, _⟩ => ⟨S8x4096x256, .f32⟩
  | .hbm, ⟨78, _⟩ => ⟨S1x1x256, .f32⟩
  | .hbm, ⟨79, _⟩ => ⟨S8x4096x256, .f32⟩
  | .hbm, ⟨80, _⟩ => ⟨S8x4096x256, .f32⟩
  | .hbm, ⟨81, _⟩ => ⟨S8x4096x256, .f32⟩
  | .hbm, ⟨82, _⟩ => ⟨S8x4096x256, .f32⟩
  | .hbm, ⟨83, _⟩ => ⟨S8x4096x256, .f32⟩
  | .hbm, ⟨84, _⟩ => ⟨S_, .f32⟩
  | .hbm, ⟨85, _⟩ => ⟨S8x4096x256, .f32⟩
  | .hbm, ⟨86, _⟩ => ⟨S8x4096x256, .f32⟩
  | .hbm, ⟨87, _⟩ => ⟨S8x4096x256, .f32⟩
  | .hbm, ⟨88, _⟩ => ⟨S_, .f32⟩
  | .hbm, ⟨89, _⟩ => ⟨S8x4096x256, .f32⟩
  | .hbm, ⟨90, _⟩ => ⟨S8x4096x256, .f32⟩
  | .hbm, ⟨91, _⟩ => ⟨S8x4096x256, .f32⟩
  | .hbm, ⟨92, _⟩ => ⟨S_, .f32⟩
  | .hbm, ⟨93, _⟩ => ⟨S8x4096x256, .f32⟩
  | .hbm, ⟨94, _⟩ => ⟨S8x4096x256, .f32⟩
  | .hbm, ⟨95, _⟩ => ⟨S_, .f32⟩
  | .hbm, ⟨96, _⟩ => ⟨S8x4096x256, .f32⟩
  | .hbm, ⟨97, _⟩ => ⟨S8x4096x256, .f32⟩
  | .hbm, ⟨98, _⟩ => ⟨S8x4096x256, .f32⟩
  | .hbm, ⟨99, _⟩ => ⟨S8x4096x256, .f32⟩
  | .hbm, ⟨100, _⟩ => ⟨S8x4096x256, .f32⟩
  | .hbm, ⟨101, _⟩ => ⟨S8x4096x256, .f32⟩
  | .hbm, ⟨102, _⟩ => ⟨S_, .f32⟩
  | .hbm, ⟨103, _⟩ => ⟨S8x4096x256, .f32⟩
  | .hbm, ⟨104, _⟩ => ⟨S8x4096x256, .f32⟩
  | .hbm, ⟨105, _⟩ => ⟨S_, .f32⟩
  | .hbm, ⟨106, _⟩ => ⟨S8x4096x256, .f32⟩
  | .hbm, ⟨107, _⟩ => ⟨S8x4096x256, .f32⟩
  | .hbm, ⟨108, _⟩ => ⟨S8x4096x256, .f32⟩
  | .hbm, ⟨109, _⟩ => ⟨S8x4096x256, .f32⟩
  | .hbm, ⟨110, _⟩ => ⟨S8x4096x256, .f32⟩
  | .hbm, ⟨111, _⟩ => ⟨S_, .f32⟩
  | .hbm, ⟨112, _⟩ => ⟨S8x4096x256, .f32⟩
  | .hbm, ⟨113, _⟩ => ⟨S8x4096x256, .f32⟩
  | .hbm, ⟨114, _⟩ => ⟨S_, .f32⟩
  | .hbm, ⟨115, _⟩ => ⟨S8x4096x256, .f32⟩
  | .hbm, ⟨116, _⟩ => ⟨S8x4096x256, .f32⟩
  | .hbm, ⟨117, _⟩ => ⟨S8x4096x256, .f32⟩
  | .hbm, ⟨118, _⟩ => ⟨S8x4096x256, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_c : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev main_v23_4 : Ref sig .tc := ⟨.hbm, 40, rfl⟩
abbrev main_v23_5 : Ref sig .tc := ⟨.hbm, 41, rfl⟩
abbrev main_v23_6 : Ref sig .tc := ⟨.hbm, 42, rfl⟩
abbrev main_while0c_c_15 : Ref sig .tc := ⟨.hbm, 43, rfl⟩
abbrev main_while0c_v55 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v55 : Ref sig .tc := ⟨.hbm, 48, rfl⟩
abbrev main_while0b_v56 : Ref sig .tc := ⟨.hbm, 49, rfl⟩
abbrev main_while0b_v57 : Ref sig .tc := ⟨.hbm, 50, rfl⟩
abbrev main_while0b_v58 : Ref sig .tc := ⟨.hbm, 51, rfl⟩
abbrev main_while0b_v59 : Ref sig .tc := ⟨.hbm, 52, rfl⟩
abbrev main_while0b_v60 : Ref sig .tc := ⟨.hbm, 53, rfl⟩
abbrev main_while0b_v61 : Ref sig .tc := ⟨.hbm, 54, rfl⟩
abbrev main_while0b_v62 : Ref sig .tc := ⟨.hbm, 55, rfl⟩
abbrev main_while0b_v63 : Ref sig .tc := ⟨.hbm, 56, rfl⟩
abbrev main_while0b_v64 : Ref sig .tc := ⟨.hbm, 57, rfl⟩
abbrev main_while0b_v65 : Ref sig .tc := ⟨.hbm, 58, rfl⟩
abbrev main_while0b_v66 : Ref sig .tc := ⟨.hbm, 59, rfl⟩
abbrev main_while0b_v67 : Ref sig .tc := ⟨.hbm, 60, rfl⟩
abbrev main_while0b_v68 : Ref sig .tc := ⟨.hbm, 61, rfl⟩
abbrev main_while0b_v69 : Ref sig .tc := ⟨.hbm, 62, rfl⟩
abbrev main_while0b_v70 : Ref sig .tc := ⟨.hbm, 63, rfl⟩
abbrev main_while0b_v71 : Ref sig .tc := ⟨.hbm, 64, rfl⟩
abbrev main_while0b_v72 : Ref sig .tc := ⟨.hbm, 65, rfl⟩
abbrev main_while0b_v73 : Ref sig .tc := ⟨.hbm, 66, rfl⟩
abbrev main_while0b_v74 : Ref sig .tc := ⟨.hbm, 67, rfl⟩
abbrev main_while0b_call1_v0 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_v75 : Ref sig .tc := ⟨.hbm, 71, rfl⟩
abbrev main_while0b_c_15 : Ref sig .tc := ⟨.hbm, 72, rfl⟩
abbrev main_while0b_v76 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_3 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_5 : Ref sig .tc := ⟨.hbm, 92, rfl⟩
abbrev main_v40 : Ref sig .tc := ⟨.hbm, 93, rfl⟩
abbrev main_v41 : Ref sig .tc := ⟨.hbm, 94, rfl⟩
abbrev main_cst_6 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_7 : Ref sig .tc := ⟨.hbm, 102, rfl⟩
abbrev main_v48 : Ref sig .tc := ⟨.hbm, 103, rfl⟩
abbrev main_v49 : Ref sig .tc := ⟨.hbm, 104, rfl⟩
abbrev main_cst_8 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v53 : Ref sig .tc := ⟨.hbm, 117, rfl⟩
abbrev main_v54 : Ref sig .tc := ⟨.hbm, 118, rfl⟩

abbrev nD : Nat := 1
abbrev τ : Topo := Topo.v7x

variable {F : FTy → Type} [FloatOps F]

abbrev main_while0_count : Scf.Loop 32 := ⟨0#32, 4096#32, 1#32⟩
-- ==== Proof.SoftmaxRow.lean ====
module

public import Idealize.ShloMosaic.PureOps.Ideal
public import Idealize.ShloMosaic.Lib.IdealHost
public import Mathlib.Data.EReal.Inv
public import Mathlib.Algebra.BigOperators.Fin

/-! One row of softmax attention over the extended reals: dividing the weighted sum by the sum of the weights is
    the same as weighting by the divided weights, when every score is finite (the values may be anything). -/

@[expose] public section

noncomputable section

namespace Cert.SoftmaxRow

open Idealize.ShloMosaic

/-- An extended real that is a real. -/
def Fin' (x : EReal) : Prop := ∃ r : ℝ, x = (r : EReal)

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_sum {ι : Type} (s : Finset ι) (f : ι → EReal) (h : ∀ i, Fin' (f i)) : Fin' (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- The scale `1/8` of the scores, as its bit pattern. -/
theorem scale_fin : Fin' (Ideal.ofBits FTy.f32 1040187392#32) :=
  ⟨1 / 8, by simp [Ideal.ofBits, Ideal.ieee, -EReal.coe_mul]; norm_num⟩

theorem neg_inf : Ideal.ofBits FTy.f32 4286578688#32 = (⊥ : EReal) := by
  simp [Ideal.ofBits, Ideal.ieee]

/-- A finite nonnegative factor goes into a sum from the right, whatever the summands. -/
theorem sum_mul_fin {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb, ← ih, mul_comm _ (a : EReal), mul_comm _ (a : EReal), mul_comm _ (a : EReal)]
    exact EReal.left_distrib_of_nonneg_of_ne_top (EReal.coe_nonneg.2 ha) (EReal.coe_ne_top a) _ _

/-- The largest score of a row, as both programs fold it. -/
def top {n : ℕ} (s : Fin n → EReal) : EReal :=
  Finset.fold max (Ideal.ofBits FTy.f32 4286578688#32) s Finset.univ

theorem top_fin {n : ℕ} (s : Fin (n + 1) → EReal) (hs : ∀ k, Fin' (s k)) : Fin' (top s) := by
  have h1 : top s ≠ ⊤ := by
    refine ne_of_lt ?_
    unfold top
    rw [Finset.fold_max_lt, neg_inf]
    refine ⟨by simp, fun k _ => ?_⟩
    obtain ⟨r, hr⟩ := hs k
    rw [hr]; exact EReal.coe_lt_top r
  have h2 : top s ≠ ⊥ := by
    refine (ne_of_gt ?_)
    obtain ⟨r, hr⟩ := hs 0
    refine lt_of_lt_of_le (b := s 0) (by rw [hr]; exact EReal.bot_lt_coe r) ?_
    unfold top
    rw [Finset.le_fold_max]
    exact Or.inr ⟨0, Finset.mem_univ _, le_refl _⟩
  exact ⟨(top s).toReal, (EReal.coe_toReal h1 h2).symm⟩

theorem max_top {n : ℕ} (s : Fin n → EReal) : max (Ideal.ofBits FTy.f32 4286578688#32) (top s) = top s := by
  rw [neg_inf]; exact max_eq_right bot_le

/-- The kernel's row: weighted sum over the sum of the weights. -/
def late {n : ℕ} (s v : Fin n → EReal) : EReal :=
  Ideal.div (∑ k, Ideal.exp (s k - top s) * v k) (∑ k, Ideal.exp (s k - top s))

/-- The reference's row: the values weighted by the divided weights. -/
def early {n : ℕ} (s v : Fin n → EReal) : EReal :=
  ∑ k, v k * Ideal.div (Ideal.exp (s k - top s)) (∑ j, Ideal.exp (s j - top s))

theorem late_eq_early {n : ℕ} (s v : Fin (n + 1) → EReal) (hs : ∀ k, Fin' (s k)) : late s v = early s v := by
  obtain ⟨M, hM⟩ := top_fin s hs
  choose r hr using hs
  have hp : ∀ k, Ideal.exp (s k - top s) = ((Real.exp (r k - M) : ℝ) : EReal) := fun k => by
    rw [hM, hr k, ← EReal.coe_sub]; rfl
  have hL : (∑ k, Ideal.exp (s k - top s)) = ((∑ k, Real.exp (r k - M) : ℝ) : EReal) := by
    simp only [hp]
    induction (Finset.univ : Finset (Fin (n + 1))) using Finset.induction_on with
    | empty => simp
    | insert a s ha ih => rw [Finset.sum_insert ha, Finset.sum_insert ha, EReal.coe_add, ih]
  have hpos : 0 < ∑ k, Real.exp (r k - M) := Finset.sum_pos (fun k _ => Real.exp_pos _) ⟨0, Finset.mem_univ _⟩
  have hne : ((∑ k, Real.exp (r k - M) : ℝ) : EReal) ≠ 0 := by
    rw [Ne, EReal.coe_eq_zero]; exact hpos.ne'
  unfold late early
  rw [hL]
  unfold Ideal.div
  simp only [if_neg hne]
  rw [← EReal.coe_inv, sum_mul_fin _ _ _ (inv_nonneg.2 hpos.le)]
  refine Finset.sum_congr rfl fun k _ => ?_
  rw [mul_comm (Ideal.exp _) (v k), mul_assoc]

/-- One score. -/
def score {n : ℕ} (q k : Fin n → EReal) : EReal := (∑ d, q d * k d) * Ideal.ofBits FTy.f32 1040187392#32

theorem score_fin {n : ℕ} (q k : Fin n → EReal) (hq : ∀ d, Fin' (q d)) (hk : ∀ d, Fin' (k d)) : Fin' (score q k) :=
  fin_mul (fin_sum _ _ fun d => fin_mul (hq d) (hk d)) scale_fin

end Cert.SoftmaxRow

end
-- ==== Proof.XattValue.lean ====
module

public import proofs.«01_k».proof.Proof.Gen.XattIdeal.Value
public import proofs.«01_k».proof.Proof.Gen.XattRefIdeal.Run
public import proofs.«01_k».proof.Proof.SoftmaxRow
public import Idealize.ShloMosaic.Lib.Pipeline.ValueKit
public import Idealize.ShloMosaic.Lib.Pointwise
public import Idealize.ShloMosaic.Lib.Claim

/-! The memory attention's result array is the reference's, when the queries and the keys are finite. -/

@[expose] public section

set_option maxRecDepth 16384

noncomputable section

namespace Cert.XattIdeal.RefValue

open Idealize.ShloMosaic Idealize.ShloMosaic.TcCoe Idealize.SL.Sem
open Idealize.ShloMosaic.Pipeline (Dat)
open Cert.SoftmaxRow

section
open Cert.XattRefIdeal Cert.XattRefIdeal.Gen

/-- The reference's scores. -/
def LOGITS (x : FVec Ideal S8x4096x512 .f32) (kv : FVec Ideal S8x256x512 .f32) : FVec Ideal S8x4x4096x256 .f32 :=
  mulf (Host.dotGeneral dot_S8x4096x4x64_S8x256x4x64_S8x4x4096x256_3_3_1_1_02_02 none (shapeCast _ (extractStridedSlice S8x4096x256 ![0, 0, 0] x slices_S8x4096x512_S8x4096x256_0_0_0) shapeCasts_S8x4096x256_S8x4096x4x64) (shapeCast _ (extractStridedSlice S8x256x256 ![0, 0, 0] kv slices_S8x256x512_S8x256x256_0_0_0) shapeCasts_S8x256x256_S8x256x4x64)) (broadcastInDim S8x4x4096x256 ![] bcast_S_S8x4x4096x256 (constant S_ .f32 0x3E000000#32))

/-- Each row's largest score. -/
def TOPS (L : FVec Ideal S8x4x4096x256 .f32) : FVec Ideal S8x4x4096 .f32 :=
  maximumf (broadcastInDim S8x4x4096 ![] bcast_S_S8x4x4096 (constant S_ .f32 0xFF800000#32)) (Host.reduce FloatOps.maximumf L (constant S_ .f32 0xFF800000#32) reducesTo_S8x4x4096x256_S8x4x4096_d3 h_S_)

/-- The exponentials of the scores less a row value `M`. -/
def EXPS (L : FVec Ideal S8x4x4096x256 .f32) (M : FVec Ideal S8x4x4096 .f32) : FVec Ideal S8x4x4096x256 .f32 :=
  Host.exp (subf L (broadcastInDim S8x4x4096x256 ![0, 1, 2, 3] bcast_S8x4x4096x1_S8x4x4096x256_0_1_2_3 (broadcastInDim S8x4x4096x1 ![0, 1, 2] bcast_S8x4x4096_S8x4x4096x1_0_1_2 M)))

/-- The exponentials divided by their row sums. -/
def WEIGHTS (E : FVec Ideal S8x4x4096x256 .f32) : FVec Ideal S8x4x4096x256 .f32 :=
  Host.divf E (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd E (constant S_ .f32 0x00000000#32) reducesTo_S8x4x4096x256_S8x4x4096_d3 h_S_)))

/-- The heads' weighted values, side by side. -/
def HEADS (P : FVec Ideal S8x4x4096x256 .f32) (kv : FVec Ideal S8x256x512 .f32) : FVec Ideal S8x4096x256 .f32 :=
  shapeCast _ (transpose S8x4096x4x64 [0, 3, 1, 2] (Host.dotGeneral dot_S8x256x4x64_S8x4x4096x256_S8x4x64x4096_1_3_3_2_02_01 none (shapeCast _ (extractStridedSlice S8x256x256 ![0, 0, 256] kv slices_S8x256x512_S8x256x256_0_0_256) shapeCasts_S8x256x256_S8x256x4x64) P) transposes_S8x4x64x4096_S8x4096x4x64_0_3_1_2) shapeCasts_S8x4096x4x64_S8x4096x256

/-- The gate times its sigmoid. -/
def GATE (x : FVec Ideal S8x4096x512 .f32) : FVec Ideal S8x4096x256 .f32 :=
  mulf (extractStridedSlice S8x4096x256 ![0, 0, 256] x slices_S8x4096x512_S8x4096x256_0_0_256) (Host.divf (broadcastInDim S8x4096x256 ![] bcast_S_S8x4096x256 (constant S_ .f32 0x3F800000#32)) (addf (broadcastInDim S8x4096x256 ![] bcast_S_S8x4096x256 (constant S_ .f32 0x3F800000#32)) (Host.exp (Host.negf (extractStridedSlice S8x4096x256 ![0, 0, 256] x slices_S8x4096x512_S8x4096x256_0_0_256)))))

/-- The reference's result as a function of its two arguments. -/
def REF (x : FVec Ideal S8x4096x512 .f32) (kv : FVec Ideal S8x256x512 .f32) : FVec Ideal S8x4096x256 .f32 :=
  mulf (HEADS (WEIGHTS (EXPS (LOGITS x kv) (TOPS (LOGITS x kv)))) kv) (GATE x)

theorem logits_at (x : FVec Ideal S8x4096x512 .f32) (kv : FVec Ideal S8x256x512 .f32) (b : Fin 8) (h : Fin 4) (r : Fin 4096) (k : Fin 256) :
    LOGITS x kv (ix4 b h r k)
      = score (fun d : Fin 64 => x (ix3 b r ⟨h * 64 + d, by omega⟩)) (fun d : Fin 64 => kv (ix3 b k ⟨h * 64 + d, by omega⟩)) := by
  pointwise [LOGITS]
  rfl

theorem reduced_at (L : FVec Ideal S8x4x4096x256 .f32) (j : S8x4x4096.Idx) :
    Host.reduce FloatOps.maximumf L (constant S_ .f32 0xFF800000#32) reducesTo_S8x4x4096x256_S8x4x4096_d3 h_S_ j
      = top fun k : Fin 256 => L (ix4 (j 0) (j 1) (j 2) k) := by
  unfold top
  pointwise

theorem max_at (b : BitVec 32) (R : FVec Ideal S8x4x4096 .f32) (j : S8x4x4096.Idx) :
    maximumf (broadcastInDim S8x4x4096 ![] bcast_S_S8x4x4096 (constant S_ .f32 b)) R j = max (Ideal.ofBits FTy.f32 b) (R j) := by
  pointwise

theorem tops_at (L : FVec Ideal S8x4x4096x256 .f32) (b : Fin 8) (h : Fin 4) (r : Fin 4096) :
    TOPS L (ix3 b h r) = top fun k : Fin 256 => L (ix4 b h r k) := by
  unfold TOPS
  rw [max_at, reduced_at]
  exact max_top _

theorem exps_at (L : FVec Ideal S8x4x4096x256 .f32) (M : FVec Ideal S8x4x4096 .f32) (b : Fin 8) (h : Fin 4) (r : Fin 4096) (k : Fin 256) :
    EXPS L M (ix4 b h r k) = Ideal.exp (L (ix4 b h r k) - M (ix3 b h r)) := by
  pointwise [EXPS]

theorem weights_at (E : FVec Ideal S8x4x4096x256 .f32) (b : Fin 8) (h : Fin 4) (r : Fin 4096) (k : Fin 256) :
    WEIGHTS E (ix4 b h r k) = Ideal.div (E (ix4 b h r k)) (∑ j : Fin 256, E (ix4 b h r j)) := by
  pointwise [WEIGHTS]

theorem heads_at (P : FVec Ideal S8x4x4096x256 .f32) (kv : FVec Ideal S8x256x512 .f32) (b : Fin 8) (r : Fin 4096) (e : Fin 256) :
    HEADS P kv (ix3 b r e) = ∑ k : Fin 256, kv (ix3 b k ⟨256 + e, by omega⟩) * P (ix4 b ⟨e / 64, by omega⟩ r k) := by
  pointwise [HEADS]

theorem gate_at (x : FVec Ideal S8x4096x512 .f32) (b : Fin 8) (r : Fin 4096) (e : Fin 256) :
    GATE x (ix3 b r e) = x (ix3 b r ⟨256 + e, by omega⟩) * Ideal.div 1 (1 + Ideal.exp (- x (ix3 b r ⟨256 + e, by omega⟩))) := by
  pointwise [GATE]

/-- The scores of row `r` of head `h` over the memory rows. -/
def scores (x : FVec Ideal S8x4096x512 .f32) (kv : FVec Ideal S8x256x512 .f32) (b : Fin 8) (h : Fin 4) (r : Fin 4096) : Fin 256 → EReal :=
  fun k => score (fun d : Fin 64 => x (ix3 b r ⟨h * 64 + d, by omega⟩)) (fun d : Fin 64 => kv (ix3 b k ⟨h * 64 + d, by omega⟩))

theorem ref_at (x : FVec Ideal S8x4096x512 .f32) (kv : FVec Ideal S8x256x512 .f32) (b : Fin 8) (r : Fin 4096) (e : Fin 256) :
    REF x kv (ix3 b r e) = early (scores x kv b ⟨e / 64, by omega⟩ r) (fun k => kv (ix3 b k ⟨256 + e, by omega⟩))
      * (x (ix3 b r ⟨256 + e, by omega⟩) * Ideal.div 1 (1 + Ideal.exp (- x (ix3 b r ⟨256 + e, by omega⟩)))) := by
  have hL : ∀ k, LOGITS x kv (ix4 b ⟨e / 64, by omega⟩ r k) = scores x kv b ⟨e / 64, by omega⟩ r k := fun k => logits_at x kv b _ r k
  have hT : TOPS (LOGITS x kv) (ix3 b ⟨e / 64, by omega⟩ r) = top (scores x kv b ⟨e / 64, by omega⟩ r) := by
    rw [tops_at]; exact congrArg top (funext hL)
  have hE : ∀ k, EXPS (LOGITS x kv) (TOPS (LOGITS x kv)) (ix4 b ⟨e / 64, by omega⟩ r k)
      = Ideal.exp (scores x kv b ⟨e / 64, by omega⟩ r k - top (scores x kv b ⟨e / 64, by omega⟩ r)) := fun k => by
    rw [exps_at, hL, hT]
  have hW : ∀ k, WEIGHTS (EXPS (LOGITS x kv) (TOPS (LOGITS x kv))) (ix4 b ⟨e / 64, by omega⟩ r k)
      = Ideal.div (Ideal.exp (scores x kv b ⟨e / 64, by omega⟩ r k - top (scores x kv b ⟨e / 64, by omega⟩ r)))
        (∑ j, Ideal.exp (scores x kv b ⟨e / 64, by omega⟩ r j - top (scores x kv b ⟨e / 64, by omega⟩ r))) := fun k => by
    rw [weights_at, hE]; exact congrArg (Ideal.div _) (Finset.sum_congr rfl fun j _ => hE j)
  show HEADS _ kv (ix3 b r e) * GATE x (ix3 b r e) = _
  rw [heads_at, gate_at]
  refine congrArg (· * _) (Finset.sum_congr rfl fun k _ => congrArg (kv _ * ·) ?_)
  exact hW k
end

open Cert.XattIdeal Cert.XattIdeal.Gen

/-- Row `r`, column `o + e` of the heads' outputs as the kernel computes them from one block of queries and one of
    keys and values; `o` is the head's first column. -/
def HEAD (v0 : Vec Ideal S1x512x512 .f32) (v4 : Vec Ideal S1x256x512 .f32) (o : ℕ) (ho : o + 64 ≤ 256) (r : Fin 512) (e : Fin 256) : EReal :=
  late (fun k : Fin 256 => score (fun d : Fin 64 => (v0 (ix3 0 r ⟨o + d, by omega⟩) : EReal)) (fun d : Fin 64 => v4 (ix3 0 k ⟨o + d, by omega⟩)))
    (fun k : Fin 256 => v4 (ix3 0 k ⟨256 + e, by omega⟩))

theorem late_congr {s s' v v' : Fin 256 → EReal} (hs : ∀ k, s k = s' k) (hv : ∀ k, v k = v' k) : late s v = late s' v' := by
  rw [funext hs, funext hv]

theorem score_congr {q q' k k' : Fin 64 → EReal} (hq : ∀ d, q d = q' d) (hk : ∀ d, k d = k' d) : score q k = score q' k' := by
  rw [funext hq, funext hk]

theorem head0 (v0 : Vec Ideal S1x512x512 .f32) (v4 : Vec Ideal S1x256x512 .f32) (r : Fin 512) (e : Fin 64) :
    k0_pay7 (F := Ideal) v0 v4 (ix2 r e) = HEAD v0 v4 0 (by omega) r ⟨0 + e, by omega⟩ := by
  pointwise [k0_pay7, k0_pay4, k0_pay6, k0_pay3]
  refine late_congr (fun k => score_congr (fun d => ?_) fun d => ?_) fun k => ?_
  all_goals blk_ext

theorem head1 (v0 : Vec Ideal S1x512x512 .f32) (v4 : Vec Ideal S1x256x512 .f32) (r : Fin 512) (e : Fin 64) :
    k0_pay9 (F := Ideal) (k0_pay6 v4) (k0_pay8 v0 v4) (ix2 r e) = HEAD v0 v4 64 (by omega) r ⟨64 + e, by omega⟩ := by
  pointwise [k0_pay9, k0_pay8, k0_pay4, k0_pay6, k0_pay3]
  refine late_congr (fun k => score_congr (fun d => ?_) fun d => ?_) fun k => ?_
  all_goals blk_ext

theorem head2 (v0 : Vec Ideal S1x512x512 .f32) (v4 : Vec Ideal S1x256x512 .f32) (r : Fin 512) (e : Fin 64) :
    k0_pay10 (F := Ideal) (k0_pay4 v0) (k0_pay6 v4) (ix2 r e) = HEAD v0 v4 128 (by omega) r ⟨128 + e, by omega⟩ := by
  pointwise [k0_pay10, k0_pay4, k0_pay6, k0_pay3]
  refine late_congr (fun k => score_congr (fun d => ?_) fun d => ?_) fun k => ?_
  all_goals blk_ext

theorem head3 (v0 : Vec Ideal S1x512x512 .f32) (v4 : Vec Ideal S1x256x512 .f32) (r : Fin 512) (e : Fin 64) :
    k0_pay1 (F := Ideal) (k0_pay6 v4) (k0_pay11 (k0_pay4 v0) (k0_pay6 v4)) (k0_pay12 (k0_pay4 v0) (k0_pay6 v4)) (ix2 r e)
      = HEAD v0 v4 192 (by omega) r ⟨192 + e, by omega⟩ := by
  pointwise [k0_pay1, k0_pay11, k0_pay12, k0_pay4, k0_pay6, k0_pay3]
  refine late_congr (fun k => score_congr (fun d => ?_) fun d => ?_) fun k => ?_
  all_goals blk_ext

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val / 8, t.val % 8, 0] :=
  (by decide +kernel : ∀ t : Fin grid0.N, _)

theorem blk0 (c : Dev nD) (t : Fin cfg0.N) (r e : Fin 512) (b : Fin 8) (r' : Fin 4096) (hb : (b : ℕ) = t.val / 8) (hr : (r' : ℕ) = t.val % 8 * 512 + r) :
    (iblk m c 0 t : Vec Ideal S1x512x512 .f32) (ix3 0 r e) = (m ((c : Thread nD τ).loc main_arg0) : FVec Ideal S8x4096x512 .f32) (ix3 b r' e) := by
  blk_point [iblk, V, idx t]

theorem blk1 (c : Dev nD) (t : Fin cfg0.N) (k : Fin 256) (e : Fin 512) (b : Fin 8) (hb : (b : ℕ) = t.val / 8) :
    (iblk m c 1 t : Vec Ideal S1x256x512 .f32) (ix3 0 k e) = (m ((c : Thread nD τ).loc main_arg1) : FVec Ideal S8x256x512 .f32) (ix3 b k e) := by
  blk_point [iblk, V, idx t]

/-- The heads' outputs of a block, all columns. -/
def HEADCOL (v0 : Vec Ideal S1x512x512 .f32) (v4 : Vec Ideal S1x256x512 .f32) (i : S512x256.Idx) : EReal :=
  HEAD v0 v4 ((i 1 : ℕ) / 64 * 64) (by have := (i 1).isLt; dsimp at this; omega) (i 0) (i 1)

theorem headcol_eq (v0 : Vec Ideal S1x512x512 .f32) (v4 : Vec Ideal S1x256x512 .f32) (i : S512x256.Idx) (o : ℕ) (ho : o + 64 ≤ 256)
    (r : Fin 512) (e : Fin 256) (h0 : (i 0 : ℕ) = r) (h1 : (i 1 : ℕ) = e) (h : o = (e : ℕ) / 64 * 64) :
    HEAD v0 v4 o ho r e = HEADCOL v0 v4 i := by
  obtain rfl : i 0 = r := Fin.ext h0
  obtain rfl : i 1 = e := Fin.ext h1
  subst h
  rfl

theorem stored (S : Vec Ideal S512x256 .f32) (g : FVec Ideal S512x256 .f32) (r : Fin 512) (e : Fin 256) :
    k0_pay2 (F := Ideal) g S (ix3 0 r e) = S (ix2 r e) * (g (ix2 r e) * Ideal.div 1 (1 + Ideal.exp (- g (ix2 r e)))) := by
  pointwise [k0_pay2]
  rw [zero_sub]

theorem gate_blk (v0 : Vec Ideal S1x512x512 .f32) (r : Fin 512) (e : Fin 256) :
    k0_pay5 (F := Ideal) v0 (ix2 r e) = v0 (ix3 0 r ⟨256 + e, by omega⟩) := by
  pointwise [k0_pay5, k0_pay3]

theorem point (c : Dev nD) (t : Fin cfg0.N) (S : Vec Ideal S512x256 .f32)
    (hS : ∀ i, S i = HEADCOL (iblk m c 0 t) (iblk m c 1 t) i)
    (hq : ∀ (b : Fin 8) (r : Fin 4096) (e : Fin 512), (e : ℕ) < 256 → Fin' ((m ((c : Thread nD τ).loc main_arg0) : FVec Ideal S8x4096x512 .f32) (ix3 b r e)))
    (hk : ∀ (b : Fin 8) (r : Fin 256) (e : Fin 512), (e : ℕ) < 256 → Fin' ((m ((c : Thread nD τ).loc main_arg1) : FVec Ideal S8x256x512 .f32) (ix3 b r e)))
    (r : Fin 512) (e : Fin 256) (b : Fin 8) (r' : Fin 4096) (hb : (b : ℕ) = t.val / 8) (hr : (r' : ℕ) = t.val % 8 * 512 + r) :
    k0_pay2 (F := Ideal) (k0_pay5 (iblk m c 0 t)) S (ix3 0 r e)
      = REF (m ((c : Thread nD τ).loc main_arg0)) (m ((c : Thread nD τ).loc main_arg1)) (ix3 b r' e) := by
  rw [stored, ref_at, hS, ← late_eq_early (scores _ _ _ _ _) _ fun k => score_fin _ _ (fun d => hq _ _ _ (by dsimp only; omega)) fun d => hk _ _ _ (by dsimp only; omega)]
  rw [gate_blk, blk0 m c t r _ b r' hb hr]
  refine congrArg (· * _) (late_congr (fun k => score_congr (fun d => ?_) fun d => ?_) fun k => ?_)
  · exact blk0 m c t r _ b r' hb hr
  · exact blk1 m c t k _ b hb
  · exact blk1 m c t k _ b hb

theorem final (c : Dev nD)
    (hq : ∀ (b : Fin 8) (r : Fin 4096) (e : Fin 512), (e : ℕ) < 256 → Fin' ((m ((c : Thread nD τ).loc main_arg0) : FVec Ideal S8x4096x512 .f32) (ix3 b r e)))
    (hk : ∀ (b : Fin 8) (r : Fin 256) (e : Fin 512), (e : ℕ) < 256 → Fin' ((m ((c : Thread nD τ).loc main_arg1) : FVec Ideal S8x256x512 .f32) (ix3 b r e))) :
    (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]; unfold Gen.outsAt0; frame_out
  rw [View.readCov_eq_canon']
  have ht : t.val < 64 := t.isLt
  obtain ⟨r, e, rfl⟩ : ∃ (r : Fin 512) (e : Fin 256), y = ix3 0 r e := ⟨y 1, y 2, by blk_ext⟩
  refine (point m c t _ (fun i => ?_) hq hk r e ⟨t.val / 8, by omega⟩ ⟨t.val % 8 * 512 + r, by omega⟩ rfl rfl).trans ?_
  · canon_tiles x h
    all_goals
      have h0' := ((Rect.idx_unit_val (s := S512x256) ![0, 0] ![512, 256] _ i 0).symm.trans h0)
      have h1' := ((Rect.idx_unit_val (s := S512x256) ![0, 0] ![512, 256] _ i 1).symm.trans h1)
      obtain ⟨a, k, rfl⟩ : ∃ (a : Fin 512) (k : Fin 64), x = ix2 a k := ⟨x 0, x 1, by blk_ext⟩
      have hk := k.isLt
      replace h0' := (Nat.zero_add _).symm.trans h0'
      replace h1' := (Nat.zero_add _).symm.trans h1'
    · exact (head3 _ _ a k).trans (headcol_eq _ _ i _ _ _ _ h0' h1' (by dsimp only; omega))
    · exact (head2 _ _ a k).trans (headcol_eq _ _ i _ _ _ _ h0' h1' (by dsimp only; omega))
    · exact (head1 _ _ a k).trans (headcol_eq _ _ i _ _ _ _ h0' h1' (by dsimp only; omega))
    · exact (head0 _ _ a k).trans (headcol_eq _ _ i _ _ _ _ h0' (h1'.trans (Nat.zero_add _).symm) (by dsimp only; omega))
  · blk_ext [idx t]

end Cert.XattIdeal.RefValue

end
-- ==== Proof.XattClaims.lean ====
module

public import proofs.«01_k».proof.Defs
public import proofs.«01_k».proof.Proof.Gen.Xatt.Frame
public import proofs.«01_k».proof.Proof.Gen.XattIdeal.Frame
public import proofs.«01_k».proof.Proof.Gen.XattRefIdeal.Run
public import proofs.«01_k».proof.Proof.Gen.Pre_finite_scores
public import proofs.«01_k».proof.Proof.XattValue
public import Idealize.ShloMosaic.Lib.Claim

/-! The claims about the call `Xatt`: its frames, and that it computes what the reference does where the queries and the
keys are finite. -/

@[expose] public section

set_option maxRecDepth 16384
set_option maxHeartbeats 1600000

noncomputable section

namespace Cert.Proof

open Idealize.ShloMosaic Idealize.SL.Sem

theorem runXatt : Cert.quiescent_Xatt := fun m g _ => Cert.Xatt.Gen.frame m g

theorem runXattIdeal : Cert.quiescent_XattIdeal := fun m g _ => Cert.XattIdeal.Gen.frame m g

theorem runXattRef : Cert.quiescent_XattRefIdeal := fun m g _ =>
  Idealize.ShloMosaic.θ_run_mono (Cert.XattRefIdeal.Value.run m g) fun r h =>
    ⟨fun c => (h c).2, sem_eq_zero_of_no_sems (by decide) r.2⟩

theorem runXattIdealPre : Cert.quiescent_XattIdeal_pre_finite_scores := fun m g _ => Cert.XattIdeal.Gen.frame m g

theorem runXattRefPre : Cert.quiescent_XattRefIdeal_pre_finite_scores := fun m g _ =>
  Idealize.ShloMosaic.θ_run_mono (Cert.XattRefIdeal.Value.run m g) fun r h =>
    ⟨fun c => (h c).2, sem_eq_zero_of_no_sems (by decide) r.2⟩

open Idealize.ShloMosaic.ValueKit Cert.SoftmaxRow

/-- A value below the infinity in magnitude is finite. -/
theorem fin_of_abs {x : EReal} (h : max x (-x) < ⊤) : Fin' x := by
  rw [max_lt_iff] at h
  induction x using EReal.rec with
  | bot => simp at h
  | top => simp at h
  | coe r => exact ⟨r, rfl⟩

theorem fin_of_bit {x : EReal} (h : BitVec.ofBool (decide (FloatOps.absf (F := Ideal) (φ := .f32) x < Ideal.ofBits .f32 0x7F800000#32)) = 1#1) : Fin' x := by
  have ht : Ideal.ofBits .f32 0x7F800000#32 = ⊤ := by simp [Ideal.ofBits, Ideal.ieee]
  rw [ht] at h
  refine fin_of_abs (?_ : max x (-x) < ⊤)
  by_contra hn
  rw [decide_eq_false (show ¬ FloatOps.absf (F := Ideal) (φ := .f32) x < ⊤ from hn)] at h
  exact absurd h (by decide)

theorem query_fin (x : FVec Ideal Cert.Pre_finite_scores.S8x4096x512 .f32) (kv : FVec Ideal Cert.Pre_finite_scores.S8x256x512 .f32)
    (h : Cert.Pre_finite_scores.fn (F := Ideal) x kv = fun _ => 1#1) (b : Fin 8) (r : Fin 4096) (e : Fin 512) (he : (e : ℕ) < 256) :
    Fin' (x (ix3 b r e)) := by
  have h1 := congrFun h (ix3 b (⟨r, by omega⟩ : Fin 4352) (⟨e, he⟩ : Fin 256))
  pointwise [Cert.Pre_finite_scores.fn] at h1
  exact fin_of_bit h1

theorem key_fin (x : FVec Ideal Cert.Pre_finite_scores.S8x4096x512 .f32) (kv : FVec Ideal Cert.Pre_finite_scores.S8x256x512 .f32)
    (h : Cert.Pre_finite_scores.fn (F := Ideal) x kv = fun _ => 1#1) (b : Fin 8) (r : Fin 256) (e : Fin 512) (he : (e : ℕ) < 256) :
    Fin' (kv (ix3 b r e)) := by
  have h1 := congrFun h (ix3 b (⟨4096 + r, by omega⟩ : Fin 4352) (⟨e, he⟩ : Fin 256))
  pointwise [Cert.Pre_finite_scores.fn] at h1
  exact fin_of_bit h1

theorem sameXatt : Cert.algebraic_XattIdeal_XattRefIdeal_pre_finite_scores := by
  pair_intro
  · run_from Cert.XattIdeal.Gen.run_main m g
  · run_from Cert.XattRefIdeal.Value.run m' g'
    exact (Cert.XattIdeal.RefValue.final m c (query_fin _ _ (hpre c)) (key_fin _ _ (hpre c))).symm

end Cert.Proof

end
-- ==== Proof.MergeValue.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MergeIdeal.RefValue

open Idealize.ShloMosaic Idealize.ShloMosaic.TcCoe Idealize.SL.Sem
open Idealize.ShloMosaic.Pipeline (Dat)

section
open Cert.MergeRefIdeal Cert.MergeRefIdeal.Gen

/-- Rows of `x` divided by their root mean square, times the gains `g`. -/
def NORM (x : FVec Ideal S32768x1024 .f32) (g : FVec Ideal S1024 .f32) : FVec Ideal S32768x1024 .f32 :=
  mulf (mulf x
    (broadcastInDim S32768x1024 ![0, 1] bcast_S32768x1_S32768x1024_0_1
      (Host.rsqrt (addf (Host.divf (broadcastInDim S32768x1 ![0] bcast_S32768_S32768x1_0
        (Host.reduceAdd (mulf x x) (constant S_ .f32 0x00000000#32) reducesTo_S32768x1024_S32768_d1 h_S_))
        (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))

/-- The full projection of the normalized rows `h`. -/
def COLS (h : FVec Ideal S32768x1024 .f32) (w : FVec Ideal S1024x9668 .f32) : FVec Ideal S32768x9668 .f32 :=
  Host.dotGeneral dot_S32768x1024_S1024x9668_S32768x9668_1_0_0_1_n_n none h w

/-- The five gates: the logistic function of the projection's last 5 × 1024 columns. -/
def SIG (C : FVec Ideal S32768x9668 .f32) : FVec Ideal S32768x5x1024 .f32 :=
  shapeCast _ (Host.divf (broadcastInDim S32768x5120 ![] bcast_S_S32768x5120 (constant S_ .f32 0x3F800000#32))
    (addf (broadcastInDim S32768x5120 ![] bcast_S_S32768x5120 (constant S_ .f32 0x3F800000#32))
      (Host.exp (Host.negf (extractStridedSlice S32768x5120 ![0, 4548] C slices_S32768x9668_S32768x5120_0_4548)))))
    shapeCasts_S32768x5120_S32768x5x1024

/-- The gated sum of the five projected branches. -/
def MERG (C : FVec Ideal S32768x9668 .f32) (wb : FVec Ideal S5x256x1024 .f32) (y0 y1 y2 y3 y4 : FVec Ideal S32768x256 .f32) :
    FVec Ideal S32768x1024 .f32 :=
  addf (addf (addf (addf (mulf (shapeCast _ (extractStridedSlice S32768x1x1024 ![0, 0, 0] (SIG C) slices_S32768x5x1024_S32768x1x1024_0_0_0) shapeCasts_S32768x1x1024_S32768x1024)
      (Host.dotGeneral dot_S32768x256_S256x1024_S32768x1024_1_0_0_1_n_n none y0 (shapeCast _ (extractStridedSlice S1x256x1024 ![0, 0, 0] wb slices_S5x256x1024_S1x256x1024_0_0_0) shapeCasts_S1x256x1024_S256x1024)))
    (mulf (shapeCast _ (extractStridedSlice S32768x1x1024 ![0, 1, 0] (SIG C) slices_S32768x5x1024_S32768x1x1024_0_1_0) shapeCasts_S32768x1x1024_S32768x1024)
      (Host.dotGeneral dot_S32768x256_S256x1024_S32768x1024_1_0_0_1_n_n none y1 (shapeCast _ (extractStridedSlice S1x256x1024 ![1, 0, 0] wb slices_S5x256x1024_S1x256x1024_1_0_0) shapeCasts_S1x256x1024_S256x1024))))
    (mulf (shapeCast _ (extractStridedSlice S32768x1x1024 ![0, 2, 0] (SIG C) slices_S32768x5x1024_S32768x1x1024_0_2_0) shapeCasts_S32768x1x1024_S32768x1024)
      (Host.dotGeneral dot_S32768x256_S256x1024_S32768x1024_1_0_0_1_n_n none y2 (shapeCast _ (extractStridedSlice S1x256x1024 ![2, 0, 0] wb slices_S5x256x1024_S1x256x1024_2_0_0) shapeCasts_S1x256x1024_S256x1024))))
    (mulf (shapeCast _ (extractStridedSlice S32768x1x1024 ![0, 3, 0] (SIG C) slices_S32768x5x1024_S32768x1x1024_0_3_0) shapeCasts_S32768x1x1024_S32768x1024)
      (Host.dotGeneral dot_S32768x256_S256x1024_S32768x1024_1_0_0_1_n_n none y3 (shapeCast _ (extractStridedSlice S1x256x1024 ![3, 0, 0] wb slices_S5x256x1024_S1x256x1024_3_0_0) shapeCasts_S1x256x1024_S256x1024))))
    (mulf (shapeCast _ (extractStridedSlice S32768x1x1024 ![0, 4, 0] (SIG C) slices_S32768x5x1024_S32768x1x1024_0_4_0) shapeCasts_S32768x1x1024_S32768x1024)
      (Host.dotGeneral dot_S32768x256_S256x1024_S32768x1024_1_0_0_1_n_n none y4 (shapeCast _ (extractStridedSlice S1x256x1024 ![4, 0, 0] wb slices_S5x256x1024_S1x256x1024_4_0_0) shapeCasts_S1x256x1024_S256x1024)))

/-- The gated sum through the output matrix. -/
def OUTP (M : FVec Ideal S32768x1024 .f32) (wo : FVec Ideal S1024x1024 .f32) : FVec Ideal S32768x1024 .f32 :=
  Host.dotGeneral dot_S32768x1024_S1024x1024_S32768x1024_1_0_0_1_n_n none M wo

/-- The reference's result: the input plus the normalized output. -/
def REF (x : FVec Ideal S32768x1024 .f32) (g gp : FVec Ideal S1024 .f32) (w : FVec Ideal S1024x9668 .f32)
    (wb : FVec Ideal S5x256x1024 .f32) (wo : FVec Ideal S1024x1024 .f32) (y0 y1 y2 y3 y4 : FVec Ideal S32768x256 .f32) :
    FVec Ideal S32768x1024 .f32 :=
  addf x (NORM (OUTP (MERG (COLS (NORM x g) w) wb y0 y1 y2 y3 y4) wo) gp)

theorem REF_eq (m : (ℓ : Loc Cert.MergeRefIdeal.nD Cert.MergeRefIdeal.τ Cert.MergeRefIdeal.sig) → Buf (Elt Ideal) ℓ) (c : Dev Cert.MergeRefIdeal.nD) : Cert.MergeRefIdeal.Value.res_main_v70 m c
    = REF (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2))
      (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8))
      (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) := rfl

end

open Cert.MergeIdeal Cert.MergeIdeal.Gen

variable (m : (ℓ : Loc nD τ sig) → Buf (Elt Ideal) ℓ)

/-- Where each window's block lies at grid point `t`: row block `t` of `x`, of the branch outputs and of the result,
    the gains and the weights whole. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The body's output product over blocks. -/
abbrev KOUT (x0 : Vec Ideal S256x1024 .f32) (x1 x2 : Vec Ideal S1x1024 .f32) (x3 : Vec Ideal S1024x5120 .bf16)
    (x4 : Vec Ideal S5x256x1024 .bf16) (x5 : Vec Ideal S1024x1024 .bf16) (x6 x7 x8 x9 x10 : Vec Ideal S256x256 .f32) :
    FVec Ideal S256x1024 .f32 :=
  k0_pay8 (k0_pay11 x0 x1 x2 x3 x4 x5 x6 x7 x8 x9 x10) (k0_pay12 x0 x1 x2 x3 x4 x5 x6 x7 x8 x9 x10) (k0_pay13 x0 x1 x2 x3 x4 x5 x6 x7 x8 x9 x10) x9 (View.ld x4 r0_10) (View.ld x3 r0_11) x10 (View.ld x4 r0_12) x5

/-- A row against a column. -/
def dotE {n : ℕ} (f g : Fin n → EReal) : EReal := ∑ k, f k * g k

/-- An entry of the output product, when the blocks' entries are the arguments'. -/
theorem kout_apply (x0 : Vec Ideal S256x1024 .f32) (x1 x2 : Vec Ideal S1x1024 .f32) (x3 : Vec Ideal S1024x5120 .bf16)
    (x4 : Vec Ideal S5x256x1024 .bf16) (x5 : Vec Ideal S1024x1024 .bf16) (x6 x7 x8 x9 x10 : Vec Ideal S256x256 .f32)
    (C : FVec Ideal Cert.MergeRefIdeal.S32768x9668 .f32) (wb : FVec Ideal Cert.MergeRefIdeal.S5x256x1024 .f32)
    (wo : FVec Ideal Cert.MergeRefIdeal.S1024x1024 .f32) (y0 y1 y2 y3 y4 : FVec Ideal Cert.MergeRefIdeal.S32768x256 .f32)
    (y : Fin 256) (r : Fin 32768) (q : Fin 1024)
    (hC : ∀ (x : Fin 5120) (p : Fin 9668), (p : ℕ) = 4548 + x →
      dotE (fun k : Fin 1024 => k0_pay2 (F := Ideal) (View.ld x0 r0_0) (View.ld x1 r0_1) (ix2 y k)) (fun k : Fin 1024 => x3 (ix2 k x)) = C (ix2 r p))
    (hb : ∀ (i : Fin 5) (k : Fin 256) (x : Fin 1024), x4 (ix3 i k x) = wb (ix3 i k x))
    (ho : ∀ k x : Fin 1024, x5 (ix2 k x) = wo (ix2 k x))
    (h0 : ∀ k : Fin 256, x6 (ix2 y k) = y0 (ix2 r k)) (h1 : ∀ k : Fin 256, x7 (ix2 y k) = y1 (ix2 r k))
    (h2 : ∀ k : Fin 256, x8 (ix2 y k) = y2 (ix2 r k)) (h3 : ∀ k : Fin 256, x9 (ix2 y k) = y3 (ix2 r k))
    (h4 : ∀ k : Fin 256, x10 (ix2 y k) = y4 (ix2 r k)) :
    KOUT x0 x1 x2 x3 x4 x5 x6 x7 x8 x9 x10 (ix2 y q) = OUTP (MERG C wb y0 y1 y2 y3 y4) wo (ix2 r q) := by
  pointwise [k0_pay8, k0_pay12, k0_pay13, k0_pay11, k0_pay6, k0_pay7, k0_pay3, k0_pay4, k0_pay5, OUTP, MERG, SIG]
  have e0 := fun x : Fin 1024 => hC ⟨x, by omega⟩ ⟨4548 + x, by omega⟩ rfl
  have e1 := fun x : Fin 1024 => hC ⟨1024 + x, by omega⟩ ⟨4548 + (1024 + x), by omega⟩ rfl
  have e2 := fun x : Fin 1024 => hC ⟨2048 + x, by omega⟩ ⟨4548 + (2048 + x), by omega⟩ rfl
  have e3 := fun x : Fin 1024 => hC ⟨3072 + x, by omega⟩ ⟨4548 + (3072 + x), by omega⟩ rfl
  have e4 := fun x : Fin 1024 => hC ⟨4096 + x, by omega⟩ ⟨4548 + (4096 + x), by omega⟩ rfl
  simp only [dotE] at e0 e1 e2 e3 e4
  simp only [zero_sub, hb, ho, h0, h1, h2, h3, h4, e0, e1, e2, e3, e4]

/-- The reference's projection of the launch's arguments. -/
def CM (c : Dev nD) : FVec Ideal Cert.MergeRefIdeal.S32768x9668 .f32 :=
  COLS (NORM (m ((c : Thread nD τ).loc main_arg0)) (m ((c : Thread nD τ).loc main_arg1))) (m ((c : Thread nD τ).loc main_arg3))

/-- The reference's output product of the launch's arguments. -/
def OM (c : Dev nD) : FVec Ideal Cert.MergeRefIdeal.S32768x1024 .f32 :=
  OUTP (MERG (CM m c) (m ((c : Thread nD τ).loc main_arg4)) (m ((c : Thread nD τ).loc main_arg6)) (m ((c : Thread nD τ).loc main_arg7))
    (m ((c : Thread nD τ).loc main_arg8)) (m ((c : Thread nD τ).loc main_arg9)) (m ((c : Thread nD τ).loc main_arg10)))
    (m ((c : Thread nD τ).loc main_arg5))

theorem cols_apply (c : Dev nD) (t : Fin cfg0.N) (y : Fin 256) (r : Fin 32768) (hr : (r : ℕ) = t.val * 256 + y)
    (x : Fin 5120) (p : Fin 9668) (hp : (p : ℕ) = 4548 + x) :
    dotE (fun k : Fin 1024 => k0_pay2 (F := Ideal) (View.ld (iblk m c 0 t) r0_0) (View.ld (iblk m c 1 t) r0_1) (ix2 y k))
      (fun k : Fin 1024 => iblk m c 3 t (ix2 k x)) = CM m c (ix2 r p) := by
  unfold dotE
  pointwise [k0_pay2, CM, COLS, NORM]
  blk_point [iblk, V, idx t]

theorem blk4 (c : Dev nD) (t : Fin cfg0.N) (i : Fin 5) (k : Fin 256) (x : Fin 1024) :
    iblk m c 4 t (ix3 i k x) = m ((c : Thread nD τ).loc main_arg4) (ix3 i k x) := by
  blk_simp [iblk]
  entry_read
  pointwise
  blk_ext [idx t]

theorem blk5 (c : Dev nD) (t : Fin cfg0.N) (k x : Fin 1024) :
    iblk m c 5 t (ix2 k x) = m ((c : Thread nD τ).loc main_arg5) (ix2 k x) := by
  blk_simp [iblk]
  entry_read
  pointwise
  blk_ext [idx t]

theorem out_apply (c : Dev nD) (t : Fin cfg0.N) (y : Fin 256) (r : Fin 32768) (hr : (r : ℕ) = t.val * 256 + y) (q : Fin 1024) :
    KOUT (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 y q) = OM m c (ix2 r q) :=
  kout_apply _ _ _ _ _ _ _ _ _ _ _ _ _ _ _ _ _ _ _ y r q (cols_apply m c t y r hr) (blk4 m c t) (blk5 m c t)
    (fun k => by blk_ext [iblk, V, idx t]) (fun k => by blk_ext [iblk, V, idx t]) (fun k => by blk_ext [iblk, V, idx t])
    (fun k => by blk_ext [iblk, V, idx t]) (fun k => by blk_ext [iblk, V, idx t])

/-- The normalization and the residual, when the output products agree on the row. -/
theorem last_apply (x0 O : FVec Ideal S256x1024 .f32) (x2 : Vec Ideal S1x1024 .f32)
    (X P : FVec Ideal Cert.MergeRefIdeal.S32768x1024 .f32) (gp : FVec Ideal Cert.MergeRefIdeal.S1024 .f32)
    (y : S256x1024.Idx) (j : Cert.MergeRefIdeal.S32768x1024.Idx)
    (hO : ∀ q : Fin 1024, O (ix2 (y 0) q) = P (ix2 (j 0) q)) (hx : x0 y = X j)
    (hg : ∀ q : Fin 1024, x2 (ix2 0 q) = gp (ix1 q)) (h1 : (j 1 : ℕ) = y 1) :
    k0_pay1 (F := Ideal) x0 O (k0_pay9 x2) (mulf O O) y = addf X (NORM P gp) j := by
  have hj : j = ix2 (j 0) (y 1) := by rw [eq_ix2 j]; congr 1; exact Fin.ext h1
  have e : O y = P j := by rw [hj, eq_ix2 y]; exact hO (y 1)
  pointwise [k0_pay1, k0_pay9, NORM]
  have hk : j 1 = y 1 := Fin.ext h1
  have hg' : x2 (ix2 0 (y 1)) = gp (ix1 (y 1)) := hg (y 1)
  simp only [hO, hx, hk, e]
  rw [hg']

theorem point (c : Dev nD) (t : Fin cfg0.N) (y : S256x1024.Idx) (j : Cert.MergeRefIdeal.S32768x1024.Idx)
    (h0 : (j 0 : ℕ) = t.val * 256 + y 0) (h1 : (j 1 : ℕ) = y 1) :
    out0_11 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) y
      = addf (m ((c : Thread nD τ).loc main_arg0)) (NORM (OM m c) (m ((c : Thread nD τ).loc main_arg2))) j := by
  frame_out
  refine last_apply (iblk m c 0 t) _ (iblk m c 2 t) _ _ _ y j (fun q => out_apply m c t (y 0) (j 0) h0 q) ?_ ?_ h1
  · blk_ext [iblk, V, idx t]
  · intro q
    blk_simp [iblk]
    entry_read
    pointwise
    blk_ext [idx t]

theorem final (c : Dev nD) : (dats m 0 c).arrAt 11 cfg0.N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  show _ = addf (m ((c : Thread nD τ).loc main_arg0)) (NORM (OM m c) (m ((c : Thread nD τ).loc main_arg2)))
  refine (dats m 0 c).arrAt_eq_of_covers 11 _ (by decide +kernel) fun t hf y => ?_
  blk_simp
  rw [after0_11]
  refine point m c t y _ ?_ ?_
  all_goals (blk_simp [idx t] <;> try omega)

end Cert.MergeIdeal.RefValue

end
-- ==== Proof.MergeClaims.lean ====
module

public import proofs.«01_k».proof.Defs
public import proofs.«01_k».proof.Proof.Gen.Merge.Frame
public import proofs.«01_k».proof.Proof.MergeValue
public import Idealize.ShloMosaic.Lib.Claim

/-! The claims about the call `Merge`: its frames, and that its exact-arithmetic result is the reference's. -/

@[expose] public section

set_option maxRecDepth 16384
set_option maxHeartbeats 1600000

noncomputable section

namespace Cert.Proof

open Idealize.ShloMosaic Idealize.SL.Sem

theorem runMerge : Cert.quiescent_Merge := fun m g _ => Cert.Merge.Gen.frame m g

theorem runMergeIdeal : Cert.quiescent_MergeIdeal := fun m g _ => Cert.MergeIdeal.Gen.frame m g

theorem runMergeRef : Cert.quiescent_MergeRefIdeal := fun m g _ =>
  Idealize.ShloMosaic.θ_run_mono (Cert.MergeRefIdeal.Value.run m g) fun r h =>
    ⟨fun c => (h c).2, sem_eq_zero_of_no_sems (by decide) r.2⟩

theorem sameMerge : Cert.algebraic_MergeIdeal_MergeRefIdeal := by
  pair_intro
  · run_from Cert.MergeIdeal.Gen.run_main m g
  · run_from Cert.MergeRefIdeal.Value.run m' g'
    refine (Cert.MergeIdeal.RefValue.REF_eq m' c).trans ?_
    obtain ⟨h0, h1, h2, h3, h4, h5, h6, h7, h8, h9, h10⟩ := hagree c
    rw [h0, h1, h2, h3, h4, h5, h6, h7, h8, h9, h10]
    exact (Cert.MergeIdeal.RefValue.final m c).symm

end Cert.Proof

end
-- ==== Proof.ProjValue.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjIdeal.RefValue

open Idealize.ShloMosaic Idealize.ShloMosaic.TcCoe Idealize.SL.Sem
open Idealize.ShloMosaic.Pipeline (Dat)

section
open Cert.ProjRefIdeal Cert.ProjRefIdeal.Gen

/-- The reference's full projection: rows of `x` divided by their root mean square, times the gains `g`, times the
    whole input matrix `w`. -/
def COLS (x : FVec Ideal S32768x1024 .f32) (g : FVec Ideal S1024 .f32) (w : FVec Ideal S1024x9668 .f32) :
    FVec Ideal S32768x9668 .f32 :=
  Host.dotGeneral dot_S32768x1024_S1024x9668_S32768x9668_1_0_0_1_n_n none (mulf (mulf x
    (broadcastInDim S32768x1024 ![0, 1] bcast_S32768x1_S32768x1024_0_1
      (Host.rsqrt (addf (Host.divf (broadcastInDim S32768x1 ![0] bcast_S32768_S32768x1_0
        (Host.reduceAdd (mulf x x) (constant S_ .f32 0x00000000#32) reducesTo_S32768x1024_S32768_d1 h_S_))
        (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))) w

/-- The six results, cut out of the full projection `C`. -/
def REF3 (C : FVec Ideal S32768x9668 .f32) : FVec Ideal S32768x1152 .f32 :=
  extractStridedSlice S32768x1152 ![0, 0] C slices_S32768x9668_S32768x1152_0_0
def REF4 (C : FVec Ideal S32768x9668 .f32) : FVec Ideal S32768x1280 .f32 :=
  concatenate S32768x1280 1 [⟨S32768x1024, (extractStridedSlice S32768x1024 ![0, 0] (extractStridedSlice S32768x1348 ![0, 1152] C slices_S32768x9668_S32768x1348_0_1152) slices_S32768x1348_S32768x1024_0_0)⟩,
    ⟨S32768x256, (extractStridedSlice S32768x256 ![0, 1092] (extractStridedSlice S32768x1348 ![0, 1152] C slices_S32768x9668_S32768x1348_0_1152) slices_S32768x1348_S32768x256_0_1092)⟩] concatenates_S32768x1024_S32768x256_S32768x1280_d1
def REF5 (C : FVec Ideal S32768x9668 .f32) : FVec Ideal S32768x128 .f32 :=
  pad S32768x128 ![0, 0] ![0, 60] ![0, 0] (extractStridedSlice S32768x68 ![0, 1024] (extractStridedSlice S32768x1348 ![0, 1152] C slices_S32768x9668_S32768x1348_0_1152) slices_S32768x1348_S32768x68_0_1024)
    (sitofp .f32 (constantI S_ 32 0#32)) pads_S32768x68_S32768x128_000_0600 h_S_
def REF6 (C : FVec Ideal S32768x9668 .f32) : FVec Ideal S32768x1024 .f32 :=
  extractStridedSlice S32768x1024 ![0, 2500] C slices_S32768x9668_S32768x1024_0_2500
def REF7 (C : FVec Ideal S32768x9668 .f32) : FVec Ideal S32768x512 .f32 :=
  extractStridedSlice S32768x512 ![0, 3524] C slices_S32768x9668_S32768x512_0_3524
def REF8 (C : FVec Ideal S32768x9668 .f32) : FVec Ideal S32768x512 .f32 :=
  extractStridedSlice S32768x512 ![0, 4036] C slices_S32768x9668_S32768x512_0_4036

end

open Cert.ProjIdeal Cert.ProjIdeal.Gen

variable (m : (ℓ : Loc nD τ sig) → Buf (Elt Ideal) ℓ)

/-- The reference's full projection of the launch's arguments. -/
def CM (c : Dev nD) : FVec Ideal Cert.ProjRefIdeal.S32768x9668 .f32 :=
  COLS (m ((c : Thread nD τ).loc main_arg0)) (m ((c : Thread nD τ).loc main_arg1)) (m ((c : Thread nD τ).loc main_arg2))

/-- Where each window's block lies at grid point `t`: row block `t` of `x` and of every result, the gains and the
    weights whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

section
open Cert.ProjIdeal
/-- The weight columns as the kernel's host code lays them out: five column groups of `w` and sixty columns of zeros. -/
def WC (w : FVec Ideal S1024x9668 .f32) : FVec Ideal S1024x4608 .bf16 :=
  truncf .bf16 (concatenate S1024x4608 1 [⟨S1024x1152, extractStridedSlice S1024x1152 ![0, 0] w slices_S1024x9668_S1024x1152_0_0⟩,
    ⟨S1024x1024, extractStridedSlice S1024x1024 ![0, 1152] w slices_S1024x9668_S1024x1024_0_1152⟩,
    ⟨S1024x256, extractStridedSlice S1024x256 ![0, 2244] w slices_S1024x9668_S1024x256_0_2244⟩,
    ⟨S1024x68, extractStridedSlice S1024x68 ![0, 2176] w slices_S1024x9668_S1024x68_0_2176⟩,
    ⟨S1024x60, broadcastInDim S1024x60 ![] bcast_S_S1024x60 (constant S_ .f32 0x00000000#32)⟩,
    ⟨S1024x2048, extractStridedSlice S1024x2048 ![0, 2500] w slices_S1024x9668_S1024x2048_0_2500⟩]
    concatenates_S1024x1152_S1024x1024_S1024x256_S1024x68_S1024x60_S1024x2048_S1024x4608_d1) bitsLt_bf16_f32
end

theorem V7 (c : Dev nD) : V m c main_v7 = WC (m ((c : Thread nD τ).loc main_arg2)) := rfl

/-- A laid-out column that is column `q` of `w`. -/
theorem WC_col (w : FVec Ideal S1024x9668 .f32) (k : Fin 1024) (j : Fin 4608) (q : Fin 9668)
    (h : (j.val < 2176 ∧ q.val = j.val) ∨ (2176 ≤ j.val ∧ j.val < 2432 ∧ q.val = j.val + 68)
      ∨ (2432 ≤ j.val ∧ j.val < 2500 ∧ q.val + 256 = j.val) ∨ (2560 ≤ j.val ∧ q.val + 60 = j.val)) :
    WC w (ix2 k j) = w (ix2 k q) := by
  pointwise [WC]
  split_ifs <;> first | omega | (congr 2; apply Fin.ext; dsimp only; omega)

/-- The sixty columns of zeros. -/
theorem WC_zero (w : FVec Ideal S1024x9668 .f32) (k : Fin 1024) (j : Fin 4608) (h : 2500 ≤ j.val) (h' : j.val < 2560) :
    WC w (ix2 k j) = 0 := by
  pointwise [WC]
  split_ifs <;> first | omega | rfl

theorem blk0 (c : Dev nD) (t : Fin cfg0.N) (y : Fin 256) (r : Fin 32768) (k : Fin 1024) (h : (r : ℕ) = t.val * 256 + y) :
    iblk m c 0 t (ix2 y k) = m ((c : Thread nD τ).loc main_arg0) (ix2 r k) := by
  blk_ext [iblk, V, idx t]

theorem blk1 (c : Dev nD) (t : Fin cfg0.N) (k : Fin 1024) :
    iblk m c 1 t (ix2 0 k) = m ((c : Thread nD τ).loc main_arg1) (ix1 k) := by
  blk_simp [iblk]
  entry_read
  pointwise
  blk_ext [idx t]

theorem blk2 (c : Dev nD) (t : Fin cfg0.N) (k : Fin 1024) (j : Fin 4608) :
    iblk m c 2 t (ix2 k j) = WC (m ((c : Thread nD τ).loc main_arg2)) (ix2 k j) := by
  rw [← V7 m c]
  blk_ext [iblk, idx t]

/-- One entry of the normalized projection, from a row `x`, the gains `g` and a column `w`. -/
def entry (x g w : Fin 1024 → EReal) : EReal :=
  ∑ k : Fin 1024, x k * Ideal.rsqrt (Ideal.div (∑ k : Fin 1024, x k * x k) (Ideal.ofBits FTy.f32 0x44800000#32)
    + Ideal.ofBits FTy.f32 0x358637BD#32) * g k * w k

/-- Entry `(r, q)` of the full projection. -/
theorem CM_apply (c : Dev nD) (r : Fin 32768) (q : Fin 9668) : CM m c (ix2 r q)
    = entry (fun k => m ((c : Thread nD τ).loc main_arg0) (ix2 r k)) (fun k => m ((c : Thread nD τ).loc main_arg1) (ix1 k))
        (fun k => m ((c : Thread nD τ).loc main_arg2) (ix2 k q)) := by
  pointwise [CM, COLS]
  rfl

/-- Column `j` of the laid-out weights against row `y` of the block: entry `(r, q)` of the full projection. -/
theorem row_col (c : Dev nD) (t : Fin cfg0.N) (y : Fin 256) (j : Fin 4608) (r : Fin 32768) (q : Fin 9668)
    (hr : (r : ℕ) = t.val * 256 + y)
    (h : (j.val < 2176 ∧ q.val = j.val) ∨ (2176 ≤ j.val ∧ j.val < 2432 ∧ q.val = j.val + 68)
      ∨ (2432 ≤ j.val ∧ j.val < 2500 ∧ q.val + 256 = j.val) ∨ (2560 ≤ j.val ∧ q.val + 60 = j.val)) :
    entry (fun k => iblk m c 0 t (ix2 y k)) (fun k => iblk m c 1 t (ix2 0 k)) (fun k => iblk m c 2 t (ix2 k j))
      = CM m c (ix2 r q) := by
  rw [CM_apply]
  simp only [blk0 m c t y r _ hr, blk1 m c t, blk2 m c t, WC_col _ _ j q h]

/-- The columns of zeros against any row: zero. -/
theorem row_zero (c : Dev nD) (t : Fin cfg0.N) (y : Fin 256) (j : Fin 4608) (f : Fin 1024 → EReal)
    (h : 2500 ≤ j.val) (h' : j.val < 2560) : (∑ k : Fin 1024, f k * iblk m c 2 t (ix2 k j) : EReal) = 0 := by
  simp only [blk2 m c t, WC_zero _ _ j h h', mul_zero, Finset.sum_const_zero]

theorem point3 (c : Dev nD) (t : Fin cfg0.N) (y : S256x1152.Idx) (j : Cert.ProjRefIdeal.S32768x1152.Idx)
    (h0 : (j 0 : ℕ) = t.val * 256 + y 0) (h1 : (j 1 : ℕ) = y 1) :
    out0_3 (F := Ideal) (iblk m c 0 t) (iblk m c 1 t) (iblk m c 2 t) y = REF3 (CM m c) j := by
  frame_out
  pointwise [k0_pay4, k0_pay3, REF3]
  have hy : (y 1).val < 1152 := (y 1).isLt
  have hj : (j 1).val < 1152 := (j 1).isLt
  exact row_col m c t (y 0) ⟨(y 1).val, by omega⟩ (j 0) ⟨(j 1).val, by omega⟩ h0 (by dsimp only; omega)

theorem point4 (c : Dev nD) (t : Fin cfg0.N) (y : S256x1280.Idx) (j : Cert.ProjRefIdeal.S32768x1280.Idx)
    (h0 : (j 0 : ℕ) = t.val * 256 + y 0) (h1 : (j 1 : ℕ) = y 1) :
    out0_4 (F := Ideal) (iblk m c 0 t) (iblk m c 1 t) (iblk m c 2 t) y = REF4 (CM m c) j := by
  frame_out
  pointwise [k0_pay5, k0_pay3, REF4]
  have hy : (y 1).val < 1280 := (y 1).isLt
  have hj : (j 1).val < 1280 := (j 1).isLt
  by_cases hlt : (j 1).val < 1024
  · rw [dif_pos hlt]
    exact row_col m c t (y 0) ⟨1152 + (y 1).val, by omega⟩ (j 0) ⟨1152 + (j 1).val, by omega⟩ h0 (by dsimp only; omega)
  · rw [dif_neg hlt]
    exact row_col m c t (y 0) ⟨1152 + (y 1).val, by omega⟩ (j 0) ⟨1152 + (1092 + ((j 1).val - 1024)), by omega⟩ h0 (by dsimp only; omega)

theorem point5 (c : Dev nD) (t : Fin cfg0.N) (y : S256x128.Idx) (j : Cert.ProjRefIdeal.S32768x128.Idx)
    (h0 : (j 0 : ℕ) = t.val * 256 + y 0) (h1 : (j 1 : ℕ) = y 1) :
    out0_5 (F := Ideal) (iblk m c 0 t) (iblk m c 1 t) (iblk m c 2 t) y = REF5 (CM m c) j := by
  frame_out
  pointwise [k0_pay6, k0_pay3, REF5]
  have hy : (y 1).val < 128 := (y 1).isLt
  have hj : (j 1).val < 128 := (j 1).isLt
  split_ifs
  · exact row_col m c t (y 0) ⟨2432 + (y 1).val, by omega⟩ (j 0) ⟨1152 + (1024 + (j 1).val), by omega⟩ h0 (by dsimp only; omega)
  · refine (row_zero m c t (y 0) ⟨2432 + (y 1).val, by omega⟩ _ (by dsimp only; omega) (by dsimp only; omega)).trans ?_
    simp [FloatOps.sitofp]

theorem point7 (c : Dev nD) (t : Fin cfg0.N) (y : S256x512.Idx) (j : Cert.ProjRefIdeal.S32768x512.Idx)
    (h0 : (j 0 : ℕ) = t.val * 256 + y 0) (h1 : (j 1 : ℕ) = y 1) :
    out0_7 (F := Ideal) (iblk m c 0 t) (iblk m c 1 t) (iblk m c 2 t) y = REF7 (CM m c) j := by
  frame_out
  pointwise [k0_pay1, k0_pay8, k0_pay3, REF7]
  have hy : (y 1).val < 512 := (y 1).isLt
  have hj : (j 1).val < 512 := (j 1).isLt
  exact row_col m c t (y 0) ⟨3584 + (y 1).val, by omega⟩ (j 0) ⟨3524 + (j 1).val, by omega⟩ h0 (by dsimp only; omega)

theorem point6 (c : Dev nD) (t : Fin cfg0.N) (y : S256x1024.Idx) (j : Cert.ProjRefIdeal.S32768x1024.Idx)
    (h0 : (j 0 : ℕ) = t.val * 256 + y 0) (h1 : (j 1 : ℕ) = y 1) :
    out0_6 (F := Ideal) (iblk m c 0 t) (iblk m c 1 t) (iblk m c 2 t) y = REF6 (CM m c) j := by
  frame_out
  pointwise [k0_pay7, k0_pay3, REF6]
  have hy : (y 1).val < 1024 := (y 1).isLt
  have hj : (j 1).val < 1024 := (j 1).isLt
  exact row_col m c t (y 0) ⟨2560 + (y 1).val, by omega⟩ (j 0) ⟨2500 + (j 1).val, by omega⟩ h0 (by dsimp only; omega)

theorem point8 (c : Dev nD) (t : Fin cfg0.N) (y : S256x512.Idx) (j : Cert.ProjRefIdeal.S32768x512.Idx)
    (h0 : (j 0 : ℕ) = t.val * 256 + y 0) (h1 : (j 1 : ℕ) = y 1) :
    out0_8 (F := Ideal) (iblk m c 0 t) (iblk m c 1 t) (iblk m c 2 t) y = REF8 (CM m c) j := by
  frame_out
  pointwise [k0_pay2, k0_pay8, k0_pay3, REF8]
  have hy : (y 1).val < 512 := (y 1).isLt
  have hj : (j 1).val < 512 := (j 1).isLt
  exact row_col m c t (y 0) ⟨4096 + (y 1).val, by omega⟩ (j 0) ⟨4036 + (j 1).val, by omega⟩ h0 (by dsimp only; omega)

theorem final3 (c : Dev nD) : (dats m 0 c).arrAt 3 cfg0.N = REF3 (CM m c) := by
  refine (dats m 0 c).arrAt_eq_of_covers 3 _ (by decide +kernel) fun t hf y => ?_
  blk_simp
  rw [after0_3]
  refine point3 m c t y _ ?_ ?_
  all_goals (blk_simp [idx t] <;> try omega)

theorem final4 (c : Dev nD) : (dats m 0 c).arrAt 4 cfg0.N = REF4 (CM m c) := by
  refine (dats m 0 c).arrAt_eq_of_covers 4 _ (by decide +kernel) fun t hf y => ?_
  blk_simp
  rw [after0_4]
  refine point4 m c t y _ ?_ ?_
  all_goals (blk_simp [idx t] <;> try omega)

theorem final5 (c : Dev nD) : (dats m 0 c).arrAt 5 cfg0.N = REF5 (CM m c) := by
  refine (dats m 0 c).arrAt_eq_of_covers 5 _ (by decide +kernel) fun t hf y => ?_
  blk_simp
  rw [after0_5]
  refine point5 m c t y _ ?_ ?_
  all_goals (blk_simp [idx t] <;> try omega)

theorem final6 (c : Dev nD) : (dats m 0 c).arrAt 6 cfg0.N = REF6 (CM m c) := by
  refine (dats m 0 c).arrAt_eq_of_covers 6 _ (by decide +kernel) fun t hf y => ?_
  blk_simp
  rw [after0_6]
  refine point6 m c t y _ ?_ ?_
  all_goals (blk_simp [idx t] <;> try omega)

theorem final7 (c : Dev nD) : (dats m 0 c).arrAt 7 cfg0.N = REF7 (CM m c) := by
  refine (dats m 0 c).arrAt_eq_of_covers 7 _ (by decide +kernel) fun t hf y => ?_
  blk_simp
  rw [after0_7]
  refine point7 m c t y _ ?_ ?_
  all_goals (blk_simp [idx t] <;> try omega)

theorem final8 (c : Dev nD) : (dats m 0 c).arrAt 8 cfg0.N = REF8 (CM m c) := by
  refine (dats m 0 c).arrAt_eq_of_covers 8 _ (by decide +kernel) fun t hf y => ?_
  blk_simp
  rw [after0_8]
  refine point8 m c t y _ ?_ ?_
  all_goals (blk_simp [idx t] <;> try omega)

end Cert.ProjIdeal.RefValue

end
-- ==== Proof.ProjClaims.lean ====
module

public import proofs.«01_k».proof.Defs
public import proofs.«01_k».proof.Proof.Gen.Proj.Frame
public import proofs.«01_k».proof.Proof.ProjValue
public import Idealize.ShloMosaic.Lib.Claim

/-! The claims about the call `Proj`: its frames, and that its exact-arithmetic result is the reference's. -/

@[expose] public section

set_option maxRecDepth 16384
set_option maxHeartbeats 1600000

noncomputable section

namespace Cert.Proof

open Idealize.ShloMosaic Idealize.SL.Sem

theorem runProj : Cert.quiescent_Proj := fun m g _ => Cert.Proj.Gen.frame m g

theorem runProjIdeal : Cert.quiescent_ProjIdeal := fun m g _ => Cert.ProjIdeal.Gen.frame m g

theorem runProjRef : Cert.quiescent_ProjRefIdeal := fun m g _ =>
  Idealize.ShloMosaic.θ_run_mono (Cert.ProjRefIdeal.Value.run m g) fun r h =>
    ⟨fun c => (h c).2.2.2.2.2.2, sem_eq_zero_of_no_sems (by decide) r.2⟩

theorem sameProj : Cert.algebraic_ProjIdeal_ProjRefIdeal := by
  pair_intro
  · run_from Cert.ProjIdeal.Gen.run_main m g
  · run_from Cert.ProjRefIdeal.Value.run m' g'
    all_goals have h := (hagree c).2.2
    · first
      | exact (Cert.ProjIdeal.RefValue.final3 m c).symm
      | exact (congrArg (fun w => Cert.ProjIdeal.RefValue.REF3 (Cert.ProjIdeal.RefValue.COLS _ _ w)) h).trans (Cert.ProjIdeal.RefValue.final3 m c).symm
    · first
      | exact (Cert.ProjIdeal.RefValue.final4 m c).symm
      | exact (congrArg (fun w => Cert.ProjIdeal.RefValue.REF4 (Cert.ProjIdeal.RefValue.COLS _ _ w)) h).trans (Cert.ProjIdeal.RefValue.final4 m c).symm
    · first
      | exact (Cert.ProjIdeal.RefValue.final5 m c).symm
      | exact (congrArg (fun w => Cert.ProjIdeal.RefValue.REF5 (Cert.ProjIdeal.RefValue.COLS _ _ w)) h).trans (Cert.ProjIdeal.RefValue.final5 m c).symm
    · first
      | exact (Cert.ProjIdeal.RefValue.final6 m c).symm
      | exact (congrArg (fun w => Cert.ProjIdeal.RefValue.REF6 (Cert.ProjIdeal.RefValue.COLS _ _ w)) h).trans (Cert.ProjIdeal.RefValue.final6 m c).symm
    · first
      | exact (Cert.ProjIdeal.RefValue.final7 m c).symm
      | exact (congrArg (fun w => Cert.ProjIdeal.RefValue.REF7 (Cert.ProjIdeal.RefValue.COLS _ _ w)) h).trans (Cert.ProjIdeal.RefValue.final7 m c).symm
    · first
      | exact (Cert.ProjIdeal.RefValue.final8 m c).symm
      | exact (congrArg (fun w => Cert.ProjIdeal.RefValue.REF8 (Cert.ProjIdeal.RefValue.COLS _ _ w)) h).trans (Cert.ProjIdeal.RefValue.final8 m c).symm

end Cert.Proof

end
-- ==== Proof.MemProjValue.lean ====
module

public import proofs.«01_k».proof.Proof.Gen.MemProjIdeal.Value
public import proofs.«01_k».proof.Proof.Gen.MemProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MemProjIdeal.RefValue

open Idealize.ShloMosaic Idealize.ShloMosaic.TcCoe Idealize.SL.Sem
open Idealize.ShloMosaic.Pipeline (Dat)

section
open Cert.MemProjRefIdeal Cert.MemProjRefIdeal.Gen
/-- The reference's result as a function of its three arguments: rows of `x` divided by their root mean square,
    times the gains `g`, times the matrix `w`. -/
def REF (x : FVec Ideal S2048x1024 .f32) (g : FVec Ideal S1024 .f32) (w : FVec Ideal S1024x512 .f32) :
    FVec Ideal S2048x512 .f32 :=
  Host.dotGeneral dot_S2048x1024_S1024x512_S2048x512_1_0_0_1_n_n none (mulf (mulf x
    (broadcastInDim S2048x1024 ![0, 1] bcast_S2048x1_S2048x1024_0_1
      (Host.rsqrt (addf (Host.divf (broadcastInDim S2048x1 ![0] bcast_S2048_S2048x1_0
        (Host.reduceAdd (mulf x x) (constant S_ .f32 0x00000000#32) reducesTo_S2048x1024_S2048_d1 h_S_))
        (broadcastInDim S2048x1 ![] bcast_S_S2048x1 (constant S_ .f32 0x44800000#32)))
        (broadcastInDim S2048x1 ![] bcast_S_S2048x1 (constant S_ .f32 0x358637BD#32))))))
    (broadcastInDim S2048x1024 ![0, 1] bcast_S1x1024_S2048x1024_0_1
      (broadcastInDim S1x1024 ![1] bcast_S1024_S1x1024_1 g))) w
end

open Cert.MemProjIdeal Cert.MemProjIdeal.Gen

variable (m : (ℓ : Loc nD τ sig) → Buf (Elt Ideal) ℓ)

/-- Where each window's block lies at grid point `t`: row block `t` of `x` and of the result, the gains and the
    weights whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- One entry of block `t` as the body computes it is that entry of the reference. -/
theorem point (c : Dev nD) (t : Fin cfg0.N) (y : S256x512.Idx) (j : Cert.MemProjRefIdeal.S2048x512.Idx)
    (h0 : (j 0 : ℕ) = t.val * 256 + y 0) (h1 : (j 1 : ℕ) = y 1) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2)) j := by
  pointwise [k0_pay1, REF]
  blk_point [iblk, V, idx t]

theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  refine point m c t y _ ?_ ?_
  all_goals (blk_simp [idx t] <;> try omega)

end Cert.MemProjIdeal.RefValue

end
-- ==== Proof.MemProjClaims.lean ====
module

public import proofs.«01_k».proof.Defs
public import proofs.«01_k».proof.Proof.Gen.MemProj.Frame
public import proofs.«01_k».proof.Proof.MemProjValue
public import Idealize.ShloMosaic.Lib.Claim

/-! The claims about the call `MemProj`: its frames, and that its exact-arithmetic result is the reference's. -/

@[expose] public section

set_option maxRecDepth 16384
set_option maxHeartbeats 1600000

noncomputable section

namespace Cert.Proof

open Idealize.ShloMosaic Idealize.SL.Sem

theorem runMemProj : Cert.quiescent_MemProj := fun m g _ => Cert.MemProj.Gen.frame m g

theorem runMemProjIdeal : Cert.quiescent_MemProjIdeal := fun m g _ => Cert.MemProjIdeal.Gen.frame m g

theorem runMemProjRef : Cert.quiescent_MemProjRefIdeal := fun m g _ =>
  Idealize.ShloMosaic.θ_run_mono (Cert.MemProjRefIdeal.Value.run m g) fun r h =>
    ⟨fun c => (h c).2, sem_eq_zero_of_no_sems (by decide) r.2⟩

theorem sameMemProj : Cert.algebraic_MemProjIdeal_MemProjRefIdeal := by
  pair_intro
  · run_from Cert.MemProjIdeal.Gen.run_main m g
  · run_from Cert.MemProjRefIdeal.Value.run m' g'
    exact (Cert.MemProjIdeal.RefValue.final m c).symm

end Cert.Proof

end
-- ==== Proof.RopeValue.lean ====
module

public import proofs.«01_k».proof.Proof.Gen.RopeIdeal.Value
public import proofs.«01_k».proof.Proof.Gen.RopeRefIdeal.Run
public import Idealize.ShloMosaic.Lib.Pipeline.ValueKit
public import Idealize.ShloMosaic.Lib.Pointwise
public import Idealize.ShloMosaic.Lib.Claim

/-! The rotary tables: the kernel's two tables, read entry by entry, are the reference's. Both take the cosine and the
sine of position times frequency; the kernel repeats the frequencies four times and multiplies the sine by `-1` or `1`,
the reference repeats the finished tables and negates the sine. -/

@[expose] public section

set_option maxRecDepth 16384

noncomputable section

namespace Cert.RopeIdeal.RefValue

open Idealize.ShloMosaic Idealize.ShloMosaic.TcCoe Idealize.SL.Sem
open Idealize.ShloMosaic.Pipeline (Dat)

section
open Cert.RopeRefIdeal Cert.RopeRefIdeal.Gen

/-- The thirty-two frequencies. -/
def FREQ : FVec Ideal S32 .f32 :=
  Host.powf (broadcastInDim S32 ![] bcast_S_S32 (constant S_ .f32 0x461C4000#32)) (Host.divf (Host.negf (sitofp .f32 (iotaInDim S32 32 0)))
    (broadcastInDim S32 ![] bcast_S_S32 (constant S_ .f32 0x42000000#32)))

/-- Position times frequency. -/
def ANG (p : IVec S8x4096 32) : FVec Ideal S8x4096x32 .f32 :=
  mulf (broadcastInDim S8x4096x32 ![0, 1, 2] bcast_S8x4096x1_S8x4096x32_0_1_2 (broadcastInDim S8x4096x1 ![0, 1] bcast_S8x4096_S8x4096x1_0_1 (sitofp .f32 p)))
    (broadcastInDim S8x4096x32 ![0, 1, 2] bcast_S1x1x32_S8x4096x32_0_1_2 (broadcastInDim S1x1x32 ![2] bcast_S32_S1x1x32_2 FREQ))

/-- Two tables side by side, four times over. -/
def ALT (a b : FVec Ideal S8x4096x32 .f32) : FVec Ideal S8x4096x256 .f32 :=
  concatenate S8x4096x256 2 [⟨S8x4096x32, a⟩, ⟨S8x4096x32, b⟩, ⟨S8x4096x32, a⟩, ⟨S8x4096x32, b⟩, ⟨S8x4096x32, a⟩, ⟨S8x4096x32, b⟩, ⟨S8x4096x32, a⟩, ⟨S8x4096x32, b⟩] concatenates_S8x4096x32_S8x4096x32_S8x4096x32_S8x4096x32_S8x4096x32_S8x4096x32_S8x4096x32_S8x4096x32_S8x4096x256_d2

/-- The reference's cosines. -/
def COS (p : IVec S8x4096 32) : FVec Ideal S8x4096x256 .f32 := ALT (Host.cos (ANG p)) (Host.cos (ANG p))

/-- The reference's signed sines. -/
def SIN (p : IVec S8x4096 32) : FVec Ideal S8x4096x256 .f32 := ALT (Host.negf (Host.sin (ANG p))) (Host.sin (ANG p))

theorem ALT_apply (a b : FVec Ideal S8x4096x32 .f32) (i : Fin 8) (s : Fin 4096) (j : Fin 256) (l : Fin 32)
    (h : l.val = j.val % 32) : ALT a b (ix3 i s j) = if j.val % 64 < 32 then a (ix3 i s l) else b (ix3 i s l) := by
  pointwise [ALT]
  have e (k : ℕ) (hk : k < 32) (h' : k = j.val % 32) : (⟨k, hk⟩ : Fin 32) = l := Fin.ext (h'.trans h.symm)
  have hj := j.isLt
  by_cases h' : j.val % 64 < 32
  · rw [if_pos h']
    split_ifs <;> first | omega | (rw [e _ _ (by omega)])
  · rw [if_neg h']
    split_ifs <;> first | omega | (rw [e _ _ (by omega)])

end

section
open Cert.RopeIdeal Cert.RopeIdeal.Gen

variable (m : (ℓ : Loc nD τ sig) → Buf (Elt Ideal) ℓ)

/-- Where each window's block lies at grid point `t`. -/
theorem idx : ∀ t : Fin cfg0.N, win0_0.index t = ![t.val / 8, t.val % 8, 0] ∧ win0_1.index t = ![0, 0] ∧ win0_2.index t = ![0, 0]
    ∧ win0_3.index t = ![t.val / 8, t.val % 8, 0] ∧ win0_4.index t = ![t.val / 8, t.val % 8, 0] :=
  (by decide +kernel : ∀ t : Fin grid0.N, _)

theorem blk0 (c : Dev nD) (t : Fin cfg0.N) (y : Fin 512) (i : Fin 8) (s : Fin 4096) (hi : (i : ℕ) = t.val / 8)
    (hs : (s : ℕ) = t.val % 8 * 512 + y) :
    iblk m c 0 t (ix3 0 y 0) = m ((c : Thread nD τ).loc main_arg0) (ix2 i s) := by
  blk_simp [iblk]
  entry_read
  pointwise
  blk_ext [idx t]

theorem blk1 (c : Dev nD) (t : Fin cfg0.N) (j : Fin 128) (l : Fin 32) (h : l.val = j.val % 32) :
    iblk m c 1 t (ix2 0 j) = FREQ (ix1 l) := by
  blk_simp [iblk]
  entry_read
  pointwise [FREQ]
  blk_simp [idx t]
  rw [h]

theorem blk2 (c : Dev nD) (t : Fin cfg0.N) (j : Fin 128) :
    iblk m c 2 t (ix2 0 j) = if j.val % 64 < 32 then (-1 : EReal) else 1 := by
  blk_simp [iblk]
  entry_read
  pointwise
  blk_simp [idx t]
  rfl

theorem cos_apply (p : IVec Cert.RopeRefIdeal.S8x4096 32) (i : Fin 8) (s : Fin 4096) (j : Fin 256) (l : Fin 32) (h : l.val = j.val % 32) :
    COS p (ix3 i s j) = Ideal.cos (FloatOps.sitofp (F := Ideal) FTy.f32 (p (ix2 i s)) * FREQ (ix1 l)) := by
  rw [COS, ALT_apply _ _ i s j l h, ite_self]
  pointwise [ANG]

theorem sin_apply (p : IVec Cert.RopeRefIdeal.S8x4096 32) (i : Fin 8) (s : Fin 4096) (j : Fin 256) (l : Fin 32) (h : l.val = j.val % 32) :
    SIN p (ix3 i s j) = Ideal.sin (FloatOps.sitofp (F := Ideal) FTy.f32 (p (ix2 i s)) * FREQ (ix1 l))
      * (if j.val % 64 < 32 then (-1 : EReal) else 1) := by
  rw [SIN, ALT_apply _ _ i s j l h]
  split_ifs
  · rw [mul_neg_one]
    pointwise [ANG]
  · rw [mul_one]
    pointwise [ANG]

theorem point3 (c : Dev nD) (t : Fin cfg0.N) (y : Fin 512) (j : Fin 256) (i : Fin 8) (s : Fin 4096) (hi : (i : ℕ) = t.val / 8)
    (hs : (s : ℕ) = t.val % 8 * 512 + y) :
    out0_3 (F := Ideal) (iblk m c 0 t) (iblk m c 1 t) (iblk m c 2 t) (ix3 0 y j)
      = COS (m ((c : Thread nD τ).loc main_arg0)) (ix3 i s j) := by
  have hj := j.isLt
  rw [cos_apply _ i s j ⟨j.val % 32, by omega⟩ rfl, ← blk0 m c t y i s hi hs]
  have key (k : Fin 128) (h1 : k.val % 32 = j.val % 32) : iblk m c 1 t (ix2 0 k) = FREQ (ix1 ⟨j.val % 32, by omega⟩) :=
    blk1 m c t k _ h1.symm
  frame_out
  pointwise [k0_pay2, k0_pay1]
  split_ifs
  · rw [key _ rfl]
  · rw [key _ (by dsimp only; omega)]
  · exact absurd rfl ‹_›

theorem point4 (c : Dev nD) (t : Fin cfg0.N) (y : Fin 512) (j : Fin 256) (i : Fin 8) (s : Fin 4096) (hi : (i : ℕ) = t.val / 8)
    (hs : (s : ℕ) = t.val % 8 * 512 + y) :
    out0_4 (F := Ideal) (iblk m c 0 t) (iblk m c 1 t) (iblk m c 2 t) (ix3 0 y j)
      = SIN (m ((c : Thread nD τ).loc main_arg0)) (ix3 i s j) := by
  have hj := j.isLt
  rw [sin_apply _ i s j ⟨j.val % 32, by omega⟩ rfl, ← blk0 m c t y i s hi hs]
  have key (k : Fin 128) (h1 : k.val % 32 = j.val % 32) : iblk m c 1 t (ix2 0 k) = FREQ (ix1 ⟨j.val % 32, by omega⟩) :=
    blk1 m c t k _ h1.symm
  have sign (k : Fin 128) (h1 : k.val % 64 = j.val % 64) :
      iblk m c 2 t (ix2 0 k) = if j.val % 64 < 32 then (-1 : EReal) else 1 := by rw [blk2, h1]
  generalize iblk m c 0 t = a at *
  generalize iblk m c 1 t = b at *
  generalize iblk m c 2 t = d at *
  generalize (if j.val % 64 < 32 then (-1 : EReal) else 1) = e at *
  frame_out
  pointwise [k0_pay3, k0_pay1]
  by_cases h : j.val < 128
  · rw [dif_pos h, key _ rfl, sign _ rfl]
  · rw [dif_neg h, key _ (by dsimp only; omega), sign _ (by dsimp only; omega)]

theorem final3 (c : Dev nD) : (dats m 0 c).arrAt 3 cfg0.N = COS (m ((c : Thread nD τ).loc main_arg0)) := by
  refine (dats m 0 c).arrAt_eq_of_covers 3 _ (by decide +kernel) fun t hf y => ?_
  blk_simp
  rw [after0_3]
  have ht : t.val < 64 := t.isLt
  obtain ⟨r, e, rfl⟩ : ∃ (r : Fin 512) (e : Fin 256), y = ix3 0 r e := ⟨y 1, y 2, by blk_ext⟩
  refine (point3 m c t r e ⟨t.val / 8, by omega⟩ ⟨t.val % 8 * 512 + r, by omega⟩ rfl rfl).trans ?_
  blk_ext [idx t]

theorem final4 (c : Dev nD) : (dats m 0 c).arrAt 4 cfg0.N = SIN (m ((c : Thread nD τ).loc main_arg0)) := by
  refine (dats m 0 c).arrAt_eq_of_covers 4 _ (by decide +kernel) fun t hf y => ?_
  blk_simp
  rw [after0_4]
  have ht : t.val < 64 := t.isLt
  obtain ⟨r, e, rfl⟩ : ∃ (r : Fin 512) (e : Fin 256), y = ix3 0 r e := ⟨y 1, y 2, by blk_ext⟩
  refine (point4 m c t r e ⟨t.val / 8, by omega⟩ ⟨t.val % 8 * 512 + r, by omega⟩ rfl rfl).trans ?_
  blk_ext [idx t]

end

end Cert.RopeIdeal.RefValue

end
-- ==== Proof.RopeClaims.lean ====
module

public import proofs.«01_k».proof.Defs
public import proofs.«01_k».proof.Proof.Gen.Rope.Frame
public import proofs.«01_k».proof.Proof.RopeValue
public import Idealize.ShloMosaic.Lib.Claim

/-! The claims about the call `Rope`: its frames, and that its exact-arithmetic results are the reference's. -/

@[expose] public section

set_option maxRecDepth 16384
set_option maxHeartbeats 1600000

noncomputable section

namespace Cert.Proof

open Idealize.ShloMosaic Idealize.SL.Sem

theorem runRope : Cert.quiescent_Rope := fun m g _ => Cert.Rope.Gen.frame m g

theorem runRopeIdeal : Cert.quiescent_RopeIdeal := fun m g _ => Cert.RopeIdeal.Gen.frame m g

theorem runRopeRef : Cert.quiescent_RopeRefIdeal := fun m g _ =>
  Idealize.ShloMosaic.θ_run_mono (Cert.RopeRefIdeal.Value.run m g) fun r h =>
    ⟨fun c => (h c).2.2, sem_eq_zero_of_no_sems (by decide) r.2⟩

theorem sameRope : Cert.algebraic_RopeIdeal_RopeRefIdeal := by
  pair_intro
  · run_from Cert.RopeIdeal.Gen.run_main m g
  · run_from Cert.RopeRefIdeal.Value.run m' g'
    all_goals have h := hagree c
    · first
      | exact (Cert.RopeIdeal.RefValue.final3 m c).symm
      | exact (congrArg Cert.RopeIdeal.RefValue.COS h).trans (Cert.RopeIdeal.RefValue.final3 m c).symm
    · first
      | exact (Cert.RopeIdeal.RefValue.final4 m c).symm
      | exact (congrArg Cert.RopeIdeal.RefValue.SIN h).trans (Cert.RopeIdeal.RefValue.final4 m c).symm

end Cert.Proof

end
-- ==== Proof.Turn.lean ====
module

public import Idealize.ShloMosaic.Lib.Pointwise

/-! The rotary turn of 256 columns, four heads of 64: column `e` meets the column half a head away. -/

@[expose] public section

noncomputable section

namespace Cert.Rotary

open Idealize.ShloMosaic

/-- The column half a head away. -/
def swap (e : Fin 256) : Fin 256 :=
  if h : e.val % 64 < 32 then ⟨e.val + 32, by omega⟩ else ⟨e.val - 32, by omega⟩

theorem swap_lo (e : Fin 256) (h : e.val % 64 < 32) : (swap e).val = e.val + 32 := by rw [swap, dif_pos h]
theorem swap_hi (e : Fin 256) (h : ¬ e.val % 64 < 32) : (swap e).val = e.val - 32 := by rw [swap, dif_neg h]

/-- The turn of the columns `x` by the cosines `c` and the signed sines `s`. -/
def turn (x c s : Fin 256 → EReal) (e : Fin 256) : EReal := x e * c e + x (swap e) * s e

/-- The lane test of the kernels: bit five of the lane number is clear. -/
theorem lane_bit : ∀ n : Fin 256, IntOp.cmpi CmpIPredicate.slt (IntOp.andi (BitVec.ofNat 32 n.val) 63#32) 32#32
    = if n.val % 64 < 32 then 1#1 else 0#1 := by decide +kernel

/-- A choice by the lane test. -/
theorem lane_select (n : ℕ) (h : n < 256) (a b : EReal) :
    Scalar.select (IntOp.cmpi CmpIPredicate.slt (IntOp.andi (BitVec.ofNat 32 n) 63#32) 32#32) a b = if n % 64 < 32 then a else b := by
  rw [lane_bit ⟨n, h⟩]
  dsimp only
  split_ifs <;> rfl

/-- The kernels' turn: the two neighbours come from rotations of all 256 lanes by 224 and by 32. -/
theorem turn_rotated (x c s : Fin 256 → EReal) (e : Fin 256) (a b : EReal)
    (ha : e.val % 64 < 32 → a = x ⟨(e.val + 256 - 224) % 256, by omega⟩)
    (hb : ¬ e.val % 64 < 32 → b = x ⟨(e.val + 256 - 32) % 256, by omega⟩) :
    x e * c e + Scalar.select (IntOp.cmpi CmpIPredicate.slt (IntOp.andi (BitVec.ofNat 32 e.val) 63#32) 32#32) a b * s e
      = turn x c s e := by
  have he := e.isLt
  rw [lane_select _ e.isLt, turn]
  split_ifs with h
  · rw [ha h, show (⟨(e.val + 256 - 224) % 256, by omega⟩ : Fin 256) = swap e from Fin.ext (by rw [swap_lo e h]; dsimp only; omega)]
  · rw [hb h, show (⟨(e.val + 256 - 32) % 256, by omega⟩ : Fin 256) = swap e from Fin.ext (by rw [swap_hi e h]; dsimp only; omega)]

end Cert.Rotary

end
-- ==== Proof.PrepValue.lean ====
module

public import proofs.«01_k».proof.Proof.Gen.PrepIdeal.Value
public import proofs.«01_k».proof.Proof.Gen.PrepRefIdeal.Run
public import Idealize.ShloMosaic.Lib.Pipeline.ValueKit
public import Idealize.ShloMosaic.Lib.Pointwise
public import Idealize.ShloMosaic.Lib.Claim
public import proofs.«01_k».proof.Proof.Turn

/-! The preparation of the sparse attention: the kernel's five results, read entry by entry, are the reference's. -/

@[expose] public section

set_option maxRecDepth 16384

noncomputable section

namespace Cert.PrepIdeal.RefValue

open Idealize.ShloMosaic Idealize.ShloMosaic.TcCoe Idealize.SL.Sem
open Idealize.ShloMosaic.Pipeline (Dat)
open Cert.Rotary

section
open Cert.PrepRefIdeal Cert.PrepRefIdeal.Gen

/-- The reference's rotation of every head. -/
def TURN (X : FVec Ideal S8x4096x4x64 .f32) (cos sin : FVec Ideal S8x4096x256 .f32) : FVec Ideal S8x4096x4x64 .f32 :=
  addf (mulf X (shapeCast _ cos shapeCasts_S8x4096x256_S8x4096x4x64))
    (mulf (concatenate S8x4096x4x64 3 [⟨S8x4096x4x32, extractStridedSlice S8x4096x4x32 ![0, 0, 0, 32] X slices_S8x4096x4x64_S8x4096x4x32_0_0_0_32⟩,
      ⟨S8x4096x4x32, extractStridedSlice S8x4096x4x32 ![0, 0, 0, 0] X slices_S8x4096x4x64_S8x4096x4x32_0_0_0_0⟩] concatenates_S8x4096x4x32_S8x4096x4x32_S8x4096x4x64_d3)
      (shapeCast _ sin shapeCasts_S8x4096x256_S8x4096x4x64))

/-- Heads before positions, as the attention reads them. -/
def OUT (X : FVec Ideal S8x4096x4x64 .f32) : FVec Ideal S8x4x4096x64 .bf16 :=
  truncf .bf16 (transpose S8x4x4096x64 [0, 2, 1, 3] X transposes_S8x4096x4x64_S8x4x4096x64_0_2_1_3) bitsLt_bf16_f32

/-- The scaling by an eighth. -/
def EIGHTH : FVec Ideal S8x4096x4x64 .f32 := broadcastInDim S8x4096x4x64 ![] bcast_S_S8x4096x4x64 (constant S_ .f32 0x3E000000#32)

def REF4 (a : FVec Ideal S8x4096x1280 .f32) (cos sin : FVec Ideal S8x4096x256 .f32) : FVec Ideal S8x4x4096x64 .bf16 :=
  OUT (mulf (TURN (shapeCast _ (extractStridedSlice S8x4096x256 ![0, 0, 0] a slices_S8x4096x1280_S8x4096x256_0_0_0) shapeCasts_S8x4096x256_S8x4096x4x64) cos sin) EIGHTH)
def REF5 (a : FVec Ideal S8x4096x1280 .f32) (cos sin : FVec Ideal S8x4096x256 .f32) : FVec Ideal S8x4x4096x64 .bf16 :=
  OUT (TURN (shapeCast _ (extractStridedSlice S8x4096x256 ![0, 0, 256] a slices_S8x4096x1280_S8x4096x256_0_0_256) shapeCasts_S8x4096x256_S8x4096x4x64) cos sin)
def REF6 (a : FVec Ideal S8x4096x1280 .f32) : FVec Ideal S8x4x4096x64 .bf16 :=
  OUT (shapeCast _ (extractStridedSlice S8x4096x256 ![0, 0, 512] a slices_S8x4096x1280_S8x4096x256_0_0_512) shapeCasts_S8x4096x256_S8x4096x4x64)
def REF7 (a : FVec Ideal S8x4096x1280 .f32) (cos sin : FVec Ideal S8x4096x256 .f32) : FVec Ideal S8x4x4096x64 .bf16 :=
  OUT (mulf (TURN (shapeCast _ (extractStridedSlice S8x4096x256 ![0, 0, 768] a slices_S8x4096x1280_S8x4096x256_0_0_768) shapeCasts_S8x4096x256_S8x4096x4x64) cos sin) EIGHTH)
def REF8 (b : FVec Ideal S8x4096x128 .f32) (cos sin : FVec Ideal S8x4096x256 .f32) : FVec Ideal S8x4096x64 .bf16 :=
  truncf .bf16 (addf (mulf (extractStridedSlice S8x4096x64 ![0, 0, 0] b slices_S8x4096x128_S8x4096x64_0_0_0)
    (shapeCast _ (extractStridedSlice S8x4096x1x64 ![0, 0, 0, 0] (shapeCast _ cos shapeCasts_S8x4096x256_S8x4096x4x64) slices_S8x4096x4x64_S8x4096x1x64_0_0_0_0) shapeCasts_S8x4096x1x64_S8x4096x64))
    (mulf (concatenate S8x4096x64 2 [⟨S8x4096x32, (extractStridedSlice S8x4096x32 ![0, 0, 32] (extractStridedSlice S8x4096x64 ![0, 0, 0] b slices_S8x4096x128_S8x4096x64_0_0_0) slices_S8x4096x64_S8x4096x32_0_0_32)⟩,
      ⟨S8x4096x32, (extractStridedSlice S8x4096x32 ![0, 0, 0] (extractStridedSlice S8x4096x64 ![0, 0, 0] b slices_S8x4096x128_S8x4096x64_0_0_0) slices_S8x4096x64_S8x4096x32_0_0_0)⟩] concatenates_S8x4096x32_S8x4096x32_S8x4096x64_d2)
      (shapeCast _ (extractStridedSlice S8x4096x1x64 ![0, 0, 0, 0] (shapeCast _ sin shapeCasts_S8x4096x256_S8x4096x4x64) slices_S8x4096x4x64_S8x4096x1x64_0_0_0_0) shapeCasts_S8x4096x1x64_S8x4096x64))) bitsLt_bf16_f32

/-- The reference's rotation, entry by entry: column `e` of a position is entry `d` of head `h`. -/
theorem TURN_apply (X : FVec Ideal S8x4096x4x64 .f32) (cos sin : FVec Ideal S8x4096x256 .f32) (i : Fin 8) (s : Fin 4096)
    (g : Fin 256 → EReal) (hg : ∀ (h : Fin 4) (d : Fin 64) (e : Fin 256), e.val = h.val * 64 + d.val → X (ix4 i s h d) = g e)
    (h : Fin 4) (d : Fin 64) (e : Fin 256) (he : e.val = h.val * 64 + d.val) :
    TURN X cos sin (ix4 i s h d) = turn g (fun e => cos (ix3 i s e)) (fun e => sin (ix3 i s e)) e := by
  have hd := d.isLt
  pointwise [TURN]
  have e' (p : h.val * 64 + d.val < 256) : (⟨h.val * 64 + d.val, p⟩ : Fin 256) = e := Fin.ext he.symm
  rw [turn, hg h d e he, e']
  split_ifs with h1
  · rw [hg h _ (swap e) (by rw [swap_lo _ (by omega)]; dsimp only; omega)]
  · rw [hg h _ (swap e) (by rw [swap_hi _ (by omega)]; dsimp only; omega)]
  · exact absurd rfl ‹_›

theorem OUT_apply (X : FVec Ideal S8x4096x4x64 .f32) (i : Fin 8) (h : Fin 4) (s : Fin 4096) (d : Fin 64) :
    OUT X (ix4 i h s d) = X (ix4 i s h d) := by
  pointwise [OUT]

/-- The query's heads, the other index query's and the key's: turned columns `o` to `o + 255` of the projection. -/
theorem turned (a : FVec Ideal S8x4096x1280 .f32) (o : ℕ) (ho : o + 256 ≤ 1280) (hs : S8x4096x1280.Slices ![0, 0, o] S8x4096x256)
    (cos sin : FVec Ideal S8x4096x256 .f32) (i : Fin 8) (s : Fin 4096)
    (h : Fin 4) (d : Fin 64) (e : Fin 256) (he : e.val = h.val * 64 + d.val) :
    TURN (shapeCast _ (extractStridedSlice S8x4096x256 ![0, 0, o] a hs) shapeCasts_S8x4096x256_S8x4096x4x64) cos sin (ix4 i s h d)
      = turn (fun e => a (ix3 i s ⟨o + e.val, by omega⟩)) (fun e => cos (ix3 i s e)) (fun e => sin (ix3 i s e)) e := by
  refine TURN_apply _ cos sin i s _ (fun h d e he => ?_) h d e he
  pointwise
  simp only [he]

theorem REF4_apply (a : FVec Ideal S8x4096x1280 .f32) (cos sin : FVec Ideal S8x4096x256 .f32) (i : Fin 8) (s : Fin 4096)
    (h : Fin 4) (d : Fin 64) (e : Fin 256) (he : e.val = h.val * 64 + d.val) :
    REF4 a cos sin (ix4 i h s d) = turn (fun e => a (ix3 i s ⟨0 + e.val, by omega⟩)) (fun e => cos (ix3 i s e)) (fun e => sin (ix3 i s e)) e
      * Ideal.ofBits FTy.f32 0x3E000000#32 := by
  rw [REF4, OUT_apply, ← turned a 0 (by omega) slices_S8x4096x1280_S8x4096x256_0_0_0 cos sin i s h d e he]
  rfl

theorem REF5_apply (a : FVec Ideal S8x4096x1280 .f32) (cos sin : FVec Ideal S8x4096x256 .f32) (i : Fin 8) (s : Fin 4096)
    (h : Fin 4) (d : Fin 64) (e : Fin 256) (he : e.val = h.val * 64 + d.val) :
    REF5 a cos sin (ix4 i h s d) = turn (fun e => a (ix3 i s ⟨256 + e.val, by omega⟩)) (fun e => cos (ix3 i s e)) (fun e => sin (ix3 i s e)) e := by
  rw [REF5, OUT_apply, ← turned a 256 (by omega) slices_S8x4096x1280_S8x4096x256_0_0_256 cos sin i s h d e he]

theorem REF6_apply (a : FVec Ideal S8x4096x1280 .f32) (i : Fin 8) (s : Fin 4096)
    (h : Fin 4) (d : Fin 64) (e : Fin 256) (he : e.val = h.val * 64 + d.val) :
    REF6 a (ix4 i h s d) = a (ix3 i s ⟨512 + e.val, by omega⟩) := by
  rw [REF6, OUT_apply]
  pointwise
  simp only [he]

theorem REF7_apply (a : FVec Ideal S8x4096x1280 .f32) (cos sin : FVec Ideal S8x4096x256 .f32) (i : Fin 8) (s : Fin 4096)
    (h : Fin 4) (d : Fin 64) (e : Fin 256) (he : e.val = h.val * 64 + d.val) :
    REF7 a cos sin (ix4 i h s d) = turn (fun e => a (ix3 i s ⟨768 + e.val, by omega⟩)) (fun e => cos (ix3 i s e)) (fun e => sin (ix3 i s e)) e
      * Ideal.ofBits FTy.f32 0x3E000000#32 := by
  rw [REF7, OUT_apply, ← turned a 768 (by omega) slices_S8x4096x1280_S8x4096x256_0_0_768 cos sin i s h d e he]
  rfl

/-- The index key's one head is the first of two copies of a turn. -/
theorem REF8_apply (b : FVec Ideal S8x4096x128 .f32) (cos sin : FVec Ideal S8x4096x256 .f32) (i : Fin 8) (s : Fin 4096) (d : Fin 64) :
    REF8 b cos sin (ix3 i s d) = turn (fun e => b (ix3 i s ⟨e.val % 128, by omega⟩)) (fun e => cos (ix3 i s e)) (fun e => sin (ix3 i s e)) ⟨d.val, by omega⟩ := by
  have hd := d.isLt
  pointwise [REF8]
  rw [turn]
  split_ifs with h1
  · rw [show swap ⟨d.val, by omega⟩ = ⟨d.val + 32, by omega⟩ from Fin.ext (swap_lo _ (by dsimp only; omega))]
    simp only [Nat.add_comm 32]
    rw [show (⟨d.val, by omega⟩ : Fin 128) = ⟨d.val % 128, by omega⟩ from Fin.ext (by dsimp only; omega),
      show (⟨d.val + 32, by omega⟩ : Fin 128) = ⟨(d.val + 32) % 128, by omega⟩ from Fin.ext (by dsimp only; omega)]
  · rw [show swap ⟨d.val, by omega⟩ = ⟨d.val - 32, by omega⟩ from Fin.ext (swap_hi _ (by dsimp only; omega))]
    rw [show (⟨d.val, by omega⟩ : Fin 128) = ⟨d.val % 128, by omega⟩ from Fin.ext (by dsimp only; omega),
      show (⟨d.val - 32, by omega⟩ : Fin 128) = ⟨(d.val - 32) % 128, by omega⟩ from Fin.ext (by dsimp only; omega)]
  all_goals exact absurd rfl ‹_›

end

section
variable (m : (ℓ : Loc nD τ sig) → Buf (Elt Ideal) ℓ)
open Cert.PrepIdeal Cert.PrepIdeal.Gen

theorem q_col (v0 : Vec Ideal S1x512x1024 .f32) (v2 v4 : Vec Ideal S1x512x256 .f32) (r : Fin 512) (e : Fin 256) :
    k0_pay7 v0 v2 v4 (ix2 r e) = turn (fun e => v0 (ix3 0 r ⟨0 + e.val, by omega⟩)) (fun e => v2 (ix3 0 r e)) (fun e => v4 (ix3 0 r e)) e
      * Ideal.ofBits FTy.f32 0x3E000000#32 := by
  rw [← turn_rotated _ _ _ e _ _ (fun _ => rfl) (fun _ => rfl)]
  pointwise [k0_pay7, k0_pay4, k0_pay5, k0_pay6]

theorem k_col (v0 : Vec Ideal S1x512x1024 .f32) (v2 v4 : Vec Ideal S1x512x256 .f32) (r : Fin 512) (e : Fin 256) :
    k0_pay8 v0 v2 v4 (ix2 r e) = turn (fun e => v0 (ix3 0 r ⟨256 + e.val, by omega⟩)) (fun e => v2 (ix3 0 r e)) (fun e => v4 (ix3 0 r e)) e := by
  rw [← turn_rotated _ _ _ e _ _ (fun _ => rfl) (fun _ => rfl)]
  pointwise [k0_pay8, k0_pay4, k0_pay5, k0_pay6]

theorem v_col (v0 : Vec Ideal S1x512x1024 .f32) (r : Fin 512) (e : Fin 256) :
    k0_pay9 v0 (ix2 r e) = v0 (ix3 0 r ⟨512 + e.val, by omega⟩) := by
  pointwise [k0_pay9, k0_pay4]

theorem iq_col (v0 : Vec Ideal S1x512x1024 .f32) (v2 v4 : Vec Ideal S1x512x256 .f32) (r : Fin 512) (e : Fin 256) :
    k0_pay13 (k0_pay5 v2) (k0_pay6 v4) (k0_pay10 v0) k0_pay11 k0_pay12 (ix2 r e)
      = turn (fun e => v0 (ix3 0 r ⟨768 + e.val, by omega⟩)) (fun e => v2 (ix3 0 r e)) (fun e => v4 (ix3 0 r e)) e
      * Ideal.ofBits FTy.f32 0x3E000000#32 := by
  rw [← turn_rotated _ _ _ e _ _ (fun _ => rfl) (fun _ => rfl)]
  pointwise [k0_pay13, k0_pay10, k0_pay11, k0_pay12, k0_pay4, k0_pay5, k0_pay6]

theorem ik_col (v2 v4 : Vec Ideal S1x512x256 .f32) (v47 : Vec Ideal S1x512x128 .f32) (r : Fin 512) (d : Fin 64) :
    k0_pay14 (k0_pay5 v2) (k0_pay6 v4) v47 (ix2 r ⟨d.val, by omega⟩)
      = turn (fun e => v47 (ix3 0 r ⟨e.val % 128, by omega⟩)) (fun e => v2 (ix3 0 r e)) (fun e => v4 (ix3 0 r e)) ⟨d.val, by omega⟩ := by
  have hd := d.isLt
  rw [← turn_rotated (fun e => v47 (ix3 0 r ⟨e.val % 128, by omega⟩)) _ _ ⟨d.val, by omega⟩
    (v47 (ix3 0 r ⟨(d.val + 128 - 96) % 128, by omega⟩)) (v47 (ix3 0 r ⟨(d.val + 128 - 32) % 128, by omega⟩))
    (fun h => congrArg (fun n => v47 (ix3 0 r n)) (Fin.ext (by dsimp only at *; omega)))
    (fun h => congrArg (fun n => v47 (ix3 0 r n)) (Fin.ext (by dsimp only at *; omega)))]
  simp only [Nat.mod_eq_of_lt (show d.val < 128 by omega)]
  pointwise [k0_pay14, k0_pay5, k0_pay6]

/-- Where each window's block lies at grid point `t`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, 0, t.val % 8, 0] ∧ win0_5.index t = ![t.val / 8, 0, t.val % 8, 0]
    ∧ win0_6.index t = ![t.val / 8, 0, t.val % 8, 0] ∧ win0_7.index t = ![t.val / 8, 0, t.val % 8, 0]
    ∧ win0_8.index t = ![t.val / 8, t.val % 8, 0] :=
  (by decide +kernel : ∀ t : Fin grid0.N, _)

theorem blk0 (c : Dev nD) (t : Fin cfg0.N) (y : Fin 512) (e : Fin 1024) (i : Fin 8) (s : Fin 4096) (hi : (i : ℕ) = t.val / 8)
    (hs : (s : ℕ) = t.val % 8 * 512 + y) :
    X0_0 m c t (ix3 0 y e) = m ((c : Thread nD τ).loc main_arg0) (ix3 i s ⟨e.val, by omega⟩) := by
  unfold X0_0 Pipeline.Window.fill
  rw [dif_pos (moved0_0 t _)]
  blk_ext [iblk, V, idx t]

theorem blk1 (c : Dev nD) (t : Fin cfg0.N) (y : Fin 512) (e : Fin 128) (i : Fin 8) (s : Fin 4096) (hi : (i : ℕ) = t.val / 8)
    (hs : (s : ℕ) = t.val % 8 * 512 + y) :
    iblk m c 1 t (ix3 0 y e) = m ((c : Thread nD τ).loc main_arg1) (ix3 i s e) := by
  blk_ext [iblk, V, idx t]

theorem blk2 (c : Dev nD) (t : Fin cfg0.N) (y : Fin 512) (e : Fin 256) (i : Fin 8) (s : Fin 4096) (hi : (i : ℕ) = t.val / 8)
    (hs : (s : ℕ) = t.val % 8 * 512 + y) :
    iblk m c 2 t (ix3 0 y e) = m ((c : Thread nD τ).loc main_arg2) (ix3 i s e) := by
  blk_ext [iblk, V, idx t]

theorem blk3 (c : Dev nD) (t : Fin cfg0.N) (y : Fin 512) (e : Fin 256) (i : Fin 8) (s : Fin 4096) (hi : (i : ℕ) = t.val / 8)
    (hs : (s : ℕ) = t.val % 8 * 512 + y) :
    iblk m c 3 t (ix3 0 y e) = m ((c : Thread nD τ).loc main_arg3) (ix3 i s e) := by
  blk_ext [iblk, V, idx t]

/-- Entry `(h, r, d)` of an output block lies in the tile of head `h`, whose payload is sixty-four columns of `v`. -/
theorem tile_eq (v : FVec Ideal S512x256 .f32) (p : FVec Ideal S1x1x512x64 .bf16) (o : ℕ)
    (hp : ∀ (r : Fin 512) (d : Fin 64) (e : Fin 256), e.val = o + d.val → p (ix4 0 0 r d) = v (ix2 r e))
    (x : S1x1x512x64.Idx) (h : Fin 4) (r : Fin 512) (d : Fin 64) (e : Fin 256)
    (he : e.val = o + d.val) (h2 : r.val = (x 2).val) (h3 : d.val = (x 3).val) : p x = v (ix2 r e) := by
  obtain rfl : r = x 2 := Fin.ext h2
  obtain rfl : d = x 3 := Fin.ext h3
  rw [← hp (x 2) (x 3) e he]
  blk_ext

theorem final4 (c : Dev nD) : (dats m 0 c).arrAt 4 cfg0.N
    = REF4 (m ((c : Thread nD τ).loc main_arg0)) (m ((c : Thread nD τ).loc main_arg2)) (m ((c : Thread nD τ).loc main_arg3)) := by
  refine (dats m 0 c).arrAt_eq_of_covers 4 _ (by decide +kernel) fun t hf y => ?_
  blk_simp
  rw [after0_4]; unfold Gen.outsAt0; frame_out
  have ht : t.val < 64 := t.isLt
  obtain ⟨h, r, d, rfl⟩ : ∃ (h : Fin 4) (r : Fin 512) (d : Fin 64), y = ix4 0 h r d := ⟨y 1, y 2, y 3, by blk_ext⟩
  have hh := h.isLt
  have hd := d.isLt
  refine Eq.trans (b := k0_pay7 (X0_0 m c t) (iblk m c 2 t) (iblk m c 3 t) (ix2 r (⟨h.val * 64 + d.val, by omega⟩ : Fin 256))) ?_ ?_
  · canon_tiles x hx
    · exact tile_eq _ _ 192 (fun r d e he => by (pointwise [k0_pay29, k0_pay25, k0_pay24, k0_pay20, k0_pay15]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 128 (fun r d e he => by (pointwise [k0_pay29, k0_pay25, k0_pay24, k0_pay20, k0_pay15]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 64 (fun r d e he => by (pointwise [k0_pay29, k0_pay25, k0_pay24, k0_pay20, k0_pay15]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 0 (fun r d e he => by (pointwise [k0_pay29, k0_pay25, k0_pay24, k0_pay20, k0_pay15]; exact congrArg _ (congrArg (ix2 r) (Fin.ext (by first | exact he.symm | exact (he.trans (Nat.zero_add _)).symm))))) x h r d _ (by (have hx := hx1; have := x1_lt; change h.val = _ at hx; dsimp only; omega)) hx2 hx3
  · rw [q_col]
    simp only [blk0 m c t r _ ⟨t.val / 8, by omega⟩ ⟨t.val % 8 * 512 + r, by omega⟩ rfl rfl,
      blk2 m c t r _ ⟨t.val / 8, by omega⟩ ⟨t.val % 8 * 512 + r, by omega⟩ rfl rfl, blk3 m c t r _ ⟨t.val / 8, by omega⟩ ⟨t.val % 8 * 512 + r, by omega⟩ rfl rfl]
    refine (REF4_apply _ _ _ ⟨t.val / 8, by omega⟩ ⟨t.val % 8 * 512 + r, by omega⟩ h d ⟨h.val * 64 + d.val, by omega⟩ rfl).symm.trans ?_
    blk_ext [idx t]

theorem final5 (c : Dev nD) : (dats m 0 c).arrAt 5 cfg0.N
    = REF5 (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5]; unfold Gen.outsAt0; frame_out
  have ht : t.val < 64 := t.isLt
  obtain ⟨h, r, d, rfl⟩ : ∃ (h : Fin 4) (r : Fin 512) (d : Fin 64), y = ix4 0 h r d := ⟨y 1, y 2, y 3, by blk_ext⟩
  have hh := h.isLt
  have hd := d.isLt
  refine Eq.trans (b := k0_pay8 (X0_0 m c t) (iblk m c 2 t) (iblk m c 3 t) (ix2 r (⟨h.val * 64 + d.val, by omega⟩ : Fin 256))) ?_ ?_
  · canon_tiles x hx
    · exact tile_eq _ _ 192 (fun r d e he => by (pointwise [k0_pay30, k0_pay26, k0_pay21, k0_pay16]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 128 (fun r d e he => by (pointwise [k0_pay30, k0_pay26, k0_pay21, k0_pay16]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 64 (fun r d e he => by (pointwise [k0_pay30, k0_pay26, k0_pay21, k0_pay16]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 0 (fun r d e he => by (pointwise [k0_pay30, k0_pay26, k0_pay21, k0_pay16]; exact congrArg _ (congrArg (ix2 r) (Fin.ext (by first | exact he.symm | exact (he.trans (Nat.zero_add _)).symm))))) x h r d _ (by (have hx := hx1; have := x1_lt; change h.val = _ at hx; dsimp only; omega)) hx2 hx3
  · rw [k_col]
    simp only [blk0 m c t r _ ⟨t.val / 8, by omega⟩ ⟨t.val % 8 * 512 + r, by omega⟩ rfl rfl,
      blk2 m c t r _ ⟨t.val / 8, by omega⟩ ⟨t.val % 8 * 512 + r, by omega⟩ rfl rfl, blk3 m c t r _ ⟨t.val / 8, by omega⟩ ⟨t.val % 8 * 512 + r, by omega⟩ rfl rfl]
    refine (REF5_apply _ _ _ ⟨t.val / 8, by omega⟩ ⟨t.val % 8 * 512 + r, by omega⟩ h d ⟨h.val * 64 + d.val, by omega⟩ rfl).symm.trans ?_
    blk_ext [idx t]

theorem final6 (c : Dev nD) : (dats m 0 c).arrAt 6 cfg0.N
    = REF6 (m ((c : Thread nD τ).loc main_arg0)) := by
  refine (dats m 0 c).arrAt_eq_of_covers 6 _ (by decide +kernel) fun t hf y => ?_
  blk_simp
  rw [after0_6]; unfold Gen.outsAt0; frame_out
  have ht : t.val < 64 := t.isLt
  obtain ⟨h, r, d, rfl⟩ : ∃ (h : Fin 4) (r : Fin 512) (d : Fin 64), y = ix4 0 h r d := ⟨y 1, y 2, y 3, by blk_ext⟩
  have hh := h.isLt
  have hd := d.isLt
  refine Eq.trans (b := k0_pay9 (X0_0 m c t) (ix2 r (⟨h.val * 64 + d.val, by omega⟩ : Fin 256))) ?_ ?_
  · canon_tiles x hx
    · exact tile_eq _ _ 192 (fun r d e he => by (pointwise [k0_pay1, k0_pay31, k0_pay27, k0_pay22, k0_pay18, k0_pay17]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 128 (fun r d e he => by (pointwise [k0_pay1, k0_pay31, k0_pay27, k0_pay22, k0_pay18, k0_pay17]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 64 (fun r d e he => by (pointwise [k0_pay1, k0_pay31, k0_pay27, k0_pay22, k0_pay18, k0_pay17]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 0 (fun r d e he => by (pointwise [k0_pay1, k0_pay31, k0_pay27, k0_pay22, k0_pay18, k0_pay17]; exact congrArg _ (congrArg (ix2 r) (Fin.ext (by first | exact he.symm | exact (he.trans (Nat.zero_add _)).symm))))) x h r d _ (by (have hx := hx1; have := x1_lt; change h.val = _ at hx; dsimp only; omega)) hx2 hx3
  · rw [v_col]
    simp only [blk0 m c t r _ ⟨t.val / 8, by omega⟩ ⟨t.val % 8 * 512 + r, by omega⟩ rfl rfl]
    refine (REF6_apply _ ⟨t.val / 8, by omega⟩ ⟨t.val % 8 * 512 + r, by omega⟩ h d ⟨h.val * 64 + d.val, by omega⟩ rfl).symm.trans ?_
    blk_ext [idx t]

theorem final7 (c : Dev nD) : (dats m 0 c).arrAt 7 cfg0.N
    = REF7 (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  rw [after0_7]; unfold Gen.outsAt0; frame_out
  have ht : t.val < 64 := t.isLt
  obtain ⟨h, r, d, rfl⟩ : ∃ (h : Fin 4) (r : Fin 512) (d : Fin 64), y = ix4 0 h r d := ⟨y 1, y 2, y 3, by blk_ext⟩
  have hh := h.isLt
  have hd := d.isLt
  refine Eq.trans (b := k0_pay13 (k0_pay5 (iblk m c 2 t)) (k0_pay6 (iblk m c 3 t)) (k0_pay10 (X0_0 m c t)) k0_pay11 k0_pay12 (ix2 r (⟨h.val * 64 + d.val, by omega⟩ : Fin 256))) ?_ ?_
  · canon_tiles x hx
    · exact tile_eq _ _ 192 (fun r d e he => by (pointwise [k0_pay2, k0_pay28, k0_pay23, k0_pay19]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 128 (fun r d e he => by (pointwise [k0_pay2, k0_pay28, k0_pay23, k0_pay19]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 64 (fun r d e he => by (pointwise [k0_pay2, k0_pay28, k0_pay23, k0_pay19]; exact congrArg _ (congrArg (ix2 r) (Fin.ext (by first | exact he.symm | exact (he.trans (Nat.zero_add _)).symm))))) x h r d _ (by (have hx := hx1; have := x1_lt; change h.val = _ at hx; dsimp only; omega)) hx2 hx3
    · exact tile_eq _ _ 0 (fun r d e he => by (pointwise [k0_pay2, k0_pay28, k0_pay23, k0_pay19]; exact congrArg _ (congrArg (ix2 r) (Fin.ext (by first | exact he.symm | exact (he.trans (Nat.zero_add _)).symm))))) x h r d _ (by (have hx := hx1; have := x1_lt; change h.val = _ at hx; dsimp only; omega)) hx2 hx3
  · rw [iq_col]
    simp only [blk0 m c t r _ ⟨t.val / 8, by omega⟩ ⟨t.val % 8 * 512 + r, by omega⟩ rfl rfl,
      blk2 m c t r _ ⟨t.val / 8, by omega⟩ ⟨t.val % 8 * 512 + r, by omega⟩ rfl rfl, blk3 m c t r _ ⟨t.val / 8, by omega⟩ ⟨t.val % 8 * 512 + r, by omega⟩ rfl rfl]
    refine (REF7_apply _ _ _ ⟨t.val / 8, by omega⟩ ⟨t.val % 8 * 512 + r, by omega⟩ h d ⟨h.val * 64 + d.val, by omega⟩ rfl).symm.trans ?_
    blk_ext [idx t]

theorem final8 (c : Dev nD) : (dats m 0 c).arrAt 8 cfg0.N
    = REF8 (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]; unfold Gen.outsAt0; frame_out
  have ht : t.val < 64 := t.isLt
  obtain ⟨r, d, rfl⟩ : ∃ (r : Fin 512) (d : Fin 64), y = ix3 0 r d := ⟨y 1, y 2, by blk_ext⟩
  have hd := d.isLt
  refine Eq.trans (b := k0_pay14 (k0_pay5 (iblk m c 2 t)) (k0_pay6 (iblk m c 3 t)) (iblk m c 1 t) (ix2 r (⟨d.val, by omega⟩ : Fin 128))) ?_ ?_
  · pointwise [k0_pay3]
  · rw [ik_col]
    simp only [blk1 m c t r _ ⟨t.val / 8, by omega⟩ ⟨t.val % 8 * 512 + r, by omega⟩ rfl rfl,
      blk2 m c t r _ ⟨t.val / 8, by omega⟩ ⟨t.val % 8 * 512 + r, by omega⟩ rfl rfl, blk3 m c t r _ ⟨t.val / 8, by omega⟩ ⟨t.val % 8 * 512 + r, by omega⟩ rfl rfl]
    refine (REF8_apply _ _ _ ⟨t.val / 8, by omega⟩ ⟨t.val % 8 * 512 + r, by omega⟩ d).symm.trans ?_
    blk_ext [idx t]

end

end Cert.PrepIdeal.RefValue

end
-- ==== Proof.PrepClaims.lean ====
module

public import proofs.«01_k».proof.Defs
public import proofs.«01_k».proof.Proof.Gen.Prep.Frame
public import proofs.«01_k».proof.Proof.PrepValue
public import Idealize.ShloMosaic.Lib.Claim

/-! The claims about the call `Prep`: its frames, and that its exact-arithmetic results are the reference's. -/

@[expose] public section

set_option maxRecDepth 16384
set_option maxHeartbeats 1600000

noncomputable section

namespace Cert.Proof

open Idealize.ShloMosaic Idealize.SL.Sem

theorem runPrep : Cert.quiescent_Prep := fun m g _ => Cert.Prep.Gen.frame m g

theorem runPrepIdeal : Cert.quiescent_PrepIdeal := fun m g _ => Cert.PrepIdeal.Gen.frame m g

theorem runPrepRef : Cert.quiescent_PrepRefIdeal := fun m g _ =>
  Idealize.ShloMosaic.θ_run_mono (Cert.PrepRefIdeal.Value.run m g) fun r h =>
    ⟨fun c => (h c).2.2.2.2.2, sem_eq_zero_of_no_sems (by decide) r.2⟩

theorem samePrep : Cert.algebraic_PrepIdeal_PrepRefIdeal := by
  pair_intro
  · run_from Cert.PrepIdeal.Gen.run_main m g
  · run_from Cert.PrepRefIdeal.Value.run m' g'
    all_goals obtain ⟨h0, h1, h2, h3⟩ := hagree c
    · first
      | exact (Cert.PrepIdeal.RefValue.final4 m c).symm
      | exact (congr (congr (congrArg Cert.PrepIdeal.RefValue.REF4 h0) h2) h3).trans (Cert.PrepIdeal.RefValue.final4 m c).symm
    · first
      | exact (Cert.PrepIdeal.RefValue.final5 m c).symm
      | exact (congr (congr (congrArg Cert.PrepIdeal.RefValue.REF5 h0) h2) h3).trans (Cert.PrepIdeal.RefValue.final5 m c).symm
    · first
      | exact (Cert.PrepIdeal.RefValue.final6 m c).symm
      | exact (congrArg Cert.PrepIdeal.RefValue.REF6 h0).trans (Cert.PrepIdeal.RefValue.final6 m c).symm
    · first
      | exact (Cert.PrepIdeal.RefValue.final7 m c).symm
      | exact (congr (congr (congrArg Cert.PrepIdeal.RefValue.REF7 h0) h2) h3).trans (Cert.PrepIdeal.RefValue.final7 m c).symm
    · rw [h1]
      exact (Cert.PrepIdeal.RefValue.final8 m c).symm

end Cert.Proof

end
-- ==== Proof.Retention.lean ====
module

public import proofs.«01_k».proof.Proof.Turn
public import Idealize.ShloMosaic.Lib.Pointwise

/-! One head of the chunked retention: what a chunk puts out and what it leaves in the state. -/

@[expose] public section

noncomputable section

namespace Cert.Retention

open Idealize.ShloMosaic

/-- A chunk's output: the decayed scores within the chunk, and the state read by the queries. -/
def out (q k v : Fin 256 → Fin 64 → EReal) (dm : Fin 256 → Fin 256 → EReal) (qd : Fin 256 → Fin 64 → EReal)
    (s : Fin 64 → Fin 64 → EReal) (a : Fin 256) (e : Fin 64) : EReal :=
  (∑ l : Fin 256, (∑ d : Fin 64, q a d * k l d) * dm a l * v l e) + (∑ d : Fin 64, q a d * s d e) * qd a e

/-- The state after a chunk. -/
def next (k v : Fin 256 → Fin 64 → EReal) (kd : Fin 256 → Fin 64 → EReal) (cd : Fin 64 → EReal)
    (s : Fin 64 → Fin 64 → EReal) (d e : Fin 64) : EReal :=
  s d e * cd e + ∑ l : Fin 256, k l d * kd l d * v l e

/-- The state before chunk `n`, chunk `n` having the keys `k n` and the values `v n`. -/
def state (k v : ℕ → Fin 256 → Fin 64 → EReal) (kd : Fin 256 → Fin 64 → EReal) (cd : Fin 64 → EReal) : ℕ → Fin 64 → Fin 64 → EReal
  | 0 => fun _ _ => 0
  | n + 1 => next (k n) (v n) kd cd (state k v kd cd n)

/-- The chunk's output, headed and normed: `y` are the outputs of one position, `g` is the gate. -/
def norm (y : Fin 64 → EReal) (w g : EReal) (e : Fin 64) : EReal :=
  (y e - Ideal.div (∑ j, y j) (Ideal.ofBits FTy.f32 0x42800000#32))
    * Ideal.rsqrt (Ideal.div (∑ j, (y j - Ideal.div (∑ j, y j) (Ideal.ofBits FTy.f32 0x42800000#32)) * (y j - Ideal.div (∑ j, y j) (Ideal.ofBits FTy.f32 0x42800000#32)))
        (Ideal.ofBits FTy.f32 0x42800000#32) + Ideal.ofBits FTy.f32 0x358637BD#32) * w
    * (g * Ideal.div 1 (1 + Ideal.exp (-g)))

section
open Cert.Rotary
variable (x : FVec Ideal ⟨3, ![8, 4096, 1024]⟩ .f32) (cos sin : FVec Ideal ⟨3, ![8, 4096, 256]⟩ .f32) (dm : FVec Ideal ⟨3, ![4, 256, 256]⟩ .f32)
  (qd kd : FVec Ideal ⟨2, ![256, 256]⟩ .f32) (cd : FVec Ideal ⟨2, ![1, 256]⟩ .f32) (w : FVec Ideal ⟨1, ![256]⟩ .f32)

/-- Position `l` of chunk `n`. -/
def chunkPos (n : ℕ) (l : Fin 256) : Fin 4096 := ⟨n % 16 * 256 + l.val, by omega⟩

/-- Column `d` of head `h`. -/
def headCol (h : Fin 4) (d : Fin 64) : Fin 256 := ⟨h.val * 64 + d.val, by omega⟩

/-- The turned queries of batch `b`, head `h`, chunk `n`. -/
def queries (b : Fin 8) (h : Fin 4) (n : ℕ) (a : Fin 256) (d : Fin 64) : EReal :=
  turn (fun e => x (ix3 b (chunkPos n a) ⟨0 + e.val, by omega⟩)) (fun e => cos (ix3 b (chunkPos n a) e)) (fun e => sin (ix3 b (chunkPos n a) e)) (headCol h d)

/-- The turned keys, times an eighth. -/
def keys (b : Fin 8) (h : Fin 4) (n : ℕ) (l : Fin 256) (d : Fin 64) : EReal :=
  turn (fun e => x (ix3 b (chunkPos n l) ⟨256 + e.val, by omega⟩)) (fun e => cos (ix3 b (chunkPos n l) e)) (fun e => sin (ix3 b (chunkPos n l) e)) (headCol h d)
    * Ideal.ofBits FTy.f32 0x3E000000#32

def values (b : Fin 8) (h : Fin 4) (n : ℕ) (l : Fin 256) (e : Fin 64) : EReal := x (ix3 b (chunkPos n l) ⟨512 + (headCol h e).val, by omega⟩)

/-- One head's columns of a decay. -/
def decay (A : FVec Ideal ⟨2, ![256, 256]⟩ .f32) (h : Fin 4) (a : Fin 256) (d : Fin 64) : EReal := A (ix2 a (headCol h d))

/-- The state before chunk `n`. -/
def states (b : Fin 8) (h : Fin 4) (n : ℕ) : Fin 64 → Fin 64 → EReal :=
  state (keys x cos sin b h) (values x b h) (decay kd h) (fun e => cd (ix2 0 (headCol h e))) n

/-- What chunk `n` puts out. -/
def outs (b : Fin 8) (h : Fin 4) (n : ℕ) : Fin 256 → Fin 64 → EReal :=
  out (queries x cos sin b h n) (keys x cos sin b h n) (values x b h n) (fun a l => dm (ix3 h a l)) (decay qd h) (states x cos sin kd cd b h n)

/-- The result at position `a` of chunk `n`. -/
def ret (b : Fin 8) (h : Fin 4) (n : ℕ) (a : Fin 256) (e : Fin 64) : EReal :=
  norm (outs x cos sin dm qd kd cd b h n a) (w (ix1 (headCol h e))) (x (ix3 b (chunkPos n a) ⟨768 + (headCol h e).val, by omega⟩)) e

/-- The whole result. -/
def RET : FVec Ideal ⟨3, ![8, 4096, 256]⟩ .f32 := fun i =>
  ret x cos sin dm qd kd cd w ⟨(i 0).val, (i 0).isLt⟩ ⟨(i 2).val / 64, by have : (i 2).val < 256 := (i 2).isLt; omega⟩ ((i 1).val / 256)
    ⟨(i 1).val % 256, by omega⟩ ⟨(i 2).val % 64, by omega⟩

theorem RET_apply (b : Fin 8) (h : Fin 4) (n : ℕ) (hn : n < 16) (a : Fin 256) (e : Fin 64) :
    RET x cos sin dm qd kd cd w (ix3 b (chunkPos n a) (headCol h e)) = ret x cos sin dm qd kd cd w b h n a e := by
  have h1 : (chunkPos n a).val / 256 = n := by dsimp only [chunkPos]; omega
  have h2 : (chunkPos n a).val % 256 = a.val := by dsimp only [chunkPos]; omega
  have h3 : (headCol h e).val / 64 = h.val := by dsimp only [headCol]; omega
  have h4 : (headCol h e).val % 64 = e.val := by dsimp only [headCol]; omega
  show ret _ _ _ _ _ _ _ _ ⟨b.val, _⟩ ⟨(headCol h e).val / 64, _⟩ ((chunkPos n a).val / 256) ⟨(chunkPos n a).val % 256, _⟩ ⟨(headCol h e).val % 64, _⟩ = _
  congr 1 <;> first | exact Fin.ext h3 | exact h1 | exact Fin.ext h2 | exact Fin.ext h4

end

end Cert.Retention

end
-- ==== Proof.RetPoint.lean ====
module

public import proofs.«01_k».proof.Proof.Gen.RetIdeal.Value
public import proofs.«01_k».proof.Proof.Retention
public import proofs.«01_k».proof.Proof.Turn
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Claim

/-! What the retention kernel computes at one grid point, entry by entry. -/

@[expose] public section

set_option maxRecDepth 16384

noncomputable section

namespace Cert.RetIdeal.RefValue

open Idealize.ShloMosaic Idealize.ShloMosaic.TcCoe Idealize.SL.Sem
open Idealize.ShloMosaic.Pipeline (Dat)
open Cert.Rotary Cert.Retention
open Cert.RetIdeal Cert.RetIdeal.Gen

/-- The query columns of a point, turned. -/
theorem q_col (v3 : Vec Ideal S1x256x1024 .f32) (v5 v7 : Vec Ideal S1x256x256 .f32) (r : Fin 256) (e : Fin 256) :
    k0_pay6 v3 v5 v7 (ix2 r e) = turn (fun e => v3 (ix3 0 r ⟨0 + e.val, by omega⟩)) (fun e => v5 (ix3 0 r e)) (fun e => v7 (ix3 0 r e)) e := by
  rw [← turn_rotated _ _ _ e _ _ (fun _ => rfl) (fun _ => rfl)]
  pointwise [k0_pay6, k0_pay3, k0_pay4, k0_pay5]

/-- The key columns of a point, turned and scaled. -/
theorem k_col (v3 : Vec Ideal S1x256x1024 .f32) (v5 v7 : Vec Ideal S1x256x256 .f32) (r : Fin 256) (e : Fin 256) :
    k0_pay7 v3 v5 v7 (ix2 r e) = turn (fun e => v3 (ix3 0 r ⟨256 + e.val, by omega⟩)) (fun e => v5 (ix3 0 r e)) (fun e => v7 (ix3 0 r e)) e
      * Ideal.ofBits FTy.f32 0x3E000000#32 := by
  rw [← turn_rotated _ _ _ e _ _ (fun _ => rfl) (fun _ => rfl)]
  pointwise [k0_pay7, k0_pay3, k0_pay4, k0_pay5]

theorem v_col (v3 : Vec Ideal S1x256x1024 .f32) (r : Fin 256) (e : Fin 256) :
    k0_pay8 v3 (ix2 r e) = v3 (ix3 0 r ⟨512 + e.val, by omega⟩) := by
  pointwise [k0_pay8, k0_pay3]

theorem g_col (v3 : Vec Ideal S1x256x1024 .f32) (r : Fin 256) (e : Fin 256) :
    k0_pay9 v3 (ix2 r e) = v3 (ix3 0 r ⟨768 + e.val, by omega⟩) := by
  pointwise [k0_pay9, k0_pay3]

/-- Sixty-four columns of a block, from column `o`. -/
def cols (o : ℕ) (ho : o ≤ 192) (x : FVec Ideal S256x256 .f32) (a : Fin 256) (d : Fin 64) : EReal := x (ix2 a ⟨o + d.val, by omega⟩)

/-- What a head of a point puts out; its columns begin at `o`. -/
def headOut (o : ℕ) (ho : o ≤ 192) (q k v qd : FVec Ideal S256x256 .f32) (r : Vec Ideal S1x64x64 .f32) (dm : Vec Ideal S1x256x256 .f32)
    (a : Fin 256) (e : Fin 64) : EReal :=
  out (cols o ho q) (cols o ho k) (cols o ho v) (fun a l => dm (ix3 0 a l)) (cols o ho qd) (fun d e => r (ix3 0 d e)) a e

/-- What a head of a point leaves in its state. -/
def headNext (o : ℕ) (ho : o ≤ 192) (k v kd : FVec Ideal S256x256 .f32) (cd : Vec Ideal S1x256 .f32) (r : Vec Ideal S1x64x64 .f32)
    (d : Fin 64) (e : Fin 64) : EReal :=
  next (cols o ho k) (cols o ho v) (cols o ho kd) (fun e => cd (ix2 0 ⟨o + e.val, by omega⟩)) (fun d e => r (ix3 0 d e)) d e

section
variable (q k v qd kd : FVec Ideal S256x256 .f32) (cd : Vec Ideal S1x256 .f32) (r : Vec Ideal S1x64x64 .f32) (dm : Vec Ideal S1x256x256 .f32)

theorem next0 (d e : Fin 64) : k0_pay14 k v kd cd r (ix3 0 d e) = headNext 0 (by omega) k v kd cd r d e := by
  pointwise [k0_pay14, k0_pay12, k0_pay11, k0_pay10, headNext, next, cols]
theorem next1 (d e : Fin 64) : k0_pay18 v (k0_pay10 k kd) cd r (ix3 0 d e) = headNext 64 (by omega) k v kd cd r d e := by
  pointwise [k0_pay18, k0_pay16, k0_pay15, k0_pay10, headNext, next, cols]
theorem next2 (d e : Fin 64) : k0_pay24 (k0_pay10 k kd) cd (k0_pay21 v) (k0_pay22 r) (ix3 0 d e) = headNext 128 (by omega) k v kd cd r d e := by
  pointwise [k0_pay24, k0_pay21, k0_pay22, k0_pay10, headNext, next, cols]
theorem next3 (d e : Fin 64) : k0_pay31 (k0_pay10 k kd) cd (k0_pay26 v) (k0_pay27 r) (ix3 0 d e) = headNext 192 (by omega) k v kd cd r d e := by
  pointwise [k0_pay31, k0_pay26, k0_pay27, k0_pay10, headNext, next, cols]

theorem out0 (a : Fin 256) (e : Fin 64) : k0_pay13 q k v qd r dm (ix2 a e) = headOut 0 (by omega) q k v qd r dm a e := by
  pointwise [k0_pay13, k0_pay12, k0_pay11, headOut, out, cols]
theorem out1 (a : Fin 256) (e : Fin 64) : k0_pay17 q k v qd r dm (ix2 a e) = headOut 64 (by omega) q k v qd r dm a e := by
  pointwise [k0_pay17, k0_pay16, k0_pay15, headOut, out, cols]
theorem out2 (a : Fin 256) (e : Fin 64) :
    k0_pay23 qd (k0_pay19 q) (k0_pay20 k) (k0_pay21 v) (k0_pay22 r) dm (ix2 a e) = headOut 128 (by omega) q k v qd r dm a e := by
  pointwise [k0_pay23, k0_pay22, k0_pay21, k0_pay20, k0_pay19, headOut, out, cols]
theorem out3 (a : Fin 256) (e : Fin 64) :
    k0_pay30 qd (k0_pay25 q) (k0_pay26 v) (k0_pay27 r) (k0_pay28 q k) (k0_pay29 dm) (ix2 a e) = headOut 192 (by omega) q k v qd r dm a e := by
  pointwise [k0_pay30, k0_pay29, k0_pay28, k0_pay27, k0_pay26, k0_pay25, headOut, out, cols]
end

/-- The head of a column, as the kernel finds it. -/
theorem head_bits : ∀ n : Fin 256, IntOp.shrsi .vector (BitVec.ofNat 32 n.val) 6#32 = BitVec.ofNat 32 (n.val / 64) := by decide +kernel

theorem cmp_heads : ∀ a b : Fin 4, IntOp.cmpi CmpIPredicate.eq (BitVec.ofNat 32 a.val) (BitVec.ofNat 32 b.val) = if a = b then 1#1 else 0#1 := by
  decide +kernel

/-- Columns of one head meet in a one, columns of different heads in a zero. -/
theorem ones_at (i j : Fin 256) : (k0_pay32 (F := Ideal)) (ix2 i j) = if i.val / 64 = j.val / 64 then 1 else 0 := by
  pointwise [k0_pay32]
  rw [head_bits i, head_bits j, cmp_heads ⟨i.val / 64, by omega⟩ ⟨j.val / 64, by omega⟩]
  simp only [Fin.mk.injEq]
  split_ifs <;> rfl

/-- A sum over all columns, of which one head's are kept, is the sum over the head's. -/
theorem sum_head (f : Fin 256 → EReal) (h : Fin 4) (j : Fin 256) (hj : j.val / 64 = h.val) :
    ∑ i : Fin 256, f i * (if i.val / 64 = j.val / 64 then 1 else 0) = ∑ d : Fin 64, f ⟨h.val * 64 + d.val, by omega⟩ := by
  refine (Finset.sum_of_injOn (fun d : Fin 64 => (⟨h.val * 64 + d.val, by omega⟩ : Fin 256)) (fun a _ b _ e => ?_) (fun _ _ => Finset.mem_coe.2 (Finset.mem_univ _))
    (fun i _ hi => ?_) (fun d _ => ?_)).symm
  · have := congrArg Fin.val e
    exact Fin.ext (by dsimp only at this; omega)
  · rw [if_neg, mul_zero]
    intro e
    exact hi ⟨⟨i.val % 64, by omega⟩, Finset.mem_coe.2 (Finset.mem_univ _), Fin.ext (by dsimp only; omega)⟩
  · rw [if_pos (by dsimp only; omega), mul_one]

/-- A sixty-fourth of a sum. -/
theorem div64 (x : EReal) : x * Ideal.ofBits FTy.f32 0x3C800000#32 = Ideal.div x (Ideal.ofBits FTy.f32 0x42800000#32) := by
  have h1 : Ideal.ofBits FTy.f32 0x3C800000#32 = (((1 : ℝ) / 64 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  rw [h1, h2, Ideal.div, if_neg (by norm_num), ← EReal.coe_inv, one_div]

theorem centred (Y : Vec Ideal S256x256 .f32) (a : Fin 256) (h : Fin 4) (e : Fin 64) :
    k0_pay33 (F := Ideal) Y (ix2 a ⟨h.val * 64 + e.val, by omega⟩) = Y (ix2 a ⟨h.val * 64 + e.val, by omega⟩)
      - Ideal.div (∑ d : Fin 64, Y (ix2 a ⟨h.val * 64 + d.val, by omega⟩)) (Ideal.ofBits FTy.f32 0x42800000#32) := by
  rw [← sum_head (fun i => Y (ix2 a i)) h ⟨h.val * 64 + e.val, by omega⟩ (by dsimp only; omega), ← div64]
  pointwise [k0_pay33]
  simp only [ones_at]

theorem squares (Y : Vec Ideal S256x256 .f32) (a : Fin 256) (h : Fin 4) (e : Fin 64) :
    k0_pay34 (F := Ideal) Y (ix2 a ⟨h.val * 64 + e.val, by omega⟩)
      = ∑ d : Fin 64, k0_pay33 (F := Ideal) Y (ix2 a ⟨h.val * 64 + d.val, by omega⟩) * k0_pay33 (F := Ideal) Y (ix2 a ⟨h.val * 64 + d.val, by omega⟩) := by
  rw [← sum_head (fun i => k0_pay33 (F := Ideal) Y (ix2 a i) * k0_pay33 (F := Ideal) Y (ix2 a i)) h ⟨h.val * 64 + e.val, by omega⟩ (by dsimp only; omega)]
  pointwise [k0_pay34]
  simp only [ones_at]

/-- The head norm and the gate. -/
theorem stored (g : FVec Ideal S256x256 .f32) (Y : Vec Ideal S256x256 .f32) (w : Vec Ideal S1x256 .f32) (a : Fin 256) (h : Fin 4) (e : Fin 64) :
    k0_pay1 g (k0_pay33 (F := Ideal) Y) (k0_pay34 (F := Ideal) Y) w (ix3 0 a ⟨h.val * 64 + e.val, by omega⟩)
      = Retention.norm (fun d => Y (ix2 a ⟨h.val * 64 + d.val, by omega⟩)) (w (ix2 0 ⟨h.val * 64 + e.val, by omega⟩)) (g (ix2 a ⟨h.val * 64 + e.val, by omega⟩)) e := by
  pointwise [k0_pay1]
  rw [squares]
  simp only [centred]
  rw [div64, zero_sub]
  rfl

end Cert.RetIdeal.RefValue

end
-- ==== Proof.RetValue.lean ====
module

public import proofs.«01_k».proof.Proof.RetPoint

/-! The retention: what the kernel's scratch carries from point to point, and its result, entry by entry. -/

@[expose] public section

set_option maxRecDepth 16384

noncomputable section

namespace Cert.RetIdeal.RefValue

open Idealize.ShloMosaic Idealize.ShloMosaic.TcCoe Idealize.SL.Sem
open Idealize.ShloMosaic.Pipeline (Dat)
open Cert.Rotary Cert.Retention
open Cert.RetIdeal Cert.RetIdeal.Gen

/-- Entry `(h, d, e)` of the carried states lies in the tile of head `o`. -/
theorem state_tile (G : Fin 4 → Fin 64 → Fin 64 → EReal) (p : FVec Ideal S1x64x64 .f32) (o h : Fin 4) (x : S1x64x64.Idx) (d e : Fin 64)
    (hp : ∀ d e, p (ix3 0 d e) = G o d e) (h0 : h.val = o.val + (x 0).val) (h1 : d.val = (x 1).val) (h2 : e.val = (x 2).val) : p x = G h d e := by
  have h3 : (x 0).val < 1 := (x 0).isLt
  obtain rfl : h = o := Fin.ext (by omega)
  refine Eq.trans (congrArg p ?_) (hp d e)
  blk_ext [h1, h2]

/-- Earlier stores do not matter where later ones cover. -/
theorem canon_drop {Val : EltTy → Type} [∀ e, Nonempty (Val e)] {S : Shape} {e : EltTy} (L L' : List (View.Piece Val S e)) (y : S.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hy⟩ := hc
      rcases List.mem_cons.mp hq with rfl | hq
      · exact absurd hy hm
      · exact ⟨q, hq, hy⟩

theorem state_mem (o : ℕ) (inb : ∀ a, ![o, 0, 0] a + ![1, 64, 64] a ≤ S4x64x64.size a) (h : Fin 4) (d e : Fin 64) (ho : h.val = o) :
    (ix3 h d e : S4x64x64.Idx) ∈ (Rect.unit (s := S4x64x64) ![o, 0, 0] ![1, 64, 64] inb).set :=
  (Rect.unit _ _ inb).mem_set.2 fun a => match a with
    | 0 => ⟨0, Nat.one_pos, ho⟩
    | 1 => ⟨d.val, d.isLt, ((Nat.zero_add _).trans (Nat.one_mul _)).symm⟩
    | 2 => ⟨e.val, e.isLt, ((Nat.zero_add _).trans (Nat.one_mul _)).symm⟩

theorem state_cover (i3 : ∀ a, ![3, 0, 0] a + ![1, 64, 64] a ≤ S4x64x64.size a) (i2 : ∀ a, ![2, 0, 0] a + ![1, 64, 64] a ≤ S4x64x64.size a)
    (i1 : ∀ a, ![1, 0, 0] a + ![1, 64, 64] a ≤ S4x64x64.size a) (i0 : ∀ a, ![0, 0, 0] a + ![1, 64, 64] a ≤ S4x64x64.size a)
    (p3 p2 p1 p0 : S1x64x64.Idx → Elt Ideal .f32) (h : Fin 4) (d e : Fin 64) :
    ∃ p ∈ ([⟨Rect.unit (s := S4x64x64) ![3, 0, 0] ![1, 64, 64] i3, p3⟩, ⟨Rect.unit (s := S4x64x64) ![2, 0, 0] ![1, 64, 64] i2, p2⟩,
      ⟨Rect.unit (s := S4x64x64) ![1, 0, 0] ![1, 64, 64] i1, p1⟩, ⟨Rect.unit (s := S4x64x64) ![0, 0, 0] ![1, 64, 64] i0, p0⟩] : List (View.Piece (Elt Ideal) S4x64x64 .f32)),
      (ix3 h d e : S4x64x64.Idx) ∈ p.1.set := by
  have hh := h.isLt
  by_cases h3 : h.val = 3
  · exact ⟨_, List.mem_cons_self .., state_mem 3 i3 h d e h3⟩
  by_cases h2 : h.val = 2
  · exact ⟨_, List.mem_cons_of_mem _ (List.mem_cons_self ..), state_mem 2 i2 h d e h2⟩
  by_cases h1 : h.val = 1
  · exact ⟨_, List.mem_cons_of_mem _ (List.mem_cons_of_mem _ (List.mem_cons_self ..)), state_mem 1 i1 h d e h1⟩
  · exact ⟨_, List.mem_cons_of_mem _ (List.mem_cons_of_mem _ (List.mem_cons_of_mem _ (List.mem_cons_self ..))), state_mem 0 i0 h d e (by omega)⟩

/-- Entry `(a, h, e)` of the outputs lies in the tile of head `o`. -/
theorem out_tile (G : Fin 4 → Fin 256 → Fin 64 → EReal) (p : FVec Ideal S256x64 .f32) (o h : Fin 4) (x : S256x64.Idx) (a : Fin 256) (e : Fin 64)
    (hp : ∀ a e, p (ix2 a e) = G o a e) (h1 : a.val = (x 0).val) (h0 : h.val * 64 + e.val = o.val * 64 + (x 1).val) : p x = G h a e := by
  have h3 : (x 1).val < 64 := (x 1).isLt
  obtain rfl : h = o := Fin.ext (by omega)
  have h2 : e.val = (x 1).val := by omega
  refine Eq.trans (congrArg p ?_) (hp a e)
  blk_ext [h1, h2]

/-- Head `h`'s columns of a block. -/
def hd (h : Fin 4) (x : FVec Ideal S256x256 .f32) (a : Fin 256) (d : Fin 64) : EReal := x (ix2 a ⟨h.val * 64 + d.val, by omega⟩)

section
variable (m : (ℓ : Loc nD τ sig) → Buf (Elt Ideal) ℓ) (c : Dev nD) (t : Fin cfg0.N)

/-- What head `h` leaves at point `t`, the states before it being `S`. -/
def leaves (S : FVec Ideal S4x64x64 .f32) (h : Fin 4) (d e : Fin 64) : EReal :=
  next (hd h (k0_pay7 (iblk m c 0 t) (iblk m c 1 t) (iblk m c 2 t))) (hd h (k0_pay8 (iblk m c 0 t))) (hd h (iblk m c 5 t))
    (fun e => (iblk m c 6 t : FVec Ideal S1x256 .f32) (ix2 0 ⟨h.val * 64 + e.val, by omega⟩)) (fun d e => S (ix3 h d e)) d e

theorem ld_state (S : FVec Ideal S4x64x64 .f32) (o : ℕ) (ho : o < 4) (inb : ∀ a, ![o, 0, 0] a + ![1, 64, 64] a ≤ S4x64x64.size a) (d e : Fin 64) :
    View.ld (Val := Elt Ideal) (e' := .f32) S (Rect.unit (s := S4x64x64) ![o, 0, 0] ![1, 64, 64] inb) (ix3 0 d e) = S (ix3 ⟨o, ho⟩ d e) := by
  refine congrArg S (?_ : (Rect.unit (s := S4x64x64) _ _ inb).emb _ = _)
  blk_ext

theorem ld_decay (S : FVec Ideal S4x256x256 .f32) (o : ℕ) (ho : o < 4) (inb : ∀ a, ![o, 0, 0] a + ![1, 256, 256] a ≤ S4x256x256.size a) (d e : Fin 256) :
    View.ld (Val := Elt Ideal) (e' := .f32) S (Rect.unit (s := S4x256x256) ![o, 0, 0] ![1, 256, 256] inb) (ix3 0 d e) = S (ix3 ⟨o, ho⟩ d e) := by
  refine congrArg S (?_ : (Rect.unit (s := S4x256x256) _ _ inb).emb _ = _)
  blk_ext

theorem head_leaves (S : FVec Ideal S4x64x64 .f32) (h : Fin 4) (o : ℕ) (ho : o ≤ 192) (hh : o = h.val * 64)
    (inb : ∀ a, ![h.val, 0, 0] a + ![1, 64, 64] a ≤ S4x64x64.size a) (d e : Fin 64) :
    headNext o ho (k0_pay7 (iblk m c 0 t) (iblk m c 1 t) (iblk m c 2 t)) (k0_pay8 (iblk m c 0 t)) (iblk m c 5 t) (iblk m c 6 t)
      (View.ld (Val := Elt Ideal) (e' := .f32) S (Rect.unit (s := S4x64x64) ![h.val, 0, 0] ![1, 64, 64] inb)) d e = leaves m c t S h d e := by
  subst hh
  exact congrArg (fun s => next _ _ _ _ s d e) (funext fun d => funext fun e => ld_state S _ h.isLt inb d e)

/-- What head `h` puts out at point `t`. -/
def puts (S : FVec Ideal S4x64x64 .f32) (h : Fin 4) (a : Fin 256) (e : Fin 64) : EReal :=
  out (hd h (k0_pay6 (iblk m c 0 t) (iblk m c 1 t) (iblk m c 2 t))) (hd h (k0_pay7 (iblk m c 0 t) (iblk m c 1 t) (iblk m c 2 t))) (hd h (k0_pay8 (iblk m c 0 t)))
    (fun a l => (iblk m c 3 t : FVec Ideal S4x256x256 .f32) (ix3 h a l)) (hd h (iblk m c 4 t)) (fun d e => S (ix3 h d e)) a e

theorem left_B (h0 : ¬ t.val % 16 = 0) (h : Fin 4) (d e : Fin 64) :
   (outsAt0 m c t.val t.isLt).2 (ix3 h d e) = leaves m c t (outsAt0 m c (t.val - 1) (Nat.lt_of_le_of_lt (Nat.sub_le _ _) t.isLt)).2 h d e := by
  rw [outsAt0_B m c t h0]
  frame_out
  simp only [read_unread_whole]
  generalize (outsAt0 m c (t.val - 1) (Nat.lt_of_le_of_lt (Nat.sub_le _ _) t.isLt)).2 = S
  canon_tiles x hx
  · exact state_tile (leaves m c t S) _ 3 h x d e (fun d e => (next3 _ _ _ _ _ d e).trans (head_leaves m c t S 3 _ _ rfl _ d e)) hx0 hx1 hx2
  · exact state_tile (leaves m c t S) _ 2 h x d e (fun d e => (next2 _ _ _ _ _ d e).trans (head_leaves m c t S 2 _ _ rfl _ d e)) hx0 hx1 hx2
  · exact state_tile (leaves m c t S) _ 1 h x d e (fun d e => (next1 _ _ _ _ _ d e).trans (head_leaves m c t S 1 _ _ rfl _ d e)) hx0 hx1 hx2
  · exact state_tile (leaves m c t S) _ 0 h x d e (fun d e => (next0 _ _ _ _ _ d e).trans (head_leaves m c t S 0 _ _ rfl _ d e)) (hx0.trans (Nat.zero_add _).symm) hx1 hx2

theorem left_A (h0 : t.val % 16 = 0) (h : Fin 4) (d e : Fin 64) :
   (outsAt0 m c t.val t.isLt).2 (ix3 h d e) = leaves m c t (k0_pay2 (F := Ideal)) h d e := by
  rw [outsAt0_A m c t h0]
  frame_out
  simp (discharger := decide) only [↓View.readCov_skip, ↓View.readCov_fill]
  refine (canon_drop [_, _, _, _] [_] _ ?_).trans ?_
  · exact state_cover _ _ _ _ _ _ _ _ h d e
  generalize k0_pay2 (F := Ideal) = S
  canon_tiles x hx
  · exact state_tile (leaves m c t S) _ 3 h x d e (fun d e => (next3 _ _ _ _ _ d e).trans (head_leaves m c t S 3 _ _ rfl _ d e)) hx0 hx1 hx2
  · exact state_tile (leaves m c t S) _ 2 h x d e (fun d e => (next2 _ _ _ _ _ d e).trans (head_leaves m c t S 2 _ _ rfl _ d e)) hx0 hx1 hx2
  · exact state_tile (leaves m c t S) _ 1 h x d e (fun d e => (next1 _ _ _ _ _ d e).trans (head_leaves m c t S 1 _ _ rfl _ d e)) hx0 hx1 hx2
  · exact state_tile (leaves m c t S) _ 0 h x d e (fun d e => (next0 _ _ _ _ _ d e).trans (head_leaves m c t S 0 _ _ rfl _ d e)) (hx0.trans (Nat.zero_add _).symm) hx1 hx2

theorem head_puts (S : FVec Ideal S4x64x64 .f32) (h : Fin 4) (o : ℕ) (ho : o ≤ 192) (hh : o = h.val * 64)
    (inb : ∀ a, ![h.val, 0, 0] a + ![1, 64, 64] a ≤ S4x64x64.size a) (inb' : ∀ a, ![h.val, 0, 0] a + ![1, 256, 256] a ≤ S4x256x256.size a) (a : Fin 256) (e : Fin 64) :
    headOut o ho (k0_pay6 (iblk m c 0 t) (iblk m c 1 t) (iblk m c 2 t)) (k0_pay7 (iblk m c 0 t) (iblk m c 1 t) (iblk m c 2 t)) (k0_pay8 (iblk m c 0 t)) (iblk m c 4 t)
      (View.ld (Val := Elt Ideal) (e' := .f32) S (Rect.unit (s := S4x64x64) ![h.val, 0, 0] ![1, 64, 64] inb))
      (View.ld (Val := Elt Ideal) (e' := .f32) (iblk m c 3 t) (Rect.unit (s := S4x256x256) ![h.val, 0, 0] ![1, 256, 256] inb')) a e = puts m c t S h a e := by
  subst hh
  exact congrArg₂ (fun s dm => out _ _ _ dm _ s a e) (funext fun d => funext fun e => ld_state S _ h.isLt inb d e)
    (funext fun a => funext fun l => ld_decay (iblk m c 3 t) _ h.isLt inb' a l)

/-- The point's result, the states before it being `S`. -/
def result (S : FVec Ideal S4x64x64 .f32) (h : Fin 4) (a : Fin 256) (e : Fin 64) : EReal :=
  Retention.norm (fun e => puts m c t S h a e) ((iblk m c 7 t : FVec Ideal S1x256 .f32) (ix2 0 ⟨h.val * 64 + e.val, by omega⟩))
    (k0_pay9 (iblk m c 0 t) (ix2 a ⟨h.val * 64 + e.val, by omega⟩)) e

theorem out_B (h0 : ¬ t.val % 16 = 0) (h : Fin 4) (a : Fin 256) (e : Fin 64) :
   (outsAt0 m c t.val t.isLt).1 (ix3 0 a ⟨h.val * 64 + e.val, by omega⟩)
     = result m c t (outsAt0 m c (t.val - 1) (Nat.lt_of_le_of_lt (Nat.sub_le _ _) t.isLt)).2 h a e := by
  rw [outsAt0_B m c t h0]
  frame_out
  simp only [read_unread_whole]
  generalize (outsAt0 m c (t.val - 1) (Nat.lt_of_le_of_lt (Nat.sub_le _ _) t.isLt)).2 = S
  refine (stored _ _ _ a h e).trans (congrArg (fun y => Retention.norm y _ _ e) (funext fun d => ?_))
  rw [View.readCov_eq_canon']
  canon_tiles x hx
  all_goals
    replace hx0 := ((Rect.idx_unit_val (s := S256x256) ![0, 0] ![256, 256] _ (ix2 a ⟨h.val * 64 + d.val, by omega⟩) 0).symm.trans hx0)
    replace hx1 := ((Rect.idx_unit_val (s := S256x256) ![0, 0] ![256, 256] _ (ix2 a ⟨h.val * 64 + d.val, by omega⟩) 1).symm.trans hx1)
    replace hx0 := (Nat.zero_add _).symm.trans hx0
    replace hx1 := (Nat.zero_add _).symm.trans hx1
  · exact out_tile (puts m c t S) _ 3 h x a d (fun a d => (out3 _ _ _ _ _ _ a d).trans (head_puts m c t S 3 _ _ rfl _ _ a d)) hx0 hx1
  · exact out_tile (puts m c t S) _ 2 h x a d (fun a d => (out2 _ _ _ _ _ _ a d).trans (head_puts m c t S 2 _ _ rfl _ _ a d)) hx0 hx1
  · exact out_tile (puts m c t S) _ 1 h x a d (fun a d => (out1 _ _ _ _ _ _ a d).trans (head_puts m c t S 1 _ _ rfl _ _ a d)) hx0 hx1
  · exact out_tile (puts m c t S) _ 0 h x a d (fun a d => (out0 _ _ _ _ _ _ a d).trans (head_puts m c t S 0 _ _ rfl _ _ a d)) hx0 (hx1.trans (Nat.zero_add _).symm)

theorem out_A (h0 : t.val % 16 = 0) (h : Fin 4) (a : Fin 256) (e : Fin 64) :
   (outsAt0 m c t.val t.isLt).1 (ix3 0 a ⟨h.val * 64 + e.val, by omega⟩) = result m c t (k0_pay2 (F := Ideal)) h a e := by
  rw [outsAt0_A m c t h0]
  frame_out
  simp (discharger := decide) only [↓View.readCov_skip, ↓View.readCov_fill]
  generalize k0_pay2 (F := Ideal) = S
  refine (stored _ _ _ a h e).trans (congrArg (fun y => Retention.norm y _ _ e) (funext fun d => ?_))
  rw [View.readCov_eq_canon']
  canon_tiles x hx
  all_goals
    replace hx0 := ((Rect.idx_unit_val (s := S256x256) ![0, 0] ![256, 256] _ (ix2 a ⟨h.val * 64 + d.val, by omega⟩) 0).symm.trans hx0)
    replace hx1 := ((Rect.idx_unit_val (s := S256x256) ![0, 0] ![256, 256] _ (ix2 a ⟨h.val * 64 + d.val, by omega⟩) 1).symm.trans hx1)
    replace hx0 := (Nat.zero_add _).symm.trans hx0
    replace hx1 := (Nat.zero_add _).symm.trans hx1
  · exact out_tile (puts m c t S) _ 3 h x a d (fun a d => (out3 _ _ _ _ _ _ a d).trans (head_puts m c t S 3 _ _ rfl _ _ a d)) hx0 hx1
  · exact out_tile (puts m c t S) _ 2 h x a d (fun a d => (out2 _ _ _ _ _ _ a d).trans (head_puts m c t S 2 _ _ rfl _ _ a d)) hx0 hx1
  · exact out_tile (puts m c t S) _ 1 h x a d (fun a d => (out1 _ _ _ _ _ _ a d).trans (head_puts m c t S 1 _ _ rfl _ _ a d)) hx0 hx1
  · exact out_tile (puts m c t S) _ 0 h x a d (fun a d => (out0 _ _ _ _ _ _ a d).trans (head_puts m c t S 0 _ _ rfl _ _ a d)) hx0 (hx1.trans (Nat.zero_add _).symm)

end

end Cert.RetIdeal.RefValue

end
-- ==== Proof.RetKernel.lean ====
module

public import proofs.«01_k».proof.Proof.RetValue

/-! The retention kernel's result is the retention of its arguments. -/

@[expose] public section

set_option maxRecDepth 16384

noncomputable section

namespace Cert.RetIdeal.RefValue

open Idealize.ShloMosaic Idealize.ShloMosaic.TcCoe Idealize.SL.Sem
open Idealize.ShloMosaic.Pipeline (Dat)
open Cert.Rotary Cert.Retention
open Cert.RetIdeal Cert.RetIdeal.Gen

/-- Where each window's block lies at grid point `t`. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0, 0] ∧ win0_4.index t = ![0, 0] ∧ win0_5.index t = ![0, 0]
    ∧ win0_6.index t = ![0, 0] ∧ win0_7.index t = ![0, 0] ∧ win0_8.index t = ![t.val / 16, t.val % 16, 0] :=
  (by decide +kernel : ∀ t : Fin grid0.N, _)

section
variable (m : (ℓ : Loc nD τ sig) → Buf (Elt Ideal) ℓ) (c : Dev nD)

/-- The arguments, as arrays. -/
abbrev a0 : FVec Ideal ⟨3, ![8, 4096, 1024]⟩ .f32 := m ((c : Thread nD τ).loc main_arg0)
abbrev a1 : FVec Ideal ⟨3, ![8, 4096, 256]⟩ .f32 := m ((c : Thread nD τ).loc main_arg1)
abbrev a2 : FVec Ideal ⟨3, ![8, 4096, 256]⟩ .f32 := m ((c : Thread nD τ).loc main_arg2)
abbrev a3 : FVec Ideal ⟨3, ![4, 256, 256]⟩ .f32 := m ((c : Thread nD τ).loc main_arg3)
abbrev a4 : FVec Ideal ⟨2, ![256, 256]⟩ .f32 := m ((c : Thread nD τ).loc main_arg4)
abbrev a5 : FVec Ideal ⟨2, ![256, 256]⟩ .f32 := m ((c : Thread nD τ).loc main_arg5)
abbrev a6 : FVec Ideal ⟨2, ![1, 256]⟩ .f32 := m ((c : Thread nD τ).loc main_arg6)
abbrev a7 : FVec Ideal ⟨1, ![256]⟩ .f32 := m ((c : Thread nD τ).loc main_arg7)

variable (t : Fin cfg0.N)

theorem blk0 (l : Fin 256) (e : Fin 1024) (b : Fin 8) (hb : (b : ℕ) = t.val / 16) :
    iblk m c 0 t (ix3 0 l e) = a0 m c (ix3 b (chunkPos (t.val % 16) l) e) := by
  have h : (chunkPos (t.val % 16) l).val = t.val % 16 * 256 + l.val := by dsimp only [chunkPos]; omega
  generalize chunkPos (t.val % 16) l = s at h
  blk_ext [iblk, V, idx t]

theorem blk1 (l : Fin 256) (e : Fin 256) (b : Fin 8) (hb : (b : ℕ) = t.val / 16) :
    iblk m c 1 t (ix3 0 l e) = a1 m c (ix3 b (chunkPos (t.val % 16) l) e) := by
  have h : (chunkPos (t.val % 16) l).val = t.val % 16 * 256 + l.val := by dsimp only [chunkPos]; omega
  generalize chunkPos (t.val % 16) l = s at h
  blk_ext [iblk, V, idx t]

theorem blk2 (l : Fin 256) (e : Fin 256) (b : Fin 8) (hb : (b : ℕ) = t.val / 16) :
    iblk m c 2 t (ix3 0 l e) = a2 m c (ix3 b (chunkPos (t.val % 16) l) e) := by
  have h : (chunkPos (t.val % 16) l).val = t.val % 16 * 256 + l.val := by dsimp only [chunkPos]; omega
  generalize chunkPos (t.val % 16) l = s at h
  blk_ext [iblk, V, idx t]

theorem blk3 (h : Fin 4) (a l : Fin 256) : iblk m c 3 t (ix3 h a l) = a3 m c (ix3 h a l) := by
  blk_ext [iblk, V, idx t]
theorem blk4 (a l : Fin 256) : iblk m c 4 t (ix2 a l) = a4 m c (ix2 a l) := by
  blk_ext [iblk, V, idx t]
theorem blk5 (a l : Fin 256) : iblk m c 5 t (ix2 a l) = a5 m c (ix2 a l) := by
  blk_ext [iblk, V, idx t]
theorem blk6 (l : Fin 256) : iblk m c 6 t (ix2 0 l) = a6 m c (ix2 0 l) := by
  blk_ext [iblk, V, idx t]
theorem blk7 (l : Fin 256) : iblk m c 7 t (ix2 0 l) = a7 m c (ix1 l) := by
  blk_simp [iblk]
  entry_read
  pointwise
  blk_point [idx t]

theorem hd_q (h : Fin 4) (b : Fin 8) (hb : (b : ℕ) = t.val / 16) :
    hd h (k0_pay6 (iblk m c 0 t) (iblk m c 1 t) (iblk m c 2 t)) = queries (a0 m c) (a1 m c) (a2 m c) b h (t.val % 16) := by
  funext a d
  refine (q_col _ _ _ a _).trans ?_
  simp only [blk0 m c t _ _ b hb, blk1 m c t _ _ b hb, blk2 m c t _ _ b hb]
  rfl

theorem hd_k (h : Fin 4) (b : Fin 8) (hb : (b : ℕ) = t.val / 16) :
    hd h (k0_pay7 (iblk m c 0 t) (iblk m c 1 t) (iblk m c 2 t)) = keys (a0 m c) (a1 m c) (a2 m c) b h (t.val % 16) := by
  funext a d
  refine (k_col _ _ _ a _).trans ?_
  simp only [blk0 m c t _ _ b hb, blk1 m c t _ _ b hb, blk2 m c t _ _ b hb]
  rfl

theorem hd_v (h : Fin 4) (b : Fin 8) (hb : (b : ℕ) = t.val / 16) :
    hd h (k0_pay8 (iblk m c 0 t)) = values (a0 m c) b h (t.val % 16) := by
  funext a d
  refine (v_col _ a _).trans ?_
  exact blk0 m c t _ _ b hb

theorem hd_qd (h : Fin 4) : hd h (iblk m c 4 t) = decay (a4 m c) h := by
  funext a d
  exact blk4 m c t a _

theorem hd_kd (h : Fin 4) : hd h (iblk m c 5 t) = decay (a5 m c) h := by
  funext a d
  exact blk5 m c t a _

theorem leaves_eq (S : FVec Ideal S4x64x64 .f32) (h : Fin 4) (b : Fin 8) (hb : (b : ℕ) = t.val / 16)
    (hS : ∀ d e, S (ix3 h d e) = states (a0 m c) (a1 m c) (a2 m c) (a5 m c) (a6 m c) b h (t.val % 16) d e) (d e : Fin 64) :
    leaves m c t S h d e = states (a0 m c) (a1 m c) (a2 m c) (a5 m c) (a6 m c) b h (t.val % 16 + 1) d e := by
  unfold leaves
  rw [hd_k m c t h b hb, hd_v m c t h b hb, hd_kd]
  simp only [hS, blk6]
  rfl

theorem puts_eq (S : FVec Ideal S4x64x64 .f32) (h : Fin 4) (b : Fin 8) (hb : (b : ℕ) = t.val / 16)
    (hS : ∀ d e, S (ix3 h d e) = states (a0 m c) (a1 m c) (a2 m c) (a5 m c) (a6 m c) b h (t.val % 16) d e) (a : Fin 256) (e : Fin 64) :
    puts m c t S h a e = outs (a0 m c) (a1 m c) (a2 m c) (a3 m c) (a4 m c) (a5 m c) (a6 m c) b h (t.val % 16) a e := by
  unfold puts
  rw [hd_q m c t h b hb, hd_k m c t h b hb, hd_v m c t h b hb, hd_qd]
  simp only [hS, blk3]
  rfl

theorem zeros (i : S4x64x64.Idx) : k0_pay2 (F := Ideal) i = 0 := by
  pointwise [k0_pay2]

/-- What the scratch holds after point `t`. -/
theorem scratch (n : ℕ) : ∀ (t : Fin cfg0.N) (b : Fin 8) (hb : (b : ℕ) = t.val / 16) (hn : t.val % 16 = n) (h : Fin 4) (d e : Fin 64),
    (outsAt0 m c t.val t.isLt).2 (ix3 h d e) = states (a0 m c) (a1 m c) (a2 m c) (a5 m c) (a6 m c) b h (n + 1) d e := by
  induction n with
  | zero =>
    intro t b hb hn h d e
    rw [left_A m c t hn, ← hn]
    refine leaves_eq m c t _ h b hb (fun d e => (zeros _).trans ?_) d e
    rw [hn]
    rfl
  | succ n ih =>
    intro t b hb hn h d e
    rw [left_B m c t (by omega), ← hn]
    refine leaves_eq m c t _ h b hb (fun d e => ?_) d e
    rw [hn]
    exact ih ⟨t.val - 1, Nat.lt_of_le_of_lt (Nat.sub_le _ _) t.isLt⟩ b (by dsimp only; omega) (by dsimp only; omega) h d e

theorem out_at (b : Fin 8) (hb : (b : ℕ) = t.val / 16) (h : Fin 4) (a : Fin 256) (e : Fin 64) :
    (outsAt0 m c t.val t.isLt).1 (ix3 0 a (headCol h e))
      = ret (a0 m c) (a1 m c) (a2 m c) (a3 m c) (a4 m c) (a5 m c) (a6 m c) (a7 m c) b h (t.val % 16) a e := by
  have key (S : FVec Ideal S4x64x64 .f32) (hS : ∀ d e, S (ix3 h d e) = states (a0 m c) (a1 m c) (a2 m c) (a5 m c) (a6 m c) b h (t.val % 16) d e) :
      result m c t S h a e = ret (a0 m c) (a1 m c) (a2 m c) (a3 m c) (a4 m c) (a5 m c) (a6 m c) (a7 m c) b h (t.val % 16) a e := by
    unfold result
    simp only [puts_eq m c t S h b hb hS, blk7]
    rw [g_col]
    simp only [blk0 m c t _ _ b hb]
    rfl
  by_cases h0 : t.val % 16 = 0
  · refine (out_A m c t h0 h a e).trans (key _ fun d e => (zeros _).trans ?_)
    rw [h0]
    rfl
  · refine (out_B m c t h0 h a e).trans (key _ fun d e => ?_)
    have h1 : t.val % 16 = (t.val - 1) % 16 + 1 := by omega
    rw [h1]
    exact scratch m c _ ⟨t.val - 1, Nat.lt_of_le_of_lt (Nat.sub_le _ _) t.isLt⟩ b (by dsimp only; omega) rfl h d e

theorem final : (dats m 0 c).arrAt 8 cfg0.N = RET (a0 m c) (a1 m c) (a2 m c) (a3 m c) (a4 m c) (a5 m c) (a6 m c) (a7 m c) := by
  refine (dats m 0 c).arrAt_eq_of_covers 8 _ (by decide +kernel) fun t hf y => ?_
  blk_simp
  rw [after0_8]
  have ht : t.val < 128 := t.isLt
  obtain ⟨a, h, e, rfl⟩ : ∃ (a : Fin 256) (h : Fin 4) (e : Fin 64), y = ix3 0 a (headCol h e) :=
    ⟨y 1, ⟨(y 2).val / 64, by have : (y 2).val < 256 := (y 2).isLt; omega⟩, ⟨(y 2).val % 64, by omega⟩, by blk_ext [headCol]⟩
  refine (out_at m c t ⟨t.val / 16, by omega⟩ rfl h a e).trans ?_
  rw [← RET_apply _ _ _ _ _ _ _ _ ⟨t.val / 16, by omega⟩ h (t.val % 16) (by omega) a e]
  blk_ext [idx t, chunkPos]

end

end Cert.RetIdeal.RefValue

end
-- ==== Proof.RetReference.lean ====
module

public import proofs.«01_k».proof.Proof.Gen.RetRefIdeal.Run
public import proofs.«01_k».proof.Proof.Retention
public import proofs.«01_k».proof.Proof.PrepValue
public import Idealize.ShloMosaic.Lib.Pipeline.ValueKit
public import Idealize.ShloMosaic.Lib.Pointwise
public import Idealize.ShloMosaic.Lib.DynamicIndex
public import Idealize.ShloMosaic.Lib.Claim

/-! The reference's scan over the chunks is the retention of its arguments. -/

@[expose] public section

set_option maxRecDepth 16384

noncomputable section

namespace Cert.RetRefIdeal.RefValue

open Idealize.ShloMosaic Idealize.ShloMosaic.TcCoe Idealize.SL.Sem Idealize.ShloMosaic.StableHlo
open Cert.Rotary Cert.Retention Cert.PrepIdeal.RefValue
open Cert.RetRefIdeal Cert.RetRefIdeal.Gen Cert.RetRefIdeal.Value

section
variable (m : (ℓ : Loc nD τ sig) → Buf (Elt Ideal) ℓ) (c : Dev nD)

/-- The arguments, as arrays. -/
abbrev a0 : FVec Ideal ⟨3, ![8, 4096, 1024]⟩ .f32 := m ((c : Thread nD τ).loc main_arg0)
abbrev a1 : FVec Ideal ⟨3, ![8, 4096, 256]⟩ .f32 := m ((c : Thread nD τ).loc main_arg1)
abbrev a2 : FVec Ideal ⟨3, ![8, 4096, 256]⟩ .f32 := m ((c : Thread nD τ).loc main_arg2)
abbrev a3 : FVec Ideal ⟨3, ![4, 256, 256]⟩ .f32 := m ((c : Thread nD τ).loc main_arg3)
abbrev a4 : FVec Ideal ⟨2, ![256, 256]⟩ .f32 := m ((c : Thread nD τ).loc main_arg4)
abbrev a5 : FVec Ideal ⟨2, ![256, 256]⟩ .f32 := m ((c : Thread nD τ).loc main_arg5)
abbrev a6 : FVec Ideal ⟨2, ![1, 256]⟩ .f32 := m ((c : Thread nD τ).loc main_arg6)
abbrev a7 : FVec Ideal ⟨1, ![256]⟩ .f32 := m ((c : Thread nD τ).loc main_arg7)

/-- Chunks first, then rows, heads, positions in the chunk and head columns, as the scan reads its operands. -/
def CHUNKS (X : FVec Ideal S8x4096x4x64 .f32) : FVec Ideal S16x8x4x256x64 .f32 :=
  transpose S16x8x4x256x64 [1, 0, 3, 2, 4] (shapeCast _ X shapeCasts_S8x4096x4x64_S8x16x256x4x64) transposes_S8x16x256x4x64_S16x8x4x256x64_1_0_3_2_4

/-- The first and second quarter of the columns in heads, turned, and the third in heads. -/
def Q (x : FVec Ideal S8x4096x1024 .f32) (cos sin : FVec Ideal S8x4096x256 .f32) : FVec Ideal S8x4096x4x64 .f32 :=
  TURN (shapeCast _ (extractStridedSlice S8x4096x256 ![0, 0, 0] x slices_S8x4096x1024_S8x4096x256_0_0_0) shapeCasts_S8x4096x256_S8x4096x4x64) cos sin
def K (x : FVec Ideal S8x4096x1024 .f32) (cos sin : FVec Ideal S8x4096x256 .f32) : FVec Ideal S8x4096x4x64 .f32 :=
  mulf (TURN (shapeCast _ (extractStridedSlice S8x4096x256 ![0, 0, 256] x slices_S8x4096x1024_S8x4096x256_0_0_256) shapeCasts_S8x4096x256_S8x4096x4x64) cos sin)
    (broadcastInDim S8x4096x4x64 ![] bcast_S_S8x4096x4x64 (constant S_ .f32 0x3E000000#32))
def V (x : FVec Ideal S8x4096x1024 .f32) : FVec Ideal S8x4096x4x64 .f32 :=
  shapeCast _ (extractStridedSlice S8x4096x256 ![0, 0, 512] x slices_S8x4096x1024_S8x4096x256_0_0_512) shapeCasts_S8x4096x256_S8x4096x4x64

/-- The decay tables in heads. -/
def HEADS (A : FVec Ideal S256x256 .f32) : FVec Ideal S4x256x64 .f32 :=
  transpose S4x256x64 [1, 0, 2] (shapeCast _ A shapeCasts_S256x256_S256x4x64) transposes_S256x4x64_S4x256x64_1_0_2
def HEADS1 (A : FVec Ideal S1x256 .f32) : FVec Ideal S4x1x64 .f32 :=
  transpose S4x1x64 [1, 0, 2] (shapeCast _ A shapeCasts_S1x256_S1x4x64) transposes_S1x4x64_S4x1x64_1_0_2

/-- The half heads the rotation puts side by side. -/
theorem q_hi : upto hostOps0 (launchContents m c) 9 (Proc.devRef .tc main_v7) = extractStridedSlice S8x4096x4x32 ![0, 0, 0, 32]
    (shapeCast S8x4096x4x64 (extractStridedSlice S8x4096x256 ![0, 0, 0] (a0 m c) slices_S8x4096x1024_S8x4096x256_0_0_0) shapeCasts_S8x4096x256_S8x4096x4x64)
    slices_S8x4096x4x64_S8x4096x4x32_0_0_0_32 := by
  after_reads_simp
  rfl
theorem q_lo : upto hostOps0 (launchContents m c) 9 (Proc.devRef .tc main_v6) = extractStridedSlice S8x4096x4x32 ![0, 0, 0, 0]
    (shapeCast S8x4096x4x64 (extractStridedSlice S8x4096x256 ![0, 0, 0] (a0 m c) slices_S8x4096x1024_S8x4096x256_0_0_0) shapeCasts_S8x4096x256_S8x4096x4x64)
    slices_S8x4096x4x64_S8x4096x4x32_0_0_0_0 := by
  after_reads_simp
  rfl
theorem k_hi : upto hostOps0 (launchContents m c) 18 (Proc.devRef .tc main_v16) = extractStridedSlice S8x4096x4x32 ![0, 0, 0, 32]
    (shapeCast S8x4096x4x64 (extractStridedSlice S8x4096x256 ![0, 0, 256] (a0 m c) slices_S8x4096x1024_S8x4096x256_0_0_256) shapeCasts_S8x4096x256_S8x4096x4x64)
    slices_S8x4096x4x64_S8x4096x4x32_0_0_0_32 := by
  after_reads_simp
  rfl
theorem k_lo : upto hostOps0 (launchContents m c) 18 (Proc.devRef .tc main_v15) = extractStridedSlice S8x4096x4x32 ![0, 0, 0, 0]
    (shapeCast S8x4096x4x64 (extractStridedSlice S8x4096x256 ![0, 0, 256] (a0 m c) slices_S8x4096x1024_S8x4096x256_0_0_256) shapeCasts_S8x4096x256_S8x4096x4x64)
    slices_S8x4096x4x64_S8x4096x4x32_0_0_0_0 := by
  after_reads_simp
  rfl
theorem entry0 : entryContents preI m c (Proc.devRef .tc main_v38_0) = CHUNKS (Q (a0 m c) (a1 m c) (a2 m c)) := by
  simp only [entryContents, afterL_cons, afterL_nil]
  after_reads_simp
  rw [q_hi, q_lo]
  rfl
theorem entry1 : entryContents preI m c (Proc.devRef .tc main_v38_1) = CHUNKS (K (a0 m c) (a1 m c) (a2 m c)) := by
  simp only [entryContents, afterL_cons, afterL_nil]
  after_reads_simp
  rw [k_hi, k_lo]
  rfl
theorem entry2 : entryContents preI m c (Proc.devRef .tc main_v38_2) = CHUNKS (V (a0 m c)) := by
  simp only [entryContents, afterL_cons, afterL_nil]
  after_reads_simp
  rfl
theorem entry3 : entryContents preI m c (Proc.devRef .tc main_v38_3) = a3 m c := by
  simp only [entryContents, afterL_cons, afterL_nil]
  after_reads_simp
  rfl
theorem entry4 : entryContents preI m c (Proc.devRef .tc main_v38_4) = HEADS (a4 m c) := by
  simp only [entryContents, afterL_cons, afterL_nil]
  after_reads_simp
  rfl
theorem entry5 : entryContents preI m c (Proc.devRef .tc main_v38_5) = HEADS1 (a6 m c) := by
  simp only [entryContents, afterL_cons, afterL_nil]
  after_reads_simp
  rfl
theorem entry6 : entryContents preI m c (Proc.devRef .tc main_v38_6) = HEADS (a5 m c) := by
  simp only [entryContents, afterL_cons, afterL_nil]
  after_reads_simp
  rfl
theorem entry8 : entryContents preI m c (Proc.devRef .tc main_v38_8)
    = broadcastInDim S8x4x64x64 ![] bcast_S_S8x4x64x64 (constant (F := Ideal) S_ .f32 0x00000000#32) := by
  simp only [entryContents, afterL_cons, afterL_nil]
  after_reads_simp
  rfl

/-- The heads' chunks, entry by entry. -/
theorem CHUNKS_apply (X : FVec Ideal S8x4096x4x64 .f32) (n : Fin 16) (b : Fin 8) (h : Fin 4) (a : Fin 256) (d : Fin 64) :
    CHUNKS X (ix5 n b h a d) = X (ix4 b (chunkPos n.val a) h d) := by
  have hn := n.isLt
  have e (p : n.val * 256 + a.val < 4096) : (⟨n.val * 256 + a.val, p⟩ : Fin 4096) = chunkPos n.val a := Fin.ext (by dsimp only [chunkPos]; omega)
  pointwise [CHUNKS]
  simp only [e]

theorem Q_apply (x : FVec Ideal S8x4096x1024 .f32) (cos sin : FVec Ideal S8x4096x256 .f32) (n : Fin 16) (b : Fin 8) (h : Fin 4) (a : Fin 256) (d : Fin 64) :
    CHUNKS (Q x cos sin) (ix5 n b h a d) = queries x cos sin b h n.val a d := by
  rw [CHUNKS_apply, Q]
  refine TURN_apply _ cos sin b _ _ (fun h d e he => ?_) h d (headCol h d) rfl
  pointwise
  simp only [he]

theorem K_apply (x : FVec Ideal S8x4096x1024 .f32) (cos sin : FVec Ideal S8x4096x256 .f32) (n : Fin 16) (b : Fin 8) (h : Fin 4) (a : Fin 256) (d : Fin 64) :
    CHUNKS (K x cos sin) (ix5 n b h a d) = keys x cos sin b h n.val a d := by
  rw [CHUNKS_apply]
  refine congrArg (· * Ideal.ofBits FTy.f32 0x3E000000#32) ?_
  refine TURN_apply _ cos sin b _ _ (fun h d e he => ?_) h d (headCol h d) rfl
  pointwise
  simp only [he]

theorem V_apply (x : FVec Ideal S8x4096x1024 .f32) (n : Fin 16) (b : Fin 8) (h : Fin 4) (a : Fin 256) (d : Fin 64) :
    CHUNKS (V x) (ix5 n b h a d) = values x b h n.val a d := by
  rw [CHUNKS_apply]
  pointwise [V]
  rfl

theorem HEADS_apply (A : FVec Ideal S256x256 .f32) (h : Fin 4) (a : Fin 256) (d : Fin 64) : HEADS A (ix3 h a d) = decay A h a d := by
  pointwise [HEADS]
  rfl

theorem HEADS1_apply (A : FVec Ideal S1x256 .f32) (h : Fin 4) (d : Fin 64) : HEADS1 A (ix3 h 0 d) = A (ix2 0 (headCol h d)) := by
  pointwise [HEADS1]
  rfl

/-- The starts a trip slices its operands and its result at: the trip's number on the first axis. -/
theorem starts (n : IVec S_ 32) (k : ℕ) (hk : k < 16) (hn : n = fun _ => BitVec.ofNat 32 k) (j : Fin 5) :
    (((![n, constantI S_ 32 0#32, constantI S_ 32 0#32, constantI S_ 32 0#32, constantI S_ 32 0#32] : Fin 5 → IVec S_ 32)) j (Shape.Idx.first h_S_)).toInt
      = ((![k, 0, 0, 0, 0] : Fin 5 → ℕ) j : ℤ) := by
  subst hn
  fin_cases j
  · show (BitVec.ofNat 32 k).toInt = (k : ℤ)
    exact toInt_ofNat_of_lt (by omega)
  all_goals rfl

theorem chunk_at (X : FVec Ideal S16x8x4x256x64 .f32) (n : IVec S_ 32) (k : Fin 16) (hn : n = fun _ => BitVec.ofNat 32 k.val)
    (b : Fin 8) (h : Fin 4) (a : Fin 256) (d : Fin 64) :
    shapeCast S8x4x256x64 (Host.dynamicSlice S1x8x4x256x64 X (fun j => (((![n, constantI S_ 32 0#32, constantI S_ 32 0#32, constantI S_ 32 0#32, constantI S_ 32 0#32] : Fin 5 → IVec S_ 32)) j (Shape.Idx.first h_S_)).toInt)
      sliceFits_S16x8x4x256x64_S1x8x4x256x64) shapeCasts_S1x8x4x256x64_S8x4x256x64 (ix4 b h a d) = X (ix5 k b h a d) := by
  have hs : S16x8x4x256x64.Slices ![k.val, 0, 0, 0, 0] S1x8x4x256x64 := ⟨rfl, fun j => by have := k.isLt; fin_cases j <;> simp [S16x8x4x256x64, S1x8x4x256x64] <;> omega⟩
  rw [Host.dynamicSlice_eq_extractStridedSlice S1x8x4x256x64 X _ ![k.val, 0, 0, 0, 0] _ hs (starts n k.val k.isLt hn)]
  pointwise

/-- A trip's result is put at its own chunk and leaves the others. -/
theorem put_at (X : FVec Ideal S16x8x4x256x64 .f32) (Y : FVec Ideal S8x4x256x64 .f32) (n : IVec S_ 32) (k : Fin 16) (hn : n = fun _ => BitVec.ofNat 32 k.val)
    (i : Fin 16) (b : Fin 8) (h : Fin 4) (a : Fin 256) (d : Fin 64) :
    Host.dynamicUpdateSlice X (broadcastInDim S1x8x4x256x64 ![1, 2, 3, 4] bcast_S8x4x256x64_S1x8x4x256x64_1_2_3_4 Y)
      (fun j => (((![n, constantI S_ 32 0#32, constantI S_ 32 0#32, constantI S_ 32 0#32, constantI S_ 32 0#32] : Fin 5 → IVec S_ 32)) j (Shape.Idx.first h_S_)).toInt)
      updateFits_S16x8x4x256x64_S1x8x4x256x64 (ix5 i b h a d) = if i = k then Y (ix4 b h a d) else X (ix5 i b h a d) := by
  have hs : S16x8x4x256x64.Slices ![k.val, 0, 0, 0, 0] S1x8x4x256x64 := ⟨rfl, fun j => by have := k.isLt; fin_cases j <;> simp [S16x8x4x256x64, S1x8x4x256x64] <;> omega⟩
  rw [Host.dynamicUpdateSlice_eq_updateSlice X _ _ _ ![k.val, 0, 0, 0, 0] (fun j => by rw [starts n k.val k.isLt hn]; have := hs.2 j; omega) hs]
  pointwise
  by_cases hik : i = k
  · rw [if_pos hik, dif_pos (by omega)]
  · rw [if_neg hik, dif_neg (by omega)]

/-- What the carried buffers hold before trip `k`. -/
structure Before (W : Valuation τ sig (Elt Ideal)) (t : ℕ) : Prop where
  q : W (Proc.devRef .tc main_v38_0) = CHUNKS (Q (a0 m c) (a1 m c) (a2 m c))
  k : W (Proc.devRef .tc main_v38_1) = CHUNKS (K (a0 m c) (a1 m c) (a2 m c))
  v : W (Proc.devRef .tc main_v38_2) = CHUNKS (V (a0 m c))
  dm : W (Proc.devRef .tc main_v38_3) = a3 m c
  qd : W (Proc.devRef .tc main_v38_4) = HEADS (a4 m c)
  cd : W (Proc.devRef .tc main_v38_5) = HEADS1 (a6 m c)
  kd : W (Proc.devRef .tc main_v38_6) = HEADS (a5 m c)
  n : W (Proc.devRef .tc main_v38_7) = fun _ => BitVec.ofNat 32 t
  s (b : Fin 8) (h : Fin 4) (d e : Fin 64) : (W (Proc.devRef .tc main_v38_8) : FVec Ideal S8x4x64x64 .f32) (ix4 b h d e)
    = states (a0 m c) (a1 m c) (a2 m c) (a5 m c) (a6 m c) b h t d e
  o (i : Fin 16) (hi : i.val < t) (b : Fin 8) (h : Fin 4) (a : Fin 256) (e : Fin 64) :
    (W (Proc.devRef .tc main_v38_9) : FVec Ideal S16x8x4x256x64 .f32) (ix5 i b h a e)
      = outs (a0 m c) (a1 m c) (a2 m c) (a3 m c) (a4 m c) (a5 m c) (a6 m c) b h i.val a e

theorem before_zero : Before m c (entryContents preI m c) 0 where
  q := entry0 m c
  k := entry1 m c
  v := entry2 m c
  dm := entry3 m c
  qd := entry4 m c
  cd := entry5 m c
  kd := entry6 m c
  n := ctr_entry m c
  s b h d e := by
    rw [entry8]
    pointwise
    rfl
  o i hi := absurd hi (by omega)

variable {m c} {W : Valuation τ sig (Elt Ideal)} {k : Fin 16} (H : Before m c W k.val)
include H

/-- The chunk's queries, keys and values, entry by entry. -/
theorem q_at (b : Fin 8) (h : Fin 4) (a : Fin 256) (d : Fin 64) :
    (res_main_while0b_v66 W : FVec Ideal S8x4x256x64 .f32) (ix4 b h a d) = queries (a0 m c) (a1 m c) (a2 m c) b h k.val a d := by
  rw [res_main_while0b_v66]
  refine (chunk_at (W (Proc.devRef .tc main_v38_0)) (W (Proc.devRef .tc main_v38_7)) k H.n b h a d).trans ?_
  rw [H.q, Q_apply]
theorem k_at (b : Fin 8) (h : Fin 4) (a : Fin 256) (d : Fin 64) :
    (res_main_while0b_v67 W : FVec Ideal S8x4x256x64 .f32) (ix4 b h a d) = keys (a0 m c) (a1 m c) (a2 m c) b h k.val a d := by
  rw [res_main_while0b_v67]
  refine (chunk_at (W (Proc.devRef .tc main_v38_1)) (W (Proc.devRef .tc main_v38_7)) k H.n b h a d).trans ?_
  rw [H.k, K_apply]
theorem v_at (b : Fin 8) (h : Fin 4) (a : Fin 256) (d : Fin 64) :
    (res_main_while0b_v68 W : FVec Ideal S8x4x256x64 .f32) (ix4 b h a d) = values (a0 m c) b h k.val a d := by
  rw [res_main_while0b_v68]
  refine (chunk_at (W (Proc.devRef .tc main_v38_2)) (W (Proc.devRef .tc main_v38_7)) k H.n b h a d).trans ?_
  rw [H.v, V_apply]

theorem state_step (b : Fin 8) (h : Fin 4) (d e : Fin 64) : (step_main_v38_8 W : FVec Ideal S8x4x64x64 .f32) (ix4 b h d e)
    = states (a0 m c) (a1 m c) (a2 m c) (a5 m c) (a6 m c) b h (k.val + 1) d e := by
  rw [step_main_v38_8, id_eq, H.cd, H.kd]
  pointwise
  simp only [k_at H, v_at H, H.s, HEADS_apply, HEADS1_apply]
  rfl

theorem out_step (i : Fin 16) (b : Fin 8) (h : Fin 4) (a : Fin 256) (e : Fin 64) :
    (step_main_v38_9 W : FVec Ideal S16x8x4x256x64 .f32) (ix5 i b h a e)
      = if i = k then outs (a0 m c) (a1 m c) (a2 m c) (a3 m c) (a4 m c) (a5 m c) (a6 m c) b h k.val a e
        else (W (Proc.devRef .tc main_v38_9) : FVec Ideal S16x8x4x256x64 .f32) (ix5 i b h a e) := by
  rw [step_main_v38_9, id_eq]
  refine (put_at (W (Proc.devRef .tc main_v38_9)) _ (W (Proc.devRef .tc main_v38_7)) k H.n i b h a e).trans (ite_congr rfl (fun _ => ?_) fun _ => rfl)
  rw [H.dm, H.qd]
  pointwise
  simp only [q_at H, k_at H, v_at H, H.s, HEADS_apply]
  rfl

theorem before_succ : Before m c (STEP W) (k.val + 1) where
  q := (STEP_main_v38_0 W).trans H.q
  k := (STEP_main_v38_1 W).trans H.k
  v := (STEP_main_v38_2 W).trans H.v
  dm := (STEP_main_v38_3 W).trans H.dm
  qd := (STEP_main_v38_4 W).trans H.qd
  cd := (STEP_main_v38_5 W).trans H.cd
  kd := (STEP_main_v38_6 W).trans H.kd
  n := by
    rw [STEP_main_v38_7, step_main_v38_7, H.n, BitVec.ofNat_add]
    rfl
  s b h d e := by rw [STEP_main_v38_8, state_step H]
  o i hi b h a e := by
    rw [STEP_main_v38_9, out_step H]
    split_ifs with hik
    · rw [hik]
    · exact H.o i (by omega) b h a e

omit H

theorem before (t : ℕ) (ht : t ≤ 16) : Before m c (STEP^[t] (entryContents preI m c)) t := by
  induction t with
  | zero => exact before_zero m c
  | succ t ih =>
    rw [Function.iterate_succ_apply']
    exact before_succ (k := ⟨t, by omega⟩) (ih (by omega))

end

/-- The chunks put back together. -/
def OUTS (Y : FVec Ideal S16x8x4x256x64 .f32) : FVec Ideal S8x4096x4x64 .f32 :=
  shapeCast S8x4096x4x64 (transpose S8x16x256x4x64 [1, 0, 3, 2, 4] Y transposes_S16x8x4x256x64_S8x16x256x4x64_1_0_3_2_4) shapeCasts_S8x16x256x4x64_S8x4096x4x64

theorem OUTS_apply (Y : FVec Ideal S16x8x4x256x64 .f32) (b : Fin 8) (n : Fin 16) (a : Fin 256) (h : Fin 4) (e : Fin 64) :
    OUTS Y (ix4 b (chunkPos n.val a) h e) = Y (ix5 n b h a e) := by
  have h1 : (chunkPos n.val a).val = n.val * 256 + a.val := by dsimp only [chunkPos]; omega
  pointwise [OUTS]
  blk_ext [h1]

/-- A head's mean, spread over its columns, and the entries less it. -/
def MEAN (O : FVec Ideal S8x4096x4x64 .f32) : FVec Ideal S8x4096x4x1 .f32 :=
  Host.divf (broadcastInDim S8x4096x4x1 ![0, 1, 2] bcast_S8x4096x4_S8x4096x4x1_0_1_2
    (Host.reduceAdd O (constant S_ .f32 0x00000000#32) reducesTo_S8x4096x4x64_S8x4096x4_d3 h_S_))
    (broadcastInDim S8x4096x4x1 ![] bcast_S_S8x4096x4x1 (constant S_ .f32 0x42800000#32))
def CENTRED (O : FVec Ideal S8x4096x4x64 .f32) : FVec Ideal S8x4096x4x64 .f32 :=
  subf O (broadcastInDim S8x4096x4x64 ![0, 1, 2, 3] bcast_S8x4096x4x1_S8x4096x4x64_0_1_2_3 (MEAN O))

/-- The heads normed and side by side again. -/
def NORMED (O : FVec Ideal S8x4096x4x64 .f32) : FVec Ideal S8x4096x256 .f32 :=
  shapeCast _ (mulf (CENTRED O) (broadcastInDim S8x4096x4x64 ![0, 1, 2, 3] bcast_S8x4096x4x1_S8x4096x4x64_0_1_2_3
    (Host.rsqrt (addf (MEAN (mulf (CENTRED O) (CENTRED O))) (broadcastInDim S8x4096x4x1 ![] bcast_S_S8x4096x4x1 (constant S_ .f32 0x358637BD#32))))))
    shapeCasts_S8x4096x4x64_S8x4096x256

/-- The gate, times its logistic. -/
def GATED (x : FVec Ideal S8x4096x1024 .f32) : FVec Ideal S8x4096x256 .f32 :=
  mulf (extractStridedSlice S8x4096x256 ![0, 0, 768] x slices_S8x4096x1024_S8x4096x256_0_0_768)
    (Host.divf (broadcastInDim S8x4096x256 ![] bcast_S_S8x4096x256 (constant S_ .f32 0x3F800000#32))
      (addf (broadcastInDim S8x4096x256 ![] bcast_S_S8x4096x256 (constant S_ .f32 0x3F800000#32))
        (Host.exp (Host.negf (extractStridedSlice S8x4096x256 ![0, 0, 768] x slices_S8x4096x1024_S8x4096x256_0_0_768)))))

/-- What follows the scan. -/
def AFTER (O : FVec Ideal S8x4096x4x64 .f32) (x : FVec Ideal S8x4096x1024 .f32) (w : FVec Ideal S256 .f32) : FVec Ideal S8x4096x256 .f32 :=
  mulf (mulf (NORMED O) (broadcastInDim S8x4096x256 ![0, 1, 2] bcast_S1x1x256_S8x4096x256_0_1_2 (broadcastInDim S1x1x256 ![2] bcast_S256_S1x1x256_2 w))) (GATED x)

theorem out_eq (W : Valuation τ sig (Elt Ideal)) :
    out_main_v65 W = AFTER (OUTS (W (Proc.devRef .tc main_v38_9))) (W (Proc.devRef .tc main_arg0)) (W (Proc.devRef .tc main_arg7)) := rfl

theorem CENTRED_apply (O : FVec Ideal S8x4096x4x64 .f32) (b : Fin 8) (s : Fin 4096) (h : Fin 4) (e : Fin 64) :
    CENTRED O (ix4 b s h e) = O (ix4 b s h e) - Ideal.div (∑ j, O (ix4 b s h j)) (Ideal.ofBits FTy.f32 0x42800000#32) := by
  pointwise [CENTRED, MEAN]

theorem NORMED_apply (O : FVec Ideal S8x4096x4x64 .f32) (b : Fin 8) (s : Fin 4096) (h : Fin 4) (e : Fin 64) :
    NORMED O (ix3 b s (headCol h e)) = CENTRED O (ix4 b s h e)
      * Ideal.rsqrt (Ideal.div (∑ j, CENTRED O (ix4 b s h j) * CENTRED O (ix4 b s h j)) (Ideal.ofBits FTy.f32 0x42800000#32) + Ideal.ofBits FTy.f32 0x358637BD#32) := by
  have h2 : (headCol h e).val / 64 = h.val := by dsimp only [headCol]; omega
  have h3 : (headCol h e).val % 64 = e.val := by dsimp only [headCol]; omega
  pointwise [NORMED, MEAN]
  simp only [h2, h3]

theorem AFTER_apply (O : FVec Ideal S8x4096x4x64 .f32) (x : FVec Ideal S8x4096x1024 .f32) (w : FVec Ideal S256 .f32)
    (b : Fin 8) (s : Fin 4096) (h : Fin 4) (e : Fin 64) :
    AFTER O x w (ix3 b s (headCol h e))
      = norm (fun j => O (ix4 b s h j)) (w (ix1 (headCol h e))) (x (ix3 b s ⟨768 + (headCol h e).val, by omega⟩)) e := by
  pointwise [AFTER, GATED]
  rw [NORMED_apply]
  simp only [CENTRED_apply]
  rfl

/-- The reference's result is the retention of the arguments. -/
theorem final (m : (ℓ : Loc nD τ sig) → Buf (Elt Ideal) ℓ) (c : Dev nD) (W : Valuation τ sig (Elt Ideal)) (H : Before m c W 16)
    (h0 : W (Proc.devRef .tc main_arg0) = a0 m c) (h7 : W (Proc.devRef .tc main_arg7) = a7 m c) :
    out_main_v65 W = RET (a0 m c) (a1 m c) (a2 m c) (a3 m c) (a4 m c) (a5 m c) (a6 m c) (a7 m c) := by
  rw [out_eq, h0, h7]
  funext i
  obtain ⟨b, s, e, rfl⟩ : ∃ (b : Fin 8) (s : Fin 4096) (e : Fin 256), i = ix3 b s e := ⟨i 0, i 1, i 2, eq_ix3 i⟩
  have hs := s.isLt
  have he := e.isLt
  obtain ⟨n, a, rfl⟩ : ∃ (n : Fin 16) (a : Fin 256), s = chunkPos n.val a :=
    ⟨⟨s.val / 256, by omega⟩, ⟨s.val % 256, by omega⟩, Fin.ext (by dsimp only [chunkPos]; omega)⟩
  obtain ⟨h, d, rfl⟩ : ∃ (h : Fin 4) (d : Fin 64), e = headCol h d :=
    ⟨⟨e.val / 64, by omega⟩, ⟨e.val % 64, by omega⟩, Fin.ext (by dsimp only [headCol]; omega)⟩
  rw [AFTER_apply, RET_apply _ _ _ _ _ _ _ _ b h n.val n.isLt]
  simp only [OUTS_apply, H.o n n.isLt]
  rfl

end Cert.RetRefIdeal.RefValue

end
-- ==== Proof.RetClaims.lean ====
module

public import proofs.«01_k».proof.Defs
public import proofs.«01_k».proof.Proof.Gen.Ret.Frame
public import proofs.«01_k».proof.Proof.RetKernel
public import proofs.«01_k».proof.Proof.RetReference
public import Idealize.ShloMosaic.Lib.Claim

/-! The claims about the call `Ret`: its frames, and that its exact-arithmetic result is the reference's. -/

@[expose] public section

set_option maxRecDepth 16384
set_option maxHeartbeats 1600000

noncomputable section

namespace Cert.Proof

open Idealize.ShloMosaic Idealize.SL.Sem

theorem runRet : Cert.quiescent_Ret := fun m g _ => Cert.Ret.Gen.frame m g

theorem runRetIdeal : Cert.quiescent_RetIdeal := fun m g _ => Cert.RetIdeal.Gen.frame m g

theorem runRetRef : Cert.quiescent_RetRefIdeal := fun m g _ =>
  Idealize.ShloMosaic.θ_run_mono (Cert.RetRefIdeal.Value.run m g) fun r h =>
    ⟨fun c => (h c).2, sem_eq_zero_of_no_sems (by decide) r.2⟩

/-- The reference's result, at the kernel's arguments. -/
theorem retAt (m : (ℓ : Loc Cert.RetIdeal.nD Cert.RetIdeal.τ Cert.RetIdeal.sig) → Buf (Elt Ideal) ℓ)
    (m' : (ℓ : Loc Cert.RetRefIdeal.nD Cert.RetRefIdeal.τ Cert.RetRefIdeal.sig) → Buf (Elt Ideal) ℓ) (c : Dev Cert.RetIdeal.nD)
    (h0 : Cert.RetRefIdeal.RefValue.a0 m' c = Cert.RetIdeal.RefValue.a0 m c) (h1 : Cert.RetRefIdeal.RefValue.a1 m' c = Cert.RetIdeal.RefValue.a1 m c)
    (h2 : Cert.RetRefIdeal.RefValue.a2 m' c = Cert.RetIdeal.RefValue.a2 m c) (h3 : Cert.RetRefIdeal.RefValue.a3 m' c = Cert.RetIdeal.RefValue.a3 m c)
    (h4 : Cert.RetRefIdeal.RefValue.a4 m' c = Cert.RetIdeal.RefValue.a4 m c) (h5 : Cert.RetRefIdeal.RefValue.a5 m' c = Cert.RetIdeal.RefValue.a5 m c)
    (h6 : Cert.RetRefIdeal.RefValue.a6 m' c = Cert.RetIdeal.RefValue.a6 m c) (h7 : Cert.RetRefIdeal.RefValue.a7 m' c = Cert.RetIdeal.RefValue.a7 m c) :
    Cert.RetRefIdeal.Value.out_main_v65 (Cert.RetRefIdeal.Value.STEP^[16] (StableHlo.entryContents Cert.RetRefIdeal.Value.preI m' c))
      = (Cert.RetIdeal.Gen.dats m 0 c).arrAt 8 Cert.RetIdeal.cfg0.N := by
  rw [Cert.RetRefIdeal.RefValue.final m' c _ (Cert.RetRefIdeal.RefValue.before 16 le_rfl) (Cert.RetRefIdeal.Value.iter_main_arg0 m' c 16)
    (Cert.RetRefIdeal.Value.iter_main_arg7 m' c 16), Cert.RetIdeal.RefValue.final m c, h0, h1, h2, h3, h4, h5, h6, h7]

theorem sameRet : Cert.algebraic_RetIdeal_RetRefIdeal := by
  pair_intro
  · run_from Cert.RetIdeal.Gen.run_main m g
  · refine Idealize.ShloMosaic.θ_run_mono (Cert.RetRefIdeal.Value.run m' g') fun r h c => ⟨(h c).1.trans ?_, (h c).2⟩
    obtain ⟨h0, h1, h2, h3, h4, h5, h6, h7⟩ := hagree c
    exact retAt m m' c h0 h1 h2 h3 h4 h5 h6 h7

end Cert.Proof

end
-- ==== Proof.Scan.lean ====
module

public import Idealize.ShloMosaic.PureOps.Ideal

/-! A linear recurrence over the complex numbers, and the two ways of running it: step by step, and by doubling. -/

@[expose] public section

noncomputable section

namespace Cert.Scan

open Idealize.ShloMosaic

/-- The recurrence's states, `b` being fed in: `z 0 = 0` and `z (t + 1) = a * z t + b t`. -/
def states (a : ℂ) (b : ℕ → ℂ) : ℕ → ℂ
  | 0 => 0
  | t + 1 => a * states a b t + b t

/-- The last `n` terms of what is fed in up to `t`, each with its power of `a`. -/
def window (a : ℂ) (b : ℕ → ℂ) (n t : ℕ) : ℂ := ∑ i ∈ Finset.range n, if i ≤ t then a ^ i * b (t - i) else 0

theorem window_one (a : ℂ) (b : ℕ → ℂ) (t : ℕ) : window a b 1 t = b t := by
  simp [window]

/-- Doubling: a window of twice the length is the window, and `a ^ n` times the window `n` earlier. -/
theorem window_double (a : ℂ) (b : ℕ → ℂ) (n t : ℕ) :
    window a b n t + (if n ≤ t then a ^ n * window a b n (t - n) else 0) = window a b (n + n) t := by
  unfold window
  rw [Finset.sum_range_add]
  congr 1
  split_ifs with h
  · rw [Finset.mul_sum]
    refine Finset.sum_congr rfl fun i _ => ?_
    by_cases hi : n + i ≤ t
    · rw [if_pos hi, if_pos (by omega), Nat.sub_sub, pow_add, mul_assoc]
    · rw [if_neg hi, if_neg (by omega), mul_zero]
  · exact (Finset.sum_eq_zero fun i _ => if_neg (by omega)).symm

/-- The states after `s` are a window reaching back to `s`, and a power of `a` times the state at `s`. -/
theorem states_add (a : ℂ) (b : ℕ → ℂ) (s t : ℕ) : ∀ n, t < n →
    window a (fun i => b (s + i)) n t + a ^ (t + 1) * states a b s = states a b (s + t + 1) := by
  induction t with
  | zero =>
    intro n hn
    obtain ⟨n, rfl⟩ : ∃ k, n = k + 1 := ⟨n - 1, by omega⟩
    rw [window, Finset.sum_range_succ', Finset.sum_eq_zero fun i _ => if_neg (by omega)]
    simp [states, add_comm]
  | succ t ih =>
    intro n hn
    obtain ⟨n, rfl⟩ : ∃ k, n = k + 1 := ⟨n - 1, by omega⟩
    have e : window a (fun i => b (s + i)) (n + 1) (t + 1) = a * window a (fun i => b (s + i)) n t + b (s + (t + 1)) := by
      rw [window, Finset.sum_range_succ', window, Finset.mul_sum]
      congr 1
      · refine Finset.sum_congr rfl fun i _ => ?_
        by_cases hi : i ≤ t
        · rw [if_pos hi, if_pos (by omega), Nat.add_sub_add_right, pow_succ]; ring
        · rw [if_neg hi, if_neg (by omega), mul_zero]
      · simp
    rw [e]
    show _ = a * states a b (s + t + 1) + b (s + t + 1)
    rw [← ih n (by omega), pow_succ a (t + 1), show s + (t + 1) = s + t + 1 from rfl]
    ring

/-- The powers of one complex number, as a table of exponentials and angles gives them: `l` below zero and the step `exp y` may
be infinite. -/
theorem powers (l r y : EReal) (hl : l < 0) (hr : r ≠ ⊤) (hr' : r ≠ ⊥) : ∃ a : ℂ, ∀ n : ℕ, 0 < n →
    Ideal.exp ((n : ℝ) * (l * Ideal.exp y)) * Ideal.cos ((n : ℝ) * (r * Ideal.exp y)) = ((a ^ n).re : EReal)
      ∧ Ideal.exp ((n : ℝ) * (l * Ideal.exp y)) * Ideal.sin ((n : ℝ) * (r * Ideal.exp y)) = ((a ^ n).im : EReal) := by
  have hz : ∀ n : ℕ, 0 < n → (((n : ℝ) : EReal) * ⊥ = ⊥) := fun n hn => EReal.coe_mul_bot_of_pos (Nat.cast_pos.2 hn)
  have h0 : (∀ n : ℕ, 0 < n → Ideal.exp ((n : ℝ) * (l * Ideal.exp y)) = 0) → ∃ a : ℂ, ∀ n : ℕ, 0 < n →
    Ideal.exp ((n : ℝ) * (l * Ideal.exp y)) * Ideal.cos ((n : ℝ) * (r * Ideal.exp y)) = ((a ^ n).re : EReal)
      ∧ Ideal.exp ((n : ℝ) * (l * Ideal.exp y)) * Ideal.sin ((n : ℝ) * (r * Ideal.exp y)) = ((a ^ n).im : EReal) := by
    intro h
    refine ⟨0, fun n hn => ?_⟩
    rw [h n hn, zero_pow hn.ne']
    simp
  lift r to ℝ using ⟨hr, hr'⟩
  induction y using EReal.rec with
  | bot =>
    refine ⟨1, fun n hn => ?_⟩
    have e : Ideal.exp ⊥ = 0 := rfl
    simp only [e, mul_zero, one_pow]
    rw [← EReal.coe_zero]
    constructor
    · show ((Real.exp 0 : ℝ) : EReal) * ((Real.cos 0 : ℝ) : EReal) = _
      simp
    · show ((Real.exp 0 : ℝ) : EReal) * ((Real.sin 0 : ℝ) : EReal) = _
      simp
  | top =>
    refine h0 fun n hn => ?_
    have e : Ideal.exp ⊤ = ⊤ := rfl
    rw [e, EReal.mul_top_of_neg hl, hz n hn]
    rfl
  | coe y =>
    have e : Ideal.exp (y : EReal) = ((Real.exp y : ℝ) : EReal) := rfl
    induction l using EReal.rec with
    | top => simp at hl
    | bot =>
      refine h0 fun n hn => ?_
      rw [e, EReal.bot_mul_coe_of_pos (Real.exp_pos y), hz n hn]
      rfl
    | coe l =>
      refine ⟨Complex.exp ((l * Real.exp y : ℝ) + (r * Real.exp y : ℝ) * Complex.I), fun n _ => ?_⟩
      rw [e, ← EReal.coe_mul, ← EReal.coe_mul, ← EReal.coe_mul, ← EReal.coe_mul, ← Complex.exp_nat_mul, Complex.exp_re, Complex.exp_im]
      have h1 : ((n : ℂ) * ((l * Real.exp y : ℝ) + (r * Real.exp y : ℝ) * Complex.I)).re = n * (l * Real.exp y) := by
        simp [Complex.mul_re, -Complex.ofReal_mul, -Complex.ofReal_exp]
      have h2 : ((n : ℂ) * ((l * Real.exp y : ℝ) + (r * Real.exp y : ℝ) * Complex.I)).im = n * (r * Real.exp y) := by
        simp [Complex.mul_im, -Complex.ofReal_mul, -Complex.ofReal_exp]
      rw [h1, h2, EReal.coe_mul (Real.exp _), EReal.coe_mul (Real.exp _)]
      exact ⟨rfl, rfl⟩

/-- A complex number's real and imaginary part, times another's, added to a third's, as the programs add them. -/
theorem re_step (x a z : ℂ) : (x.re : EReal) + (a.re : EReal) * (z.re : EReal) - (a.im : EReal) * (z.im : EReal) = ((x + a * z).re : EReal) := by
  rw [← EReal.coe_mul, ← EReal.coe_mul, ← EReal.coe_add, ← EReal.coe_sub, EReal.coe_eq_coe_iff, Complex.add_re, Complex.mul_re]
  ring
theorem im_step (x a z : ℂ) : (x.im : EReal) + (a.re : EReal) * (z.im : EReal) + (a.im : EReal) * (z.re : EReal) = ((x + a * z).im : EReal) := by
  rw [← EReal.coe_mul, ← EReal.coe_mul, ← EReal.coe_add, ← EReal.coe_add, EReal.coe_eq_coe_iff, Complex.add_im, Complex.mul_im]
  ring
theorem re_next (x a z : ℂ) : (a.re : EReal) * (z.re : EReal) - (a.im : EReal) * (z.im : EReal) + (x.re : EReal) = ((a * z + x).re : EReal) := by
  rw [← EReal.coe_mul, ← EReal.coe_mul, ← EReal.coe_sub, ← EReal.coe_add, EReal.coe_eq_coe_iff, Complex.add_re, Complex.mul_re]
theorem im_next (x a z : ℂ) : (a.re : EReal) * (z.im : EReal) + (a.im : EReal) * (z.re : EReal) + (x.im : EReal) = ((a * z + x).im : EReal) := by
  rw [← EReal.coe_mul, ← EReal.coe_mul, ← EReal.coe_add, ← EReal.coe_add, EReal.coe_eq_coe_iff, Complex.add_im, Complex.mul_im]

end Cert.Scan

end
-- ==== Proof.S5Spec.lean ====
module

public import proofs.«01_k».proof.Proof.Scan
public import Idealize.ShloMosaic.Lib.Pointwise

/-! The state-space layer, entry by entry: its input, its states and what follows them. -/

@[expose] public section

noncomputable section

namespace Cert.Scan

open Idealize.ShloMosaic

/-- What is fed into column `n` at position `s` of row `b`. -/
def fed (x : FVec Ideal ⟨3, ![8, 4096, 512]⟩ .f32) (w : FVec Ideal ⟨2, ![256, 2048]⟩ .f32) (b : Fin 8) (s : Fin 4096) (n : Fin 2048) : EReal :=
  ∑ k : Fin 256, x (ix3 b s ⟨k.val, by omega⟩) * w (ix2 k n)

/-- `β` is what is fed in, the two halves of the columns as real and imaginary parts. -/
def Inputs (x : FVec Ideal ⟨3, ![8, 4096, 512]⟩ .f32) (w : FVec Ideal ⟨2, ![256, 2048]⟩ .f32) (β : Fin 8 → Fin 1024 → ℕ → ℂ) : Prop :=
  ∀ (b : Fin 8) (s : Fin 4096) (l : Fin 1024), fed x w b s ⟨l.val, by omega⟩ = ((β b l s.val).re : EReal)
    ∧ fed x w b s ⟨1024 + l.val, by omega⟩ = ((β b l s.val).im : EReal)

/-- The decay of column `l`, bounded away from none, and its step. -/
def rate (x1 : FVec Ideal ⟨2, ![16, 64]⟩ .f32) (l : Fin 1024) : EReal :=
  min (x1 (ix2 ⟨l.val / 64, by omega⟩ ⟨l.val % 64, by omega⟩)) (Ideal.ofBits FTy.f32 0xB8D1B717#32)
def turn (x2 : FVec Ideal ⟨2, ![16, 64]⟩ .f32) (l : Fin 1024) : EReal := x2 (ix2 ⟨l.val / 64, by omega⟩ ⟨l.val % 64, by omega⟩)
def step (x3 : FVec Ideal ⟨1, ![16]⟩ .f32) (l : Fin 1024) : EReal := Ideal.exp (x3 (ix1 ⟨l.val / 64, by omega⟩))

/-- The real and imaginary part of column `l`'s factor over `n` steps. -/
def powRe (x1 x2 : FVec Ideal ⟨2, ![16, 64]⟩ .f32) (x3 : FVec Ideal ⟨1, ![16]⟩ .f32) (l : Fin 1024) (n : EReal) : EReal :=
  Ideal.exp (n * (rate x1 l * step x3 l)) * Ideal.cos (n * (turn x2 l * step x3 l))
def powIm (x1 x2 : FVec Ideal ⟨2, ![16, 64]⟩ .f32) (x3 : FVec Ideal ⟨1, ![16]⟩ .f32) (l : Fin 1024) (n : EReal) : EReal :=
  Ideal.exp (n * (rate x1 l * step x3 l)) * Ideal.sin (n * (turn x2 l * step x3 l))

/-- `A` is the columns' factors. -/
def Factors (x1 x2 : FVec Ideal ⟨2, ![16, 64]⟩ .f32) (x3 : FVec Ideal ⟨1, ![16]⟩ .f32) (A : Fin 1024 → ℂ) : Prop :=
  ∀ (l : Fin 1024) (n : ℕ), 0 < n → powRe x1 x2 x3 l ((n : ℝ) : EReal) = ((A l ^ n).re : EReal)
    ∧ powIm x1 x2 x3 l ((n : ℝ) : EReal) = ((A l ^ n).im : EReal)

theorem rate_neg (x1 : FVec Ideal ⟨2, ![16, 64]⟩ .f32) (l : Fin 1024) (h : Ideal.ofBits FTy.f32 0xB8D1B717#32 < (0 : EReal)) : rate x1 l < 0 :=
  lt_of_le_of_lt (min_le_right _ _) h

theorem exists_factors (x1 x2 : FVec Ideal ⟨2, ![16, 64]⟩ .f32) (x3 : FVec Ideal ⟨1, ![16]⟩ .f32)
    (h : Ideal.ofBits FTy.f32 0xB8D1B717#32 < (0 : EReal))
    (h2 : ∀ i j, ∃ r : ℝ, x2 (ix2 i j) = (r : EReal)) : ∃ A, Factors x1 x2 x3 A := by
  have key (l : Fin 1024) : ∃ a : ℂ, ∀ n : ℕ, 0 < n → powRe x1 x2 x3 l ((n : ℝ) : EReal) = ((a ^ n).re : EReal)
      ∧ powIm x1 x2 x3 l ((n : ℝ) : EReal) = ((a ^ n).im : EReal) := by
    obtain ⟨r, hr⟩ := h2 ⟨l.val / 64, by omega⟩ ⟨l.val % 64, by omega⟩
    refine powers (rate x1 l) (turn x2 l) (x3 (ix1 ⟨l.val / 64, by omega⟩)) (rate_neg x1 l h) ?_ ?_
    · exact fun e => EReal.coe_ne_top r (hr.symm.trans e)
    · exact fun e => EReal.coe_ne_bot r (hr.symm.trans e)
  exact ⟨fun l => Classical.choose (key l), fun l => Classical.choose_spec (key l)⟩

theorem exists_inputs (x : FVec Ideal ⟨3, ![8, 4096, 512]⟩ .f32) (w : FVec Ideal ⟨2, ![256, 2048]⟩ .f32)
    (h : ∀ b s n, ∃ r : ℝ, fed x w b s n = (r : EReal)) : ∃ β, Inputs x w β := by
  choose r hr using h
  refine ⟨fun b l s => ⟨r b (Fin.ofNat 4096 s) ⟨l.val, by omega⟩, r b (Fin.ofNat 4096 s) ⟨1024 + l.val, by omega⟩⟩, fun b s l => ?_⟩
  have e : Fin.ofNat 4096 s.val = s := Fin.ext (Nat.mod_eq_of_lt s.isLt)
  exact ⟨(hr b s _).trans (congrArg (fun z => ((r b z _ : ℝ) : EReal)) e.symm), (hr b s _).trans (congrArg (fun z => ((r b z _ : ℝ) : EReal)) e.symm)⟩

/-- The states of row `b` after position `s`: the columns' real parts and their imaginary parts. -/
def stRe (A : Fin 1024 → ℂ) (β : Fin 8 → Fin 1024 → ℕ → ℂ) (b : Fin 8) (s : ℕ) (l : Fin 1024) : EReal := ((states (A l) (β b l) (s + 1)).re : EReal)
def stIm (A : Fin 1024 → ℂ) (β : Fin 8 → Fin 1024 → ℕ → ℂ) (b : Fin 8) (s : ℕ) (l : Fin 1024) : EReal := ((states (A l) (β b l) (s + 1)).im : EReal)

/-- A sum over both halves of the columns. -/
theorem sum_halves (f : Fin 2048 → EReal) : ∑ n, f n = (∑ l : Fin 1024, f ⟨l.val, by omega⟩) + ∑ l : Fin 1024, f ⟨1024 + l.val, by omega⟩ :=
  Fin.sum_univ_add (a := 1024) (b := 1024) f

/-- The smooth rectifier. -/
def gelu (v : EReal) : EReal :=
  v * (Ideal.ofBits FTy.f32 0x3F000000#32 * (1
    + Ideal.tanh (Ideal.ofBits FTy.f32 0x3F4C422A#32 * (v + Ideal.ofBits FTy.f32 0x3D372713#32 * (v * v * v)))))

/-- A value times its own or another's logistic. -/
def gate (v z : EReal) : EReal := v * Ideal.div (1) (1 + Ideal.exp (-z))

/-- The layer's output column `j` of one position, from its states. -/
def read (X Y : Fin 1024 → EReal) (u : Fin 256 → EReal) (wo : Fin 2048 → Fin 256 → EReal) (d : Fin 256 → EReal) (j : Fin 256) : EReal :=
  gelu ((∑ l, X l * wo ⟨l.val, by omega⟩ j) + (∑ l, Y l * wo ⟨1024 + l.val, by omega⟩ j) + d j * u j)

/-- The result's column `j` of one position, from its states. -/
def result (X Y : Fin 1024 → EReal) (u g : Fin 256 → EReal) (wo : Fin 2048 → Fin 256 → EReal) (d : Fin 256 → EReal) (wg : Fin 256 → Fin 256 → EReal)
    (j : Fin 256) : EReal :=
  gate (read X Y u wo d j) (∑ k, read X Y u wo d k * wg k j) * gate (g j) (g j)

/-- The layer's result. -/
def S5 (A : Fin 1024 → ℂ) (β : Fin 8 → Fin 1024 → ℕ → ℂ) (x : FVec Ideal ⟨3, ![8, 4096, 512]⟩ .f32) (wo : FVec Ideal ⟨2, ![2048, 256]⟩ .f32)
    (d : FVec Ideal ⟨1, ![256]⟩ .f32) (wg : FVec Ideal ⟨2, ![256, 256]⟩ .f32) : FVec Ideal ⟨3, ![8, 4096, 256]⟩ .f32 := fun i =>
  result (stRe A β (i 0) (i 1).val) (stIm A β (i 0) (i 1).val) (fun k => x (ix3 (i 0) (i 1) ⟨k.val, by omega⟩)) (fun k => x (ix3 (i 0) (i 1) ⟨256 + k.val, by omega⟩))
    (fun n k => wo (ix2 n k)) (fun k => d (ix1 k)) (fun k j => wg (ix2 k j)) (i 2)

theorem S5_apply (A : Fin 1024 → ℂ) (β : Fin 8 → Fin 1024 → ℕ → ℂ) (x : FVec Ideal ⟨3, ![8, 4096, 512]⟩ .f32) (wo : FVec Ideal ⟨2, ![2048, 256]⟩ .f32)
    (d : FVec Ideal ⟨1, ![256]⟩ .f32) (wg : FVec Ideal ⟨2, ![256, 256]⟩ .f32) (b : Fin 8) (s : Fin 4096) (j : Fin 256) :
    S5 A β x wo d wg (ix3 b s j) = result (stRe A β b s.val) (stIm A β b s.val) (fun k => x (ix3 b s ⟨k.val, by omega⟩)) (fun k => x (ix3 b s ⟨256 + k.val, by omega⟩))
      (fun n k => wo (ix2 n k)) (fun k => d (ix1 k)) (fun k j => wg (ix2 k j)) j := rfl

end Cert.Scan

end
-- ==== Proof.S5Point.lean ====
module

public import proofs.«01_k».proof.Proof.Gen.S5Ideal.Value
public import proofs.«01_k».proof.Proof.S5Spec
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Claim

/-! What the state-space kernel computes at one grid point, entry by entry. -/

@[expose] public section

set_option maxRecDepth 16384

noncomputable section

namespace Cert.S5Ideal.RefValue

open Idealize.ShloMosaic Idealize.ShloMosaic.TcCoe Idealize.SL.Sem
open Idealize.ShloMosaic.Pipeline (Dat)
open Cert.S5Ideal Cert.S5Ideal.Gen

/-- Rows `k` down, zeros above. -/
def DELAY (k : BitVec 32) (X : FVec Ideal S128x1024 .f32) : FVec Ideal S128x1024 .f32 :=
  select (cmpi .sge (iota .tc S128x1024 32 [0] iota_S128x1024_d0_w32) (broadcast S128x1024 k))
    (dynamicRotate 0 k none X rotates_S128x1024_d0) (broadcast S128x1024 (Scalar.ofBits .f32 0x00000000#32))

/-- A row, down all the rows. -/
def SPREAD (a : Vec Ideal S1x1024 .f32) : FVec Ideal S128x1024 .f32 :=
  broadcastTo S128x1024 (shapeCast S1x1024 a shapeCasts_S1x1024_S1x1024) broadcasts_S1x1024_S128x1024

/-- One doubling: the real and the imaginary part. -/
def RE (k : BitVec 32) (a b : Vec Ideal S1x1024 .f32) (X Y : FVec Ideal S128x1024 .f32) : FVec Ideal S128x1024 .f32 :=
  subf (addf X (mulf (SPREAD a) (DELAY k X))) (mulf (SPREAD b) (DELAY k Y))
def IM (k : BitVec 32) (a b : Vec Ideal S1x1024 .f32) (X Y : FVec Ideal S128x1024 .f32) : FVec Ideal S128x1024 .f32 :=
  addf (addf Y (mulf (SPREAD a) (DELAY k Y))) (mulf (SPREAD b) (DELAY k X))

/-- A table, as it is. -/
def SAME (c : Vec Ideal S128x1024 .f32) : FVec Ideal S128x1024 .f32 := shapeCast S128x1024 c shapeCasts_S128x1024_S128x1024

/-- What was left before, taken in: the real and the imaginary part. -/
def CRE (c d : Vec Ideal S128x1024 .f32) (x y : Vec Ideal S1x1024 .f32) (X : FVec Ideal S128x1024 .f32) : FVec Ideal S128x1024 .f32 :=
  subf (addf X (mulf (SAME c) (broadcastTo S128x1024 x broadcasts_S1x1024_S128x1024))) (mulf (SAME d) (broadcastTo S128x1024 y broadcasts_S1x1024_S128x1024))
def CIM0 (c : Vec Ideal S128x1024 .f32) (y : Vec Ideal S1x1024 .f32) (Y : FVec Ideal S128x1024 .f32) : FVec Ideal S128x1024 .f32 :=
  addf Y (mulf (SAME c) (broadcastTo S128x1024 y broadcasts_S1x1024_S128x1024))
def CIM (c d : Vec Ideal S128x1024 .f32) (x y : Vec Ideal S1x1024 .f32) (Y : FVec Ideal S128x1024 .f32) : FVec Ideal S128x1024 .f32 :=
  addf (CIM0 c y Y) (mulf (SAME d) (broadcastTo S128x1024 x broadcasts_S1x1024_S128x1024))

section
variable (v3 : Vec Ideal S1x128x512 .f32) (v7 : Vec Ideal S256x2048 .bf16) (a0 b0 a1 b1 a2 b2 a3 b3 a4 b4 a5 b5 a6 b6 x y : Vec Ideal S1x1024 .f32)
  (c d : Vec Ideal S128x1024 .f32) (X Y : FVec Ideal S128x1024 .f32)

theorem step14 : k0_pay14 v3 v7 a0 b0 = RE 1#32 a0 b0 (k0_pay8 v3 v7) (k0_pay9 v3 v7) := rfl
theorem step22 : k0_pay22 (iota Kind.tc S128x1024 32 [0] iota_S128x1024_d0_w32) X (k0_pay15 v3 v7 a0) (k0_pay16 v3 v7 b0) a1 b1
    = RE 2#32 a1 b1 X (IM 1#32 a0 b0 (k0_pay8 v3 v7) (k0_pay9 v3 v7)) := rfl
theorem step23 : k0_pay23 (iota Kind.tc S128x1024 32 [0] iota_S128x1024_d0_w32) X (k0_pay15 v3 v7 a0) (k0_pay16 v3 v7 b0) a1 b1
    = IM 2#32 a1 b1 X (IM 1#32 a0 b0 (k0_pay8 v3 v7) (k0_pay9 v3 v7)) := rfl
theorem step26 : k0_pay26 (iota Kind.tc S128x1024 32 [0] iota_S128x1024_d0_w32) X (k0_pay15 v3 v7 a0) (k0_pay16 v3 v7 b0) a1 b1
    = DELAY 4#32 (RE 2#32 a1 b1 X (IM 1#32 a0 b0 (k0_pay8 v3 v7) (k0_pay9 v3 v7))) := rfl
theorem step28 : k0_pay28 (iota Kind.tc S128x1024 32 [0] iota_S128x1024_d0_w32) X (k0_pay15 v3 v7 a0) (k0_pay16 v3 v7 b0) a1 b1
    = dynamicRotate 0 4#32 none (IM 2#32 a1 b1 X (IM 1#32 a0 b0 (k0_pay8 v3 v7) (k0_pay9 v3 v7))) rotates_S128x1024_d0 := rfl
theorem step37 : k0_pay37 (iota Kind.tc S128x1024 32 [0] iota_S128x1024_d0_w32) X Y (k0_pay24 a2) (k0_pay25 b2) (DELAY 4#32 X)
    (k0_pay27 (iota Kind.tc S128x1024 32 [0] iota_S128x1024_d0_w32)) (dynamicRotate 0 4#32 none Y rotates_S128x1024_d0) k0_pay29 a3 b3
    = RE 8#32 a3 b3 (RE 4#32 a2 b2 X Y) (IM 4#32 a2 b2 X Y) := rfl
theorem step38 : k0_pay38 (iota Kind.tc S128x1024 32 [0] iota_S128x1024_d0_w32) X Y (k0_pay24 a2) (k0_pay25 b2) (DELAY 4#32 X)
    (k0_pay27 (iota Kind.tc S128x1024 32 [0] iota_S128x1024_d0_w32)) (dynamicRotate 0 4#32 none Y rotates_S128x1024_d0) k0_pay29 a3 b3
    = IM 8#32 a3 b3 (RE 4#32 a2 b2 X Y) (IM 4#32 a2 b2 X Y) := rfl
theorem step50 : k0_pay50 (iota Kind.tc S128x1024 32 [0] iota_S128x1024_d0_w32) X Y (k0_pay39 a4) (k0_pay40 b4)
    (k0_pay41 (iota Kind.tc S128x1024 32 [0] iota_S128x1024_d0_w32)) a5 b5
    = RE 32#32 a5 b5 (RE 16#32 a4 b4 X Y) (IM 16#32 a4 b4 X Y) := rfl
theorem step60 (Z : FVec Ideal S128x1024 .f32) : k0_pay60 (iota Kind.tc S128x1024 32 [0] iota_S128x1024_d0_w32) Z
    (k0_pay51 (iota Kind.tc S128x1024 32 [0] iota_S128x1024_d0_w32) X Y (k0_pay39 a4) (k0_pay40 b4)
      (k0_pay41 (iota Kind.tc S128x1024 32 [0] iota_S128x1024_d0_w32)) a5)
    (k0_pay52 (iota Kind.tc S128x1024 32 [0] iota_S128x1024_d0_w32) X Y (k0_pay39 a4) (k0_pay40 b4)
      (k0_pay41 (iota Kind.tc S128x1024 32 [0] iota_S128x1024_d0_w32)) b5) a6 b6 c d x y
    = CRE c d x y (RE 64#32 a6 b6 Z (IM 32#32 a5 b5 (RE 16#32 a4 b4 X Y) (IM 16#32 a4 b4 X Y))) := rfl
theorem step61 (Z : FVec Ideal S128x1024 .f32) : k0_pay61 (iota Kind.tc S128x1024 32 [0] iota_S128x1024_d0_w32) Z
    (k0_pay51 (iota Kind.tc S128x1024 32 [0] iota_S128x1024_d0_w32) X Y (k0_pay39 a4) (k0_pay40 b4)
      (k0_pay41 (iota Kind.tc S128x1024 32 [0] iota_S128x1024_d0_w32)) a5)
    (k0_pay52 (iota Kind.tc S128x1024 32 [0] iota_S128x1024_d0_w32) X Y (k0_pay39 a4) (k0_pay40 b4)
      (k0_pay41 (iota Kind.tc S128x1024 32 [0] iota_S128x1024_d0_w32)) b5) a6 b6 c y
    = CIM0 c y (IM 64#32 a6 b6 Z (IM 32#32 a5 b5 (RE 16#32 a4 b4 X Y) (IM 16#32 a4 b4 X Y))) := rfl
theorem step62 : k0_pay62 (k0_pay59 d) x (CIM0 c y Y) = CIM c d x y Y := rfl
end

theorem rows_bits (k : BitVec 32) (hk : k.toNat ≤ 64) : ∀ t : Fin 128, k.sle (BitVec.ofNat 32 t.val) = decide (k.toNat ≤ t.val) := by
  intro t
  have ht := t.isLt
  rw [BitVec.sle_eq_decide, BitVec.toInt_eq_toNat_of_lt (by omega), BitVec.toInt_eq_toNat_of_lt (by rw [BitVec.toNat_ofNat]; omega), BitVec.toNat_ofNat]
  congr 1
  rw [Nat.mod_eq_of_lt (by omega)]
  exact propext Nat.cast_le

theorem DELAY_apply (k : BitVec 32) (n : ℕ) (hn : k.toNat = n) (hk : n ≤ 64) (hk0 : 0 < n) (X : FVec Ideal S128x1024 .f32) (t : Fin 128) (l : Fin 1024) :
    DELAY k X (ix2 t l) = if h : n ≤ t.val then X (ix2 ⟨t.val - n, by omega⟩ l) else 0 := by
  have h := rows_bits k (by omega) t
  have ht := t.isLt
  pointwise [DELAY]
  by_cases hc : n ≤ t.val
  · rw [dif_pos hc]
    have e : IntOp.cmpi CmpIPredicate.sge (BitVec.ofNat 32 t.val) k = 1#1 := by
      simp only [IntOp.cmpi, h, hn, hc]
      rfl
    rw [e]
    have e' : (t.val + 128 - k.toNat % 128) % 128 = t.val - n := by omega
    simp only [e']
    rfl
  · rw [dif_neg hc]
    have e : IntOp.cmpi CmpIPredicate.sge (BitVec.ofNat 32 t.val) k = 0#1 := by
      simp only [IntOp.cmpi, h, hn, hc]
      rfl
    rw [e]
    rfl

theorem SPREAD_apply (a : Vec Ideal S1x1024 .f32) (t : Fin 128) (l : Fin 1024) : SPREAD a (ix2 t l) = a (ix2 0 l) := by
  pointwise [SPREAD]

theorem SAME_apply (c : Vec Ideal S128x1024 .f32) (t : Fin 128) (l : Fin 1024) : SAME c (ix2 t l) = c (ix2 t l) := by
  pointwise [SAME]

section
variable (w : Fin 1024 → ℕ → ℂ) (A : Fin 1024 → ℂ)

/-- `X` and `Y` hold the real and imaginary parts of `f`. -/
def Parts (f : Fin 1024 → ℕ → ℂ) (X Y : FVec Ideal S128x1024 .f32) : Prop :=
  ∀ (t : Fin 128) (l : Fin 1024), X (ix2 t l) = ((f l t.val).re : EReal) ∧ Y (ix2 t l) = ((f l t.val).im : EReal)

/-- A row of real and imaginary parts. -/
def Row (f : Fin 1024 → ℂ) (a b : Vec Ideal S1x1024 .f32) : Prop :=
  ∀ l : Fin 1024, a (ix2 0 l) = ((f l).re : EReal) ∧ b (ix2 0 l) = ((f l).im : EReal)

variable {w A}

theorem doubled (n : ℕ) (k : BitVec 32) (hn : k.toNat = n) (hk : n ≤ 64) (hk0 : 0 < n) {a b : Vec Ideal S1x1024 .f32} {X Y : FVec Ideal S128x1024 .f32}
    (hA : Row (fun l => A l ^ n) a b) (h : Parts (fun l => Scan.window (A l) (w l) n) X Y) :
    Parts (fun l => Scan.window (A l) (w l) (n + n)) (RE k a b X Y) (IM k a b X Y) := by
  intro t l
  have hz : (0 : EReal) = ((0 : ℂ).re : EReal) := rfl
  have hz' : (0 : EReal) = ((0 : ℂ).im : EReal) := rfl
  have hX : DELAY k X (ix2 t l) = ((if n ≤ t.val then Scan.window (A l) (w l) n (t.val - n) else 0 : ℂ).re : EReal) := by
    rw [DELAY_apply k n hn hk hk0]
    split_ifs
    · exact (h _ l).1
    · rfl
  have hY : DELAY k Y (ix2 t l) = ((if n ≤ t.val then Scan.window (A l) (w l) n (t.val - n) else 0 : ℂ).im : EReal) := by
    rw [DELAY_apply k n hn hk hk0]
    split_ifs
    · exact (h _ l).2
    · rfl
  have hd := Scan.window_double (A l) (w l) n t.val
  rw [← mul_zero (A l ^ n), ← mul_ite] at hd
  constructor
  · show X (ix2 t l) + SPREAD a (ix2 t l) * DELAY k X (ix2 t l) - SPREAD b (ix2 t l) * DELAY k Y (ix2 t l) = _
    rw [SPREAD_apply, SPREAD_apply, hX, hY, (hA l).1, (hA l).2, (h t l).1, Scan.re_step, hd]
  · show Y (ix2 t l) + SPREAD a (ix2 t l) * DELAY k Y (ix2 t l) + SPREAD b (ix2 t l) * DELAY k X (ix2 t l) = _
    rw [SPREAD_apply, SPREAD_apply, hX, hY, (hA l).1, (hA l).2, (h t l).2, Scan.im_step, hd]

/-- Taking in what was left before gives the states. -/
theorem carried (s : ℕ) {c d : Vec Ideal S128x1024 .f32} {x y : Vec Ideal S1x1024 .f32} {X Y : FVec Ideal S128x1024 .f32}
    (hc : Parts (fun l t => A l ^ (t + 1)) c d) (hx : Row (fun l => Scan.states (A l) (w l) s) x y)
    (h : Parts (fun l => Scan.window (A l) (fun i => w l (s + i)) 128) X Y) :
    Parts (fun l t => Scan.states (A l) (w l) (s + t + 1)) (CRE c d x y X) (CIM c d x y Y) := by
  intro t l
  have hs := Scan.states_add (A l) (w l) s t.val 128 t.isLt
  constructor
  · have e : CRE c d x y X (ix2 t l) = X (ix2 t l) + c (ix2 t l) * x (ix2 0 l) - d (ix2 t l) * y (ix2 0 l) := by pointwise [CRE, SAME]
    rw [e, (hc t l).1, (hc t l).2, (h t l).1, (hx l).1, (hx l).2, Scan.re_step, hs]
  · have e : CIM c d x y Y (ix2 t l) = Y (ix2 t l) + c (ix2 t l) * y (ix2 0 l) + d (ix2 t l) * x (ix2 0 l) := by pointwise [CIM, CIM0, SAME]
    rw [e, (hc t l).1, (hc t l).2, (h t l).2, (hx l).1, (hx l).2, Scan.im_step, hs]

/-- The seven doublings. -/
theorem doublings {a0 b0 a1 b1 a2 b2 a3 b3 a4 b4 a5 b5 a6 b6 : Vec Ideal S1x1024 .f32} {X Y : FVec Ideal S128x1024 .f32}
    (h0 : Row (fun l => A l ^ 1) a0 b0) (h1 : Row (fun l => A l ^ 2) a1 b1) (h2 : Row (fun l => A l ^ 4) a2 b2) (h3 : Row (fun l => A l ^ 8) a3 b3)
    (h4 : Row (fun l => A l ^ 16) a4 b4) (h5 : Row (fun l => A l ^ 32) a5 b5) (h6 : Row (fun l => A l ^ 64) a6 b6)
    (h : Parts w X Y) :
    let X1 := RE 1#32 a0 b0 X Y; let Y1 := IM 1#32 a0 b0 X Y
    let X2 := RE 2#32 a1 b1 X1 Y1; let Y2 := IM 2#32 a1 b1 X1 Y1
    let X3 := RE 4#32 a2 b2 X2 Y2; let Y3 := IM 4#32 a2 b2 X2 Y2
    let X4 := RE 8#32 a3 b3 X3 Y3; let Y4 := IM 8#32 a3 b3 X3 Y3
    let X5 := RE 16#32 a4 b4 X4 Y4; let Y5 := IM 16#32 a4 b4 X4 Y4
    let X6 := RE 32#32 a5 b5 X5 Y5; let Y6 := IM 32#32 a5 b5 X5 Y5
    Parts (fun l => Scan.window (A l) (w l) 128) (RE 64#32 a6 b6 X6 Y6) (IM 64#32 a6 b6 X6 Y6) := by
  have hw : Parts (fun l => Scan.window (A l) (w l) 1) X Y := fun t l => by
    have e : Scan.window (A l) (w l) 1 t.val = w l t.val := Scan.window_one _ _ _
    constructor
    · exact (h t l).1.trans (by rw [← e])
    · exact (h t l).2.trans (by rw [← e])
  exact doubled 64 64#32 rfl (by omega) (by omega) h6 (doubled 32 32#32 rfl (by omega) (by omega) h5 (doubled 16 16#32 rfl (by omega) (by omega) h4
    (doubled 8 8#32 rfl (by omega) (by omega) h3 (doubled 4 4#32 rfl (by omega) (by omega) h2 (doubled 2 2#32 rfl (by omega) (by omega) h1
      (doubled 1 1#32 rfl (by omega) (by omega) h0 hw))))))
end

section
variable (v3 : Vec Ideal S1x128x512 .f32) (v7 : Vec Ideal S256x2048 .bf16)

theorem fed_re (t : Fin 128) (l : Fin 1024) : k0_pay8 v3 v7 (ix2 t l) = ∑ k : Fin 256, v3 (ix3 0 t ⟨k.val, by omega⟩) * v7 (ix2 k ⟨l.val, by omega⟩) := by
  pointwise [k0_pay8, k0_pay7, k0_pay5, k0_pay4]
theorem fed_im (t : Fin 128) (l : Fin 1024) : k0_pay9 v3 v7 (ix2 t l) = ∑ k : Fin 256, v3 (ix3 0 t ⟨k.val, by omega⟩) * v7 (ix2 k ⟨1024 + l.val, by omega⟩) := by
  pointwise [k0_pay9, k0_pay7, k0_pay5, k0_pay4]

theorem last_row (X : FVec Ideal S128x1024 .f32) (l : Fin 1024) : k0_pay63 X (ix2 0 l) = X (ix2 ⟨127, by omega⟩ l) := by
  pointwise [k0_pay63]

theorem last_row' (Z : FVec Ideal S128x1024 .f32) (x : Vec Ideal S1x1024 .f32) (Y : FVec Ideal S128x1024 .f32) (l : Fin 1024) :
    k0_pay64 Z x Y (ix2 0 l) = k0_pay62 Z x Y (ix2 ⟨127, by omega⟩ l) := by
  pointwise [k0_pay64]

variable (Z : FVec Ideal S128x1024 .f32) (x : Vec Ideal S1x1024 .f32) (X Y : FVec Ideal S128x1024 .f32) (wo : Vec Ideal S2048x256 .bf16) (d : Vec Ideal S1x256 .f32)
  (wg : Vec Ideal S256x256 .bf16)

theorem read_at (t : Fin 128) (j : Fin 256) : k0_pay65 (k0_pay5 v3) Z x X Y wo d (ix2 t j)
    = Scan.read (fun l => X (ix2 t l)) (fun l => k0_pay62 Z x Y (ix2 t l)) (fun k => v3 (ix3 0 t ⟨k.val, by omega⟩)) (fun n k => wo (ix2 n k)) (fun k => d (ix2 0 k)) j := by
  pointwise [k0_pay65, k0_pay5, k0_pay4]
  rfl

theorem result_at (t : Fin 128) (j : Fin 256) :
    k0_pay1 (k0_pay6 v3) (k0_pay65 (k0_pay5 v3) Z x X Y wo d) (k0_pay66 (k0_pay5 v3) Z x X Y wo d wg) (ix3 0 t j)
      = Scan.result (fun l => X (ix2 t l)) (fun l => k0_pay62 Z x Y (ix2 t l)) (fun k => v3 (ix3 0 t ⟨k.val, by omega⟩)) (fun k => v3 (ix3 0 t ⟨256 + k.val, by omega⟩))
          (fun n k => wo (ix2 n k)) (fun k => d (ix2 0 k)) (fun k j => wg (ix2 k j)) j := by
  pointwise [k0_pay1, k0_pay66, k0_pay6, k0_pay4]
  simp only [read_at, sub_eq_add_neg, zero_add]
  rfl
end

end Cert.S5Ideal.RefValue

end
-- ==== Proof.S5Tables.lean ====
module

public import proofs.«01_k».proof.Proof.S5Point
public import Idealize.ShloMosaic.Lib.StableHlo.RunLoop
public import Idealize.ShloMosaic.Lib.StableHlo.RunRead

/-! The state-space kernel's tables, entry by entry. -/

@[expose] public section

set_option maxRecDepth 16384

noncomputable section

namespace Cert.S5Ideal.RefValue

open Idealize.ShloMosaic Idealize.ShloMosaic.TcCoe Idealize.SL.Sem
open Idealize.ShloMosaic.Pipeline (Dat)
open Idealize.ShloMosaic.StableHlo (after afterL afterL_cons afterL_nil afterL_eq_after_flatten launchContents)
open Cert.S5Ideal Cert.S5Ideal.Gen

/-- Where each window's block lies at grid point `t`. -/
theorem idx : ∀ t : Fin cfg0.N, win0_0.index t = ![t.val / 32, t.val % 32, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 32, t.val % 32, 0] :=
  (by decide +kernel : ∀ t : Fin grid0.N, _)

section
variable (m : (ℓ : Loc nD τ sig) → Buf (Elt Ideal) ℓ) (c : Dev nD)

/-- The arguments, as arrays. -/
abbrev a0 : FVec Ideal ⟨3, ![8, 4096, 512]⟩ .f32 := m ((c : Thread nD τ).loc main_arg0)
abbrev a1 : FVec Ideal ⟨2, ![16, 64]⟩ .f32 := m ((c : Thread nD τ).loc main_arg1)
abbrev a2 : FVec Ideal ⟨2, ![16, 64]⟩ .f32 := m ((c : Thread nD τ).loc main_arg2)
abbrev a3 : FVec Ideal ⟨1, ![16]⟩ .f32 := m ((c : Thread nD τ).loc main_arg3)
abbrev a4 : FVec Ideal ⟨2, ![256, 2048]⟩ .f32 := m ((c : Thread nD τ).loc main_arg4)
abbrev a5 : FVec Ideal ⟨2, ![2048, 256]⟩ .f32 := m ((c : Thread nD τ).loc main_arg5)
abbrev a6 : FVec Ideal ⟨1, ![256]⟩ .f32 := m ((c : Thread nD τ).loc main_arg6)
abbrev a7 : FVec Ideal ⟨2, ![256, 256]⟩ .f32 := m ((c : Thread nD τ).loc main_arg7)

/-- What the buffers hold once the small powers of two are computed. -/
def W : Valuation τ sig (Elt Ideal) :=
  afterL [hostOps0, hostOps0_1, hostOps0_2, hostOps0_3, hostOps0_4, hostOps0_5, hostOps0_6, hostOps0_7, hostOps0_8, hostOps0_9, hostOps0_10, hostOps0_11,
    hostOps0_12, hostOps0_13] (launchContents m c)

theorem V_eq (b : Ref sig .tc) : V m c b = after hostOps0_14 (W m c) (Proc.devRef .tc b) := by
  show after (List.flatten _) _ _ = _
  rw [← afterL_eq_after_flatten]
  rfl

theorem W_v55 : (W m c (Proc.devRef .tc main_v55) : IVec S7 32) = fun i => BitVec.ofNat 32 (2 ^ (i 0).val) := by
  unfold W
  simp only [afterL_cons, afterL_nil]
  after_reads_simp
  funext i
  obtain ⟨j, rfl⟩ : ∃ j : Fin 7, i = ix1 j := ⟨i 0, eq_ix1 i⟩
  revert j
  decide +kernel
theorem W_v1 : (W m c (Proc.devRef .tc main_v1) : FVec Ideal S16x64 .f32) = minimumf (a1 m c) (broadcastInDim S16x64 ![] bcast_S_S16x64 (constant S_ .f32 0xB8D1B717#32)) := by
  unfold W
  simp only [afterL_cons, afterL_nil]
  after_reads_simp
theorem W_v3 : (W m c (Proc.devRef .tc main_v3) : FVec Ideal S16x1 .f32) = broadcastInDim S16x1 ![0] bcast_S16_S16x1_0 (Host.exp (a3 m c)) := by
  unfold W
  simp only [afterL_cons, afterL_nil]
  after_reads_simp
theorem W_arg2 : (W m c (Proc.devRef .tc main_arg2) : FVec Ideal S16x64 .f32) = a2 m c := by
  unfold W
  simp only [afterL_cons, afterL_nil]
  after_reads_simp
theorem W_arg6 : (W m c (Proc.devRef .tc main_arg6) : FVec Ideal S256 .f32) = a6 m c := by
  unfold W
  simp only [afterL_cons, afterL_nil]
  after_reads_simp

theorem entry106 : (V m c main_v106 : FVec Ideal S1x256 .f32) = shapeCast S1x256 (a6 m c) shapeCasts_S256_S1x256 := by
  rw [V_eq]
  after_reads_simp
  rw [W_arg6]
  rfl

/-- The columns' exponents for steps counted by `p`, and their tables. -/
def RATE (x1 : FVec Ideal S16x64 .f32) (x3 : FVec Ideal S16 .f32) : FVec Ideal S16x64 .f32 :=
  mulf (minimumf x1 (broadcastInDim S16x64 ![] bcast_S_S16x64 (constant S_ .f32 0xB8D1B717#32)))
    (broadcastInDim S16x64 ![0, 1] bcast_S16x1_S16x64_0_1 (broadcastInDim S16x1 ![0] bcast_S16_S16x1_0 (Host.exp x3)))
def TURN (x2 : FVec Ideal S16x64 .f32) (x3 : FVec Ideal S16 .f32) : FVec Ideal S16x64 .f32 :=
  mulf x2 (broadcastInDim S16x64 ![0, 1] bcast_S16x1_S16x64_0_1 (broadcastInDim S16x1 ![0] bcast_S16_S16x1_0 (Host.exp x3)))
def TIMES7 (p : FVec Ideal S7 .f32) (r : FVec Ideal S16x64 .f32) : FVec Ideal S7x16x64 .f32 :=
  mulf (broadcastInDim S7x16x64 ![0, 1, 2] bcast_S7x1x1_S7x16x64_0_1_2 (broadcastInDim S7x1x1 ![0] bcast_S7_S7x1x1_0 p))
    (broadcastInDim S7x16x64 ![0, 1, 2] bcast_S1x16x64_S7x16x64_0_1_2 (broadcastInDim S1x16x64 ![1, 2] bcast_S16x64_S1x16x64_1_2 r))
def TIMES128 (p : FVec Ideal S128 .f32) (r : FVec Ideal S16x64 .f32) : FVec Ideal S128x16x64 .f32 :=
  mulf (broadcastInDim S128x16x64 ![0, 1, 2] bcast_S128x1x1_S128x16x64_0_1_2 (broadcastInDim S128x1x1 ![0] bcast_S128_S128x1x1_0 p))
    (broadcastInDim S128x16x64 ![0, 1, 2] bcast_S1x16x64_S128x16x64_0_1_2 (broadcastInDim S1x16x64 ![1, 2] bcast_S16x64_S1x16x64_1_2 r))
/-- The small powers of two, and the positions of a block counted from one, as numbers. -/
def POW : FVec Ideal S7 .f32 := sitofp .f32 (fun i => BitVec.ofNat 32 (2 ^ (i 0).val) : IVec S7 32)
def POS : FVec Ideal S128 .f32 := sitofp .f32 (addi (broadcastInDim S128 ![] bcast_S_S128 (constantI S_ 32 1#32)) (iotaInDim S128 32 0))

theorem entry76 : (V m c main_v76 : FVec Ideal S7x1024 .f32)
    = shapeCast S7x1024 (mulf (Host.exp (TIMES7 POW (RATE (a1 m c) (a3 m c)))) (Host.cos (TIMES7 POW (TURN (a2 m c) (a3 m c))))) shapeCasts_S7x16x64_S7x1024 := by
  rw [V_eq]
  after_reads_simp
  rw [W_v55, W_v1, W_v3, W_arg2]
  rfl
theorem entry79 : (V m c main_v79 : FVec Ideal S7x1024 .f32)
    = shapeCast S7x1024 (mulf (Host.exp (TIMES7 POW (RATE (a1 m c) (a3 m c)))) (Host.sin (TIMES7 POW (TURN (a2 m c) (a3 m c))))) shapeCasts_S7x16x64_S7x1024 := by
  rw [V_eq]
  after_reads_simp
  rw [W_v55, W_v1, W_v3, W_arg2]
  rfl
theorem entry100 : (V m c main_v100 : FVec Ideal S128x1024 .f32)
    = shapeCast S128x1024 (mulf (Host.exp (TIMES128 POS (RATE (a1 m c) (a3 m c)))) (Host.cos (TIMES128 POS (TURN (a2 m c) (a3 m c))))) shapeCasts_S128x16x64_S128x1024 := by
  rw [V_eq]
  after_reads_simp
  rw [W_v1, W_v3, W_arg2]
  rfl
theorem entry103 : (V m c main_v103 : FVec Ideal S128x1024 .f32)
    = shapeCast S128x1024 (mulf (Host.exp (TIMES128 POS (RATE (a1 m c) (a3 m c)))) (Host.sin (TIMES128 POS (TURN (a2 m c) (a3 m c))))) shapeCasts_S128x16x64_S128x1024 := by
  rw [V_eq]
  after_reads_simp
  rw [W_v1, W_v3, W_arg2]
  rfl

theorem POW_apply (j : Fin 7) : POW (ix1 j) = (((2 ^ j.val : ℕ) : ℝ) : EReal) := by
  show (((BitVec.ofNat 32 (2 ^ j.val)).toInt : ℝ) : EReal) = _
  have : ∀ j : Fin 7, (BitVec.ofNat 32 (2 ^ j.val)).toInt = ((2 ^ j.val : ℕ) : ℤ) := by decide
  rw [this, Int.cast_natCast]
theorem POS_apply (t : Fin 128) : POS (ix1 t) = (((t.val + 1 : ℕ) : ℝ) : EReal) := by
  show (((1#32 + BitVec.ofNat 32 t.val).toInt : ℝ) : EReal) = _
  have : ∀ t : Fin 128, (1#32 + BitVec.ofNat 32 t.val).toInt = ((t.val + 1 : ℕ) : ℤ) := by decide
  rw [this, Int.cast_natCast]

variable (t : Fin cfg0.N)

theorem blk0 (l : Fin 128) (e : Fin 512) (b : Fin 8) (hb : (b : ℕ) = t.val / 32) (s : Fin 4096) (hs : s.val = t.val % 32 * 128 + l.val) :
    iblk m c 0 t (ix3 0 l e) = a0 m c (ix3 b s e) := by
  blk_ext [iblk, V, idx t]
theorem blk1 (k : Fin 256) (n : Fin 2048) : iblk m c 1 t (ix2 k n) = a4 m c (ix2 k n) := by
  blk_simp [iblk]
  entry_read
  pointwise
  blk_point [idx t]
theorem blk2 (k : Fin 2048) (n : Fin 256) : iblk m c 2 t (ix2 k n) = a5 m c (ix2 k n) := by
  blk_simp [iblk]
  entry_read
  pointwise
  blk_point [idx t]
theorem blk7 (n : Fin 256) : iblk m c 7 t (ix2 0 n) = a6 m c (ix1 n) := by
  have he : iblk m c 7 t (ix2 0 n) = V m c main_v106 (ix2 0 n) := by
    blk_ext [iblk, idx t]
  rw [he, entry106]
  pointwise
theorem blk8 (k : Fin 256) (n : Fin 256) : iblk m c 8 t (ix2 k n) = a7 m c (ix2 k n) := by
  blk_simp [iblk]
  entry_read
  pointwise
  blk_point [idx t]

theorem blk3 (k : Fin 7) (l : Fin 1024) : iblk m c 3 t (ix2 k l) = Scan.powRe (a1 m c) (a2 m c) (a3 m c) l (((2 ^ k.val : ℕ) : ℝ) : EReal) := by
  have he : iblk m c 3 t (ix2 k l) = V m c main_v76 (ix2 k l) := by
    blk_ext [iblk, idx t]
  rw [he, entry76, ← POW_apply]
  pointwise [TIMES7, RATE, TURN]
  rfl
theorem blk4 (k : Fin 7) (l : Fin 1024) : iblk m c 4 t (ix2 k l) = Scan.powIm (a1 m c) (a2 m c) (a3 m c) l (((2 ^ k.val : ℕ) : ℝ) : EReal) := by
  have he : iblk m c 4 t (ix2 k l) = V m c main_v79 (ix2 k l) := by
    blk_ext [iblk, idx t]
  rw [he, entry79, ← POW_apply]
  pointwise [TIMES7, RATE, TURN]
  rfl
theorem blk5 (k : Fin 128) (l : Fin 1024) : iblk m c 5 t (ix2 k l) = Scan.powRe (a1 m c) (a2 m c) (a3 m c) l (((k.val + 1 : ℕ) : ℝ) : EReal) := by
  have he : iblk m c 5 t (ix2 k l) = V m c main_v100 (ix2 k l) := by
    blk_ext [iblk, idx t]
  rw [he, entry100, ← POS_apply]
  pointwise [TIMES128, RATE, TURN]
  rfl
theorem blk6 (k : Fin 128) (l : Fin 1024) : iblk m c 6 t (ix2 k l) = Scan.powIm (a1 m c) (a2 m c) (a3 m c) l (((k.val + 1 : ℕ) : ℝ) : EReal) := by
  have he : iblk m c 6 t (ix2 k l) = V m c main_v103 (ix2 k l) := by
    blk_ext [iblk, idx t]
  rw [he, entry103, ← POS_apply]
  pointwise [TIMES128, RATE, TURN]
  rfl
end

end Cert.S5Ideal.RefValue

end
-- ==== Proof.S5Kernel.lean ====
module

public import proofs.«01_k».proof.Proof.S5Tables

/-! The state-space kernel computes the layer's states and its result. -/

@[expose] public section

set_option maxRecDepth 16384

noncomputable section

namespace Cert.S5Ideal.RefValue

open Idealize.ShloMosaic Idealize.ShloMosaic.TcCoe Idealize.SL.Sem
open Idealize.ShloMosaic.Pipeline (Dat)
open Cert.S5Ideal Cert.S5Ideal.Gen

section
variable (m : (ℓ : Loc nD τ sig) → Buf (Elt Ideal) ℓ) (c : Dev nD) (t : Fin cfg0.N)

/-- Row `j` of a table of powers, and the first row of the scratch. -/
abbrev row7 (T : FVec Ideal S7x1024 .f32) (j : ℕ) (inb : ∀ a, ![j, 0] a + ![1, 1024] a ≤ S7x1024.size a) : Vec Ideal S1x1024 .f32 :=
  View.ld (Val := Elt Ideal) (e' := .f32) T (Rect.unit (s := S7x1024) ![j, 0] ![1, 1024] inb)
abbrev row8 (S : FVec Ideal S8x1024 .f32) : Vec Ideal S1x1024 .f32 :=
  View.ld (Val := Elt Ideal) (e' := .f32) S (Rect.unit (s := S8x1024) ![0, 0] ![1, 1024] inb_S8x1024_S1x1024_0_0)

theorem row7_apply (T : FVec Ideal S7x1024 .f32) (j : Fin 7) (inb) (l : Fin 1024) : row7 T j.val inb (ix2 0 l) = T (ix2 j l) := by
  refine congrArg T (?_ : (Rect.unit (s := S7x1024) _ _ inb).emb _ = _)
  blk_ext
theorem row8_apply (S : FVec Ideal S8x1024 .f32) (l : Fin 1024) : row8 S (ix2 0 l) = S (ix2 0 l) := by
  refine congrArg S (?_ : (Rect.unit (s := S8x1024) _ _ inb_S8x1024_S1x1024_0_0).emb _ = _)
  blk_ext

section
variable (u v : FVec Ideal S128x1024 .f32) (P Q : FVec Ideal S7x1024 .f32)

/-- The real and imaginary parts after each doubling. -/
def X1 : FVec Ideal S128x1024 .f32 := RE 1#32 (row7 P 0 inb_S7x1024_S1x1024_0_0) (row7 Q 0 inb_S7x1024_S1x1024_0_0) u v
def Y1 : FVec Ideal S128x1024 .f32 := IM 1#32 (row7 P 0 inb_S7x1024_S1x1024_0_0) (row7 Q 0 inb_S7x1024_S1x1024_0_0) u v
def X2 : FVec Ideal S128x1024 .f32 := RE 2#32 (row7 P 1 inb_S7x1024_S1x1024_1_0) (row7 Q 1 inb_S7x1024_S1x1024_1_0) (X1 u v P Q) (Y1 u v P Q)
def Y2 : FVec Ideal S128x1024 .f32 := IM 2#32 (row7 P 1 inb_S7x1024_S1x1024_1_0) (row7 Q 1 inb_S7x1024_S1x1024_1_0) (X1 u v P Q) (Y1 u v P Q)
def X3 : FVec Ideal S128x1024 .f32 := RE 4#32 (row7 P 2 inb_S7x1024_S1x1024_2_0) (row7 Q 2 inb_S7x1024_S1x1024_2_0) (X2 u v P Q) (Y2 u v P Q)
def Y3 : FVec Ideal S128x1024 .f32 := IM 4#32 (row7 P 2 inb_S7x1024_S1x1024_2_0) (row7 Q 2 inb_S7x1024_S1x1024_2_0) (X2 u v P Q) (Y2 u v P Q)
def X4 : FVec Ideal S128x1024 .f32 := RE 8#32 (row7 P 3 inb_S7x1024_S1x1024_3_0) (row7 Q 3 inb_S7x1024_S1x1024_3_0) (X3 u v P Q) (Y3 u v P Q)
def Y4 : FVec Ideal S128x1024 .f32 := IM 8#32 (row7 P 3 inb_S7x1024_S1x1024_3_0) (row7 Q 3 inb_S7x1024_S1x1024_3_0) (X3 u v P Q) (Y3 u v P Q)
def X5 : FVec Ideal S128x1024 .f32 := RE 16#32 (row7 P 4 inb_S7x1024_S1x1024_4_0) (row7 Q 4 inb_S7x1024_S1x1024_4_0) (X4 u v P Q) (Y4 u v P Q)
def Y5 : FVec Ideal S128x1024 .f32 := IM 16#32 (row7 P 4 inb_S7x1024_S1x1024_4_0) (row7 Q 4 inb_S7x1024_S1x1024_4_0) (X4 u v P Q) (Y4 u v P Q)
def X6 : FVec Ideal S128x1024 .f32 := RE 32#32 (row7 P 5 inb_S7x1024_S1x1024_5_0) (row7 Q 5 inb_S7x1024_S1x1024_5_0) (X5 u v P Q) (Y5 u v P Q)
def Y6 : FVec Ideal S128x1024 .f32 := IM 32#32 (row7 P 5 inb_S7x1024_S1x1024_5_0) (row7 Q 5 inb_S7x1024_S1x1024_5_0) (X5 u v P Q) (Y5 u v P Q)
def X7 : FVec Ideal S128x1024 .f32 := RE 64#32 (row7 P 6 inb_S7x1024_S1x1024_6_0) (row7 Q 6 inb_S7x1024_S1x1024_6_0) (X6 u v P Q) (Y6 u v P Q)
def Y7 : FVec Ideal S128x1024 .f32 := IM 64#32 (row7 P 6 inb_S7x1024_S1x1024_6_0) (row7 Q 6 inb_S7x1024_S1x1024_6_0) (X6 u v P Q) (Y6 u v P Q)
theorem foldX1 : RE 1#32 (row7 P 0 inb_S7x1024_S1x1024_0_0) (row7 Q 0 inb_S7x1024_S1x1024_0_0) u v = X1 u v P Q := rfl
theorem foldY1 : IM 1#32 (row7 P 0 inb_S7x1024_S1x1024_0_0) (row7 Q 0 inb_S7x1024_S1x1024_0_0) u v = Y1 u v P Q := rfl
theorem foldX2 : RE 2#32 (row7 P 1 inb_S7x1024_S1x1024_1_0) (row7 Q 1 inb_S7x1024_S1x1024_1_0) (X1 u v P Q) (Y1 u v P Q) = X2 u v P Q := rfl
theorem foldY2 : IM 2#32 (row7 P 1 inb_S7x1024_S1x1024_1_0) (row7 Q 1 inb_S7x1024_S1x1024_1_0) (X1 u v P Q) (Y1 u v P Q) = Y2 u v P Q := rfl
theorem foldX3 : RE 4#32 (row7 P 2 inb_S7x1024_S1x1024_2_0) (row7 Q 2 inb_S7x1024_S1x1024_2_0) (X2 u v P Q) (Y2 u v P Q) = X3 u v P Q := rfl
theorem foldY3 : IM 4#32 (row7 P 2 inb_S7x1024_S1x1024_2_0) (row7 Q 2 inb_S7x1024_S1x1024_2_0) (X2 u v P Q) (Y2 u v P Q) = Y3 u v P Q := rfl
theorem foldX4 : RE 8#32 (row7 P 3 inb_S7x1024_S1x1024_3_0) (row7 Q 3 inb_S7x1024_S1x1024_3_0) (X3 u v P Q) (Y3 u v P Q) = X4 u v P Q := rfl
theorem foldY4 : IM 8#32 (row7 P 3 inb_S7x1024_S1x1024_3_0) (row7 Q 3 inb_S7x1024_S1x1024_3_0) (X3 u v P Q) (Y3 u v P Q) = Y4 u v P Q := rfl
theorem foldX5 : RE 16#32 (row7 P 4 inb_S7x1024_S1x1024_4_0) (row7 Q 4 inb_S7x1024_S1x1024_4_0) (X4 u v P Q) (Y4 u v P Q) = X5 u v P Q := rfl
theorem foldY5 : IM 16#32 (row7 P 4 inb_S7x1024_S1x1024_4_0) (row7 Q 4 inb_S7x1024_S1x1024_4_0) (X4 u v P Q) (Y4 u v P Q) = Y5 u v P Q := rfl
theorem foldX6 : RE 32#32 (row7 P 5 inb_S7x1024_S1x1024_5_0) (row7 Q 5 inb_S7x1024_S1x1024_5_0) (X5 u v P Q) (Y5 u v P Q) = X6 u v P Q := rfl
theorem foldY6 : IM 32#32 (row7 P 5 inb_S7x1024_S1x1024_5_0) (row7 Q 5 inb_S7x1024_S1x1024_5_0) (X5 u v P Q) (Y5 u v P Q) = Y6 u v P Q := rfl
theorem foldX7 : RE 64#32 (row7 P 6 inb_S7x1024_S1x1024_6_0) (row7 Q 6 inb_S7x1024_S1x1024_6_0) (X6 u v P Q) (Y6 u v P Q) = X7 u v P Q := rfl
theorem foldY7 : IM 64#32 (row7 P 6 inb_S7x1024_S1x1024_6_0) (row7 Q 6 inb_S7x1024_S1x1024_6_0) (X6 u v P Q) (Y6 u v P Q) = Y7 u v P Q := rfl
end

/-- A point's states from the rows left before. -/
def SRE (x y : Vec Ideal S1x1024 .f32) : FVec Ideal S128x1024 .f32 :=
  CRE (iblk m c 5 t) (iblk m c 6 t) x y (X7 (k0_pay8 (iblk m c 0 t) (iblk m c 1 t)) (k0_pay9 (iblk m c 0 t) (iblk m c 1 t)) (iblk m c 3 t) (iblk m c 4 t))
def SIM0 (y : Vec Ideal S1x1024 .f32) : FVec Ideal S128x1024 .f32 :=
  CIM0 (iblk m c 5 t) y (Y7 (k0_pay8 (iblk m c 0 t) (iblk m c 1 t)) (k0_pay9 (iblk m c 0 t) (iblk m c 1 t)) (iblk m c 3 t) (iblk m c 4 t))
def SIM (x y : Vec Ideal S1x1024 .f32) : FVec Ideal S128x1024 .f32 :=
  CIM (iblk m c 5 t) (iblk m c 6 t) x y (Y7 (k0_pay8 (iblk m c 0 t) (iblk m c 1 t)) (k0_pay9 (iblk m c 0 t) (iblk m c 1 t)) (iblk m c 3 t) (iblk m c 4 t))

theorem fold_re (x y : Vec Ideal S1x1024 .f32) : CRE (iblk m c 5 t) (iblk m c 6 t) x y
    (X7 (k0_pay8 (iblk m c 0 t) (iblk m c 1 t)) (k0_pay9 (iblk m c 0 t) (iblk m c 1 t)) (iblk m c 3 t) (iblk m c 4 t)) = SRE m c t x y := rfl
theorem fold_im (y : Vec Ideal S1x1024 .f32) : CIM0 (iblk m c 5 t) y
    (Y7 (k0_pay8 (iblk m c 0 t) (iblk m c 1 t)) (k0_pay9 (iblk m c 0 t) (iblk m c 1 t)) (iblk m c 3 t) (iblk m c 4 t)) = SIM0 m c t y := rfl
theorem fold_im' (x y : Vec Ideal S1x1024 .f32) : k0_pay62 (k0_pay59 (iblk m c 6 t)) x (SIM0 m c t y) = SIM m c t x y := rfl

theorem canon_row (v : Vec Ideal S1x1024 .f32) (L : List (View.Piece (Elt Ideal) S8x1024 .f32)) (l : Fin 1024) :
    View.canon (⟨Rect.unit (s := S8x1024) ![0, 0] ![1, 1024] inb_S8x1024_S1x1024_0_0, v⟩ :: L) (ix2 0 l) = v (ix2 0 l) := by
  have h : (ix2 0 l : S8x1024.Idx) = (Rect.unit (s := S8x1024) ![0, 0] ![1, 1024] inb_S8x1024_S1x1024_0_0).emb (ix2 0 l) := by blk_ext
  rw [h]
  exact View.canon_cons_emb (Rect.unit (s := S8x1024) ![0, 0] ![1, 1024] inb_S8x1024_S1x1024_0_0) v L (ix2 0 l)

theorem read_row {κ : Kind} {sp : Space} (w : View sig κ sp S8x1024 .f32) (f : w.ty.Contents (Elt Ideal)) (v : Vec Ideal S1x1024 .f32) (l : Fin 1024) :
    w.read (Elt Ideal) (w.writes (Elt Ideal) f [⟨Rect.unit (s := S8x1024) ![0, 0] ![1, 1024] inb_S8x1024_S1x1024_0_0, v⟩]) (ix2 0 l) = v (ix2 0 l) := by
  have h : (ix2 0 l : S8x1024.Idx) = (Rect.unit (s := S8x1024) ![0, 0] ![1, 1024] inb_S8x1024_S1x1024_0_0).emb (ix2 0 l) := by blk_ext
  rw [h]
  exact View.read_writes_cons_emb w f (Rect.unit (s := S8x1024) ![0, 0] ![1, 1024] inb_S8x1024_S1x1024_0_0) v [] (ix2 0 l)

/-- The point's result from the rows left before. -/
def PUT (x y : Vec Ideal S1x1024 .f32) (a : Fin 128) (j : Fin 256) : EReal :=
  Scan.result (fun l => SRE m c t x y (ix2 a l)) (fun l => SIM m c t x y (ix2 a l)) (fun k => iblk m c 0 t (ix3 0 a ⟨k.val, by omega⟩))
    (fun k => iblk m c 0 t (ix3 0 a ⟨256 + k.val, by omega⟩)) (fun n k => iblk m c 2 t (ix2 n k)) (fun k => iblk m c 7 t (ix2 0 k)) (fun k j => iblk m c 8 t (ix2 k j)) j

theorem re_A (h0 : t.val % 32 = 0) (l : Fin 1024) :
    (outsAt0 m c t.val t.isLt).2.1 (ix2 0 l) = SRE m c t (row8 k0_pay2) (row8 k0_pay3) (ix2 ⟨127, by omega⟩ l) := by
  rw [outsAt0_A m c t h0]
  frame_out
  simp (discharger := decide) only [↓View.readCov_skip, ↓View.readCov_fill]
  rw [step14, step22, step23, step26, step28, step37, step38, step50, step60,
    foldX1, foldY1, foldX2, foldY2, foldX3, foldY3, foldX4, foldY4, foldX5, foldY5, foldX6, foldY6, foldX7, fold_re]
  refine (canon_row _ _ l).trans ?_
  exact last_row _ l

theorem im_A (h0 : t.val % 32 = 0) (l : Fin 1024) :
    (outsAt0 m c t.val t.isLt).2.2 (ix2 0 l) = SIM m c t (row8 k0_pay2) (row8 k0_pay3) (ix2 ⟨127, by omega⟩ l) := by
  rw [outsAt0_A m c t h0]
  frame_out
  simp (discharger := decide) only [↓View.readCov_skip, ↓View.readCov_fill]
  rw [step14, step22, step23, step26, step28, step37, step38, step50, step61,
    foldX1, foldY1, foldX2, foldY2, foldX3, foldY3, foldX4, foldY4, foldX5, foldY5, foldX6, foldY6, foldY7, fold_im]
  refine (canon_row _ _ l).trans ?_
  exact last_row' _ _ _ l

theorem out_A (h0 : t.val % 32 = 0) (a : Fin 128) (j : Fin 256) :
    (outsAt0 m c t.val t.isLt).1 (ix3 0 a j) = PUT m c t (row8 k0_pay2) (row8 k0_pay3) a j := by
  rw [outsAt0_A m c t h0]
  frame_out
  simp (discharger := decide) only [↓View.readCov_skip, ↓View.readCov_fill]
  rw [step14, step22, step23, step26, step28, step37, step38, step50, step60, step61,
    foldX1, foldY1, foldX2, foldY2, foldX3, foldY3, foldX4, foldY4, foldX5, foldY5, foldX6, foldY6, foldX7, foldY7, fold_re, fold_im]
  exact result_at _ _ _ _ _ _ _ _ a j

theorem re_B (h0 : ¬t.val % 32 = 0) (l : Fin 1024) :
    (outsAt0 m c t.val t.isLt).2.1 (ix2 0 l) = SRE m c t (row8 (outsAt0 m c (t.val - 1) (Nat.lt_of_le_of_lt (Nat.sub_le _ _) t.isLt)).2.1) (row8 (outsAt0 m c (t.val - 1) (Nat.lt_of_le_of_lt (Nat.sub_le _ _) t.isLt)).2.2) (ix2 ⟨127, by omega⟩ l) := by
  rw [outsAt0_B m c t h0]
  frame_out
  simp only [read_unread_whole]
  rw [step14, step22, step23, step26, step28, step37, step38, step50, step60,
    foldX1, foldY1, foldX2, foldY2, foldX3, foldY3, foldX4, foldY4, foldX5, foldY5, foldX6, foldY6, foldX7, fold_re]
  refine (read_row _ _ _ l).trans ?_
  exact last_row _ l

theorem im_B (h0 : ¬t.val % 32 = 0) (l : Fin 1024) :
    (outsAt0 m c t.val t.isLt).2.2 (ix2 0 l) = SIM m c t (row8 (outsAt0 m c (t.val - 1) (Nat.lt_of_le_of_lt (Nat.sub_le _ _) t.isLt)).2.1) (row8 (outsAt0 m c (t.val - 1) (Nat.lt_of_le_of_lt (Nat.sub_le _ _) t.isLt)).2.2) (ix2 ⟨127, by omega⟩ l) := by
  rw [outsAt0_B m c t h0]
  frame_out
  simp only [read_unread_whole]
  rw [step14, step22, step23, step26, step28, step37, step38, step50, step61,
    foldX1, foldY1, foldX2, foldY2, foldX3, foldY3, foldX4, foldY4, foldX5, foldY5, foldX6, foldY6, foldY7, fold_im]
  refine (read_row _ _ _ l).trans ?_
  exact last_row' _ _ _ l

theorem out_B (h0 : ¬t.val % 32 = 0) (a : Fin 128) (j : Fin 256) :
    (outsAt0 m c t.val t.isLt).1 (ix3 0 a j) = PUT m c t (row8 (outsAt0 m c (t.val - 1) (Nat.lt_of_le_of_lt (Nat.sub_le _ _) t.isLt)).2.1) (row8 (outsAt0 m c (t.val - 1) (Nat.lt_of_le_of_lt (Nat.sub_le _ _) t.isLt)).2.2) a j := by
  rw [outsAt0_B m c t h0]
  frame_out
  simp only [read_unread_whole]
  rw [step14, step22, step23, step26, step28, step37, step38, step50, step60, step61,
    foldX1, foldY1, foldX2, foldY2, foldX3, foldY3, foldX4, foldY4, foldX5, foldY5, foldX6, foldY6, foldX7, foldY7, fold_re, fold_im]
  exact result_at _ _ _ _ _ _ _ _ a j

theorem zeros (l : Fin 1024) : row8 (k0_pay2 (F := Ideal)) (ix2 0 l) = 0 ∧ row8 (k0_pay3 (F := Ideal)) (ix2 0 l) = 0 := by
  rw [row8_apply, row8_apply]
  constructor
  · pointwise [k0_pay2]
  · pointwise [k0_pay3]

variable {A : Fin 1024 → ℂ} {β : Fin 8 → Fin 1024 → ℕ → ℂ} (hA : Scan.Factors (a1 m c) (a2 m c) (a3 m c) A) (hβ : Scan.Inputs (a0 m c) (a4 m c) β)

include hA in
theorem row_pow (j : Fin 7) (n : ℕ) (hn : 2 ^ j.val = n) (inb) : Row (fun l => A l ^ n) (row7 (iblk m c 3 t) j.val inb) (row7 (iblk m c 4 t) j.val inb) := by
  subst hn
  intro l
  rw [row7_apply, row7_apply, blk3, blk4]
  exact hA l _ (Nat.two_pow_pos _)

include hA in
theorem carry_pow : Parts (fun l t => A l ^ (t + 1)) (iblk m c 5 t) (iblk m c 6 t) := by
  intro k l
  rw [blk5, blk6]
  exact hA l _ (Nat.succ_pos _)

include hβ in
theorem fed_parts (b : Fin 8) (hb : (b : ℕ) = t.val / 32) :
    Parts (fun l i => β b l (t.val % 32 * 128 + i)) (k0_pay8 (iblk m c 0 t) (iblk m c 1 t)) (k0_pay9 (iblk m c 0 t) (iblk m c 1 t)) := by
  intro a l
  have hs : t.val % 32 * 128 + a.val < 4096 := by omega
  rw [fed_re, fed_im]
  simp only [blk0 m c t a _ b hb ⟨_, hs⟩ rfl, blk1]
  exact hβ b ⟨_, hs⟩ l

include hA hβ in
theorem parts (b : Fin 8) (hb : (b : ℕ) = t.val / 32) (x y : Vec Ideal S1x1024 .f32) (hx : Row (fun l => Scan.states (A l) (β b l) (t.val % 32 * 128)) x y) :
    Parts (fun l i => Scan.states (A l) (β b l) (t.val % 32 * 128 + i + 1)) (SRE m c t x y) (SIM m c t x y) := by
  refine carried (w := β b) _ (carry_pow m c t hA) hx ?_
  exact doublings (row_pow m c t hA 0 _ rfl _) (row_pow m c t hA 1 _ rfl _) (row_pow m c t hA 2 _ rfl _) (row_pow m c t hA 3 _ rfl _)
    (row_pow m c t hA 4 _ rfl _) (row_pow m c t hA 5 _ rfl _) (row_pow m c t hA 6 _ rfl _) (fed_parts m c t hβ b hb)

include hA hβ in
/-- What the scratch's first rows hold after point `t`. -/
theorem scratch (n : ℕ) : ∀ (t : Fin cfg0.N) (b : Fin 8) (hb : (b : ℕ) = t.val / 32) (hn : t.val % 32 = n),
    Row (fun l => Scan.states (A l) (β b l) ((n + 1) * 128)) (row8 (outsAt0 m c t.val t.isLt).2.1) (row8 (outsAt0 m c t.val t.isLt).2.2) := by
  induction n with
  | zero =>
    intro t b hb hn l
    rw [row8_apply, row8_apply, re_A m c t hn, im_A m c t hn]
    have h := parts m c t hA hβ b hb (row8 k0_pay2) (row8 k0_pay3) (fun l => by rw [hn]; exact zeros l) ⟨127, by omega⟩ l
    rw [hn] at h
    exact h
  | succ n ih =>
    intro t b hb hn l
    rw [row8_apply, row8_apply, re_B m c t (by omega), im_B m c t (by omega)]
    have h := parts m c t hA hβ b hb _ _ (by
      rw [hn]
      exact ih ⟨t.val - 1, Nat.lt_of_le_of_lt (Nat.sub_le _ _) t.isLt⟩ b (by dsimp only; omega) (by dsimp only; omega)) ⟨127, by omega⟩ l
    rw [hn] at h
    have e : (n + 1 + 1) * 128 = (n + 1) * 128 + 127 + 1 := by omega
    rw [e]
    exact h

include hA hβ in
theorem out_at (b : Fin 8) (hb : (b : ℕ) = t.val / 32) (a : Fin 128) (s : Fin 4096) (hs : s.val = t.val % 32 * 128 + a.val) (j : Fin 256) :
    (outsAt0 m c t.val t.isLt).1 (ix3 0 a j) = Scan.S5 A β (a0 m c) (a5 m c) (a6 m c) (a7 m c) (ix3 b s j) := by
  have key (x y : Vec Ideal S1x1024 .f32) (hx : Row (fun l => Scan.states (A l) (β b l) (t.val % 32 * 128)) x y) :
      PUT m c t x y a j = Scan.S5 A β (a0 m c) (a5 m c) (a6 m c) (a7 m c) (ix3 b s j) := by
    have h := parts m c t hA hβ b hb x y hx a
    rw [Scan.S5_apply]
    unfold PUT
    simp only [(h _).1, (h _).2, blk0 m c t a _ b hb s hs, blk2, blk7, blk8, ← hs]
    rfl
  by_cases h0 : t.val % 32 = 0
  · refine (out_A m c t h0 a j).trans (key _ _ fun l => ?_)
    rw [h0]
    exact zeros l
  · refine (out_B m c t h0 a j).trans (key _ _ ?_)
    have h1 : t.val % 32 = (t.val - 1) % 32 + 1 := by omega
    rw [h1]
    exact scratch m c hA hβ _ ⟨t.val - 1, Nat.lt_of_le_of_lt (Nat.sub_le _ _) t.isLt⟩ b (by dsimp only; omega) rfl

include hA hβ in
/-- The kernel's result is the layer of the arguments. -/
theorem final : (dats m 0 c).arrAt 9 cfg0.N = Scan.S5 A β (a0 m c) (a5 m c) (a6 m c) (a7 m c) := by
  refine (dats m 0 c).arrAt_eq_of_covers 9 _ (by decide +kernel) fun t hf y => ?_
  blk_simp
  rw [after0_9]
  have ht : t.val < 256 := t.isLt
  obtain ⟨a, j, rfl⟩ : ∃ (a : Fin 128) (j : Fin 256), y = ix3 0 a j := ⟨y 1, y 2, by blk_ext⟩
  refine (out_at m c t hA hβ ⟨t.val / 32, by omega⟩ rfl a ⟨t.val % 32 * 128 + a.val, by omega⟩ rfl j).trans ?_
  blk_ext [idx t]

end

end Cert.S5Ideal.RefValue

end
-- ==== Proof.S5Reference.lean ====
module

public import proofs.«01_k».proof.Proof.Gen.S5RefIdeal.Run
public import proofs.«01_k».proof.Proof.S5Spec
public import Idealize.ShloMosaic.Lib.Pipeline.ValueKit
public import Idealize.ShloMosaic.Lib.Pointwise
public import Idealize.ShloMosaic.Lib.DynamicIndex
public import Idealize.ShloMosaic.Lib.Claim

/-! The reference's scan over the positions is the recurrence of its arguments. -/

@[expose] public section

set_option maxRecDepth 16384

noncomputable section

namespace Cert.S5RefIdeal.RefValue

open Idealize.ShloMosaic Idealize.ShloMosaic.TcCoe Idealize.SL.Sem Idealize.ShloMosaic.StableHlo
open Cert.S5RefIdeal Cert.S5RefIdeal.Gen Cert.S5RefIdeal.Value

section
variable (m : (ℓ : Loc nD τ sig) → Buf (Elt Ideal) ℓ) (c : Dev nD)

/-- The arguments, as arrays. -/
abbrev a0 : FVec Ideal ⟨3, ![8, 4096, 512]⟩ .f32 := m ((c : Thread nD τ).loc main_arg0)
abbrev a1 : FVec Ideal ⟨2, ![16, 64]⟩ .f32 := m ((c : Thread nD τ).loc main_arg1)
abbrev a2 : FVec Ideal ⟨2, ![16, 64]⟩ .f32 := m ((c : Thread nD τ).loc main_arg2)
abbrev a3 : FVec Ideal ⟨1, ![16]⟩ .f32 := m ((c : Thread nD τ).loc main_arg3)
abbrev a4 : FVec Ideal ⟨2, ![256, 2048]⟩ .f32 := m ((c : Thread nD τ).loc main_arg4)
abbrev a5 : FVec Ideal ⟨2, ![2048, 256]⟩ .f32 := m ((c : Thread nD τ).loc main_arg5)
abbrev a6 : FVec Ideal ⟨1, ![256]⟩ .f32 := m ((c : Thread nD τ).loc main_arg6)
abbrev a7 : FVec Ideal ⟨2, ![256, 256]⟩ .f32 := m ((c : Thread nD τ).loc main_arg7)

/-- What is fed in, positions first. -/
def FED (x : FVec Ideal S8x4096x512 .f32) (w : FVec Ideal S256x2048 .f32) : FVec Ideal S4096x8x2048 .f32 :=
  transpose S4096x8x2048 [2, 1, 0] (Host.dotGeneral dot_S256x2048_S8x4096x256_S2048x8x4096_0_2_1_01_n_n none w
    (extractStridedSlice S8x4096x256 ![0, 0, 0] x slices_S8x4096x512_S8x4096x256_0_0_0)) transposes_S2048x8x4096_S4096x8x2048_2_1_0

/-- The steps' lengths, and the columns' factors. -/
def STEPS (x3 : FVec Ideal S16 .f32) : FVec Ideal S16x64 .f32 :=
  broadcastInDim S16x64 ![0, 1] bcast_S16x1_S16x64_0_1 (broadcastInDim S16x1 ![0] bcast_S16_S16x1_0 (Host.exp x3))
def MAG (x1 : FVec Ideal S16x64 .f32) (x3 : FVec Ideal S16 .f32) : FVec Ideal S16x64 .f32 :=
  Host.exp (mulf (minimumf x1 (broadcastInDim S16x64 ![] bcast_S_S16x64 (constant S_ .f32 0xB8D1B717#32))) (STEPS x3))
def ARE (x1 x2 : FVec Ideal S16x64 .f32) (x3 : FVec Ideal S16 .f32) : FVec Ideal S1024 .f32 :=
  shapeCast S1024 (mulf (MAG x1 x3) (Host.cos (mulf x2 (STEPS x3)))) shapeCasts_S16x64_S1024
def AIM (x1 x2 : FVec Ideal S16x64 .f32) (x3 : FVec Ideal S16 .f32) : FVec Ideal S1024 .f32 :=
  shapeCast S1024 (mulf (MAG x1 x3) (Host.sin (mulf x2 (STEPS x3)))) shapeCasts_S16x64_S1024

theorem entry0 : entryContents preI m c (Proc.devRef .tc main_v23_0) = FED (a0 m c) (a4 m c) := by
  simp only [entryContents, afterL_cons, afterL_nil]
  after_reads_simp
  rfl
theorem entry1 : entryContents preI m c (Proc.devRef .tc main_v23_1) = ARE (a1 m c) (a2 m c) (a3 m c) := by
  simp only [entryContents, afterL_cons, afterL_nil]
  after_reads_simp
  rfl
theorem entry2 : entryContents preI m c (Proc.devRef .tc main_v23_2) = AIM (a1 m c) (a2 m c) (a3 m c) := by
  simp only [entryContents, afterL_cons, afterL_nil]
  after_reads_simp
  rfl
theorem entry4 : entryContents preI m c (Proc.devRef .tc main_v23_4)
    = broadcastInDim S8x1024 ![] bcast_S_S8x1024 (constant (F := Ideal) S_ .f32 0x00000000#32) := by
  simp only [entryContents, afterL_cons, afterL_nil]
  after_reads_simp
  rfl
theorem entry5 : entryContents preI m c (Proc.devRef .tc main_v23_5)
    = broadcastInDim S8x1024 ![] bcast_S_S8x1024 (constant (F := Ideal) S_ .f32 0x00000000#32) := by
  simp only [entryContents, afterL_cons, afterL_nil]
  after_reads_simp
  rfl

theorem FED_apply (x : FVec Ideal S8x4096x512 .f32) (w : FVec Ideal S256x2048 .f32) (s : Fin 4096) (b : Fin 8) (n : Fin 2048) :
    FED x w (ix3 s b n) = Scan.fed x w b s n := by
  pointwise [FED]
  exact Finset.sum_congr rfl fun k _ => mul_comm _ _

theorem ARE_apply (x1 x2 : FVec Ideal S16x64 .f32) (x3 : FVec Ideal S16 .f32) (l : Fin 1024) : ARE x1 x2 x3 (ix1 l) = Scan.powRe x1 x2 x3 l (((1 : ℕ) : ℝ) : EReal) := by
  unfold Scan.powRe
  rw [Nat.cast_one, EReal.coe_one, one_mul, one_mul]
  pointwise [ARE, MAG, STEPS]
  rfl
theorem AIM_apply (x1 x2 : FVec Ideal S16x64 .f32) (x3 : FVec Ideal S16 .f32) (l : Fin 1024) : AIM x1 x2 x3 (ix1 l) = Scan.powIm x1 x2 x3 l (((1 : ℕ) : ℝ) : EReal) := by
  unfold Scan.powIm
  rw [Nat.cast_one, EReal.coe_one, one_mul, one_mul]
  pointwise [AIM, MAG, STEPS]
  rfl

/-- The starts a trip slices its operand and its result at: the trip's number on the first axis. -/
theorem starts (n : IVec S_ 32) (k : ℕ) (hk : k < 4096) (hn : n = fun _ => BitVec.ofNat 32 k) (j : Fin 3) :
    (((![n, constantI S_ 32 0#32, constantI S_ 32 0#32] : Fin 3 → IVec S_ 32)) j (Shape.Idx.first h_S_)).toInt
      = ((![k, 0, 0] : Fin 3 → ℕ) j : ℤ) := by
  subst hn
  fin_cases j
  · show (BitVec.ofNat 32 k).toInt = (k : ℤ)
    exact toInt_ofNat_of_lt (by omega)
  all_goals rfl

theorem position_at (X : FVec Ideal S4096x8x2048 .f32) (n : IVec S_ 32) (k : Fin 4096) (hn : n = fun _ => BitVec.ofNat 32 k.val)
    (b : Fin 8) (d : Fin 2048) :
    shapeCast S8x2048 (Host.dynamicSlice S1x8x2048 X (fun j => (((![n, constantI S_ 32 0#32, constantI S_ 32 0#32] : Fin 3 → IVec S_ 32)) j (Shape.Idx.first h_S_)).toInt)
      sliceFits_S4096x8x2048_S1x8x2048) shapeCasts_S1x8x2048_S8x2048 (ix2 b d) = X (ix3 k b d) := by
  have hs : S4096x8x2048.Slices ![k.val, 0, 0] S1x8x2048 := ⟨rfl, fun j => by have := k.isLt; fin_cases j <;> simp [S4096x8x2048, S1x8x2048] <;> omega⟩
  rw [Host.dynamicSlice_eq_extractStridedSlice S1x8x2048 X _ ![k.val, 0, 0] _ hs (starts n k.val k.isLt hn)]
  pointwise

/-- A trip's result is put at its own position and leaves the others. -/
theorem put_at (X : FVec Ideal S4096x8x2048 .f32) (Y : FVec Ideal S8x2048 .f32) (n : IVec S_ 32) (k : Fin 4096) (hn : n = fun _ => BitVec.ofNat 32 k.val)
    (i : Fin 4096) (b : Fin 8) (d : Fin 2048) :
    Host.dynamicUpdateSlice X (broadcastInDim S1x8x2048 ![1, 2] bcast_S8x2048_S1x8x2048_1_2 Y)
      (fun j => (((![n, constantI S_ 32 0#32, constantI S_ 32 0#32] : Fin 3 → IVec S_ 32)) j (Shape.Idx.first h_S_)).toInt)
      updateFits_S4096x8x2048_S1x8x2048 (ix3 i b d) = if i = k then Y (ix2 b d) else X (ix3 i b d) := by
  have hs : S4096x8x2048.Slices ![k.val, 0, 0] S1x8x2048 := ⟨rfl, fun j => by have := k.isLt; fin_cases j <;> simp [S4096x8x2048, S1x8x2048] <;> omega⟩
  rw [Host.dynamicUpdateSlice_eq_updateSlice X _ _ _ ![k.val, 0, 0] (fun j => by rw [starts n k.val k.isLt hn]; have := hs.2 j; omega) hs]
  pointwise
  by_cases hik : i = k
  · rw [if_pos hik, dif_pos (by omega)]
  · rw [if_neg hik, dif_neg (by omega)]

/-- The two halves of a row side by side. -/
theorem halves (X Y : FVec Ideal S8x1024 .f32) (b : Fin 8) (l : Fin 1024) :
    concatenate S8x2048 1 [⟨S8x1024, X⟩, ⟨S8x1024, Y⟩] concatenates_S8x1024_S8x1024_S8x2048_d1 (ix2 b ⟨l.val, by omega⟩) = X (ix2 b l)
    ∧ concatenate S8x2048 1 [⟨S8x1024, X⟩, ⟨S8x1024, Y⟩] concatenates_S8x1024_S8x1024_S8x2048_d1 (ix2 b ⟨1024 + l.val, by omega⟩) = Y (ix2 b l) := by
  constructor
  · pointwise
  · pointwise

variable (A : Fin 1024 → ℂ) (β : Fin 8 → Fin 1024 → ℕ → ℂ)

/-- What the carried buffers hold before trip `t`. -/
structure Before (W : Valuation τ sig (Elt Ideal)) (t : ℕ) : Prop where
  u : W (Proc.devRef .tc main_v23_0) = FED (a0 m c) (a4 m c)
  ar : W (Proc.devRef .tc main_v23_1) = ARE (a1 m c) (a2 m c) (a3 m c)
  ai : W (Proc.devRef .tc main_v23_2) = AIM (a1 m c) (a2 m c) (a3 m c)
  n : W (Proc.devRef .tc main_v23_3) = fun _ => BitVec.ofNat 32 t
  xr (b : Fin 8) (l : Fin 1024) : (W (Proc.devRef .tc main_v23_4) : FVec Ideal S8x1024 .f32) (ix2 b l) = ((Scan.states (A l) (β b l) t).re : EReal)
  xi (b : Fin 8) (l : Fin 1024) : (W (Proc.devRef .tc main_v23_5) : FVec Ideal S8x1024 .f32) (ix2 b l) = ((Scan.states (A l) (β b l) t).im : EReal)
  yr (i : Fin 4096) (hi : i.val < t) (b : Fin 8) (l : Fin 1024) :
    (W (Proc.devRef .tc main_v23_6) : FVec Ideal S4096x8x2048 .f32) (ix3 i b ⟨l.val, by omega⟩) = Scan.stRe A β b i.val l
  yi (i : Fin 4096) (hi : i.val < t) (b : Fin 8) (l : Fin 1024) :
    (W (Proc.devRef .tc main_v23_6) : FVec Ideal S4096x8x2048 .f32) (ix3 i b ⟨1024 + l.val, by omega⟩) = Scan.stIm A β b i.val l

theorem before_zero : Before m c A β (entryContents preI m c) 0 where
  u := entry0 m c
  ar := entry1 m c
  ai := entry2 m c
  n := ctr_entry m c
  xr b l := by
    rw [entry4]
    pointwise
    rfl
  xi b l := by
    rw [entry5]
    pointwise
    rfl
  yr i hi := absurd hi (by omega)
  yi i hi := absurd hi (by omega)

variable {m c A β} (hA : Scan.Factors (a1 m c) (a2 m c) (a3 m c) A) (hβ : Scan.Inputs (a0 m c) (a4 m c) β)
  {W : Valuation τ sig (Elt Ideal)} {k : Fin 4096} (H : Before m c A β W k.val)

include H in
theorem fed_at (b : Fin 8) (n : Fin 2048) : (res_main_while0b_v55 W : FVec Ideal S8x2048 .f32) (ix2 b n) = Scan.fed (a0 m c) (a4 m c) b k n := by
  rw [res_main_while0b_v55]
  refine (position_at (W (Proc.devRef .tc main_v23_0)) (W (Proc.devRef .tc main_v23_3)) k H.n b n).trans ?_
  rw [H.u, FED_apply]

include hA in
theorem factor_re (l : Fin 1024) : ARE (a1 m c) (a2 m c) (a3 m c) (ix1 l) = ((A l).re : EReal) := by
  rw [ARE_apply, (hA l 1 Nat.one_pos).1, pow_one]
include hA in
theorem factor_im (l : Fin 1024) : AIM (a1 m c) (a2 m c) (a3 m c) (ix1 l) = ((A l).im : EReal) := by
  rw [AIM_apply, (hA l 1 Nat.one_pos).2, pow_one]

include hA hβ H
theorem re_step (b : Fin 8) (l : Fin 1024) : (res_main_while0b_v64 W : FVec Ideal S8x1024 .f32) (ix2 b l) = Scan.stRe A β b k.val l := by
  rw [res_main_while0b_v64, H.ar, H.ai]
  pointwise
  simp only [H.xr, H.xi, fed_at H, factor_re hA, factor_im hA, (hβ b k l).1]
  exact Scan.re_next _ _ _

theorem im_step (b : Fin 8) (l : Fin 1024) : (res_main_while0b_v73 W : FVec Ideal S8x1024 .f32) (ix2 b l) = Scan.stIm A β b k.val l := by
  rw [res_main_while0b_v73, H.ar, H.ai]
  pointwise
  simp only [H.xr, H.xi, fed_at H, factor_re hA, factor_im hA, (hβ b k l).2]
  exact Scan.im_next _ _ _

theorem before_succ : Before m c A β (STEP W) (k.val + 1) where
  u := (STEP_main_v23_0 W).trans H.u
  ar := (STEP_main_v23_1 W).trans H.ar
  ai := (STEP_main_v23_2 W).trans H.ai
  n := by
    rw [STEP_main_v23_3, step_main_v23_3, H.n, BitVec.ofNat_add]
    rfl
  xr b l := by
    rw [STEP_main_v23_4, step_main_v23_4, id_eq]
    exact re_step hA hβ H b l
  xi b l := by
    rw [STEP_main_v23_5, step_main_v23_5, id_eq]
    exact im_step hA hβ H b l
  yr i hi b l := by
    rw [STEP_main_v23_6, step_main_v23_6, id_eq]
    refine (put_at (W (Proc.devRef .tc main_v23_6)) _ (W (Proc.devRef .tc main_v23_3)) k H.n i b _).trans ?_
    split_ifs with hik
    · rw [(halves _ _ b l).1, re_step hA hβ H, hik]
    · exact H.yr i (by omega) b l
  yi i hi b l := by
    rw [STEP_main_v23_6, step_main_v23_6, id_eq]
    refine (put_at (W (Proc.devRef .tc main_v23_6)) _ (W (Proc.devRef .tc main_v23_3)) k H.n i b _).trans ?_
    split_ifs with hik
    · rw [(halves _ _ b l).2, im_step hA hβ H, hik]
    · exact H.yi i (by omega) b l

omit H

theorem before (t : ℕ) (ht : t ≤ 4096) : Before m c A β (STEP^[t] (entryContents preI m c)) t := by
  induction t with
  | zero => exact before_zero m c A β
  | succ t ih =>
    rw [Function.iterate_succ_apply']
    exact before_succ hA hβ (k := ⟨t, by omega⟩) (ih (by omega))

end

/-- The layer's output, before and after its rectifier. -/
def MIX (Y : FVec Ideal S4096x8x2048 .f32) (x : FVec Ideal S8x4096x512 .f32) (w : FVec Ideal S2048x256 .f32) (d : FVec Ideal S256 .f32) : FVec Ideal S8x4096x256 .f32 :=
  addf (transpose S8x4096x256 [2, 1, 0] (Host.dotGeneral dot_S2048x256_S4096x8x2048_S256x4096x8_0_2_1_01_n_n none w Y) transposes_S256x4096x8_S8x4096x256_2_1_0)
    (mulf (broadcastInDim S8x4096x256 ![0, 1, 2] bcast_S1x1x256_S8x4096x256_0_1_2 (broadcastInDim S1x1x256 ![2] bcast_S256_S1x1x256_2 d))
      (extractStridedSlice S8x4096x256 ![0, 0, 0] x slices_S8x4096x512_S8x4096x256_0_0_0))
def GELU (M : FVec Ideal S8x4096x256 .f32) : FVec Ideal S8x4096x256 .f32 :=
  mulf M (mulf (broadcastInDim S8x4096x256 ![] bcast_S_S8x4096x256 (constant S_ .f32 0x3F000000#32)) (addf (broadcastInDim S8x4096x256 ![] bcast_S_S8x4096x256 (constant S_ .f32 0x3F800000#32))
    (Host.tanh (mulf (broadcastInDim S8x4096x256 ![] bcast_S_S8x4096x256 (constant S_ .f32 0x3F4C422A#32))
      (addf M (mulf (broadcastInDim S8x4096x256 ![] bcast_S_S8x4096x256 (constant S_ .f32 0x3D372713#32)) (mulf (mulf M M) M)))))))
def GATE (v z : FVec Ideal S8x4096x256 .f32) : FVec Ideal S8x4096x256 .f32 :=
  mulf v (Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf z))))

/-- What follows the rectifier, and what follows the scan. -/
def TAIL (G : FVec Ideal S8x4096x256 .f32) (x : FVec Ideal S8x4096x512 .f32) (g : FVec Ideal S256x256 .f32) : FVec Ideal S8x4096x256 .f32 :=
  mulf (GATE G (Host.dotGeneral dot_S8x4096x256_S256x256_S8x4096x256_2_0_01_1_n_n none G g))
    (GATE (extractStridedSlice S8x4096x256 ![0, 0, 256] x slices_S8x4096x512_S8x4096x256_0_0_256) (extractStridedSlice S8x4096x256 ![0, 0, 256] x slices_S8x4096x512_S8x4096x256_0_0_256))
def AFTER (Y : FVec Ideal S4096x8x2048 .f32) (x : FVec Ideal S8x4096x512 .f32) (w : FVec Ideal S2048x256 .f32) (d : FVec Ideal S256 .f32) (g : FVec Ideal S256x256 .f32) :
    FVec Ideal S8x4096x256 .f32 := TAIL (GELU (MIX Y x w d)) x g

theorem out_eq (W : Valuation τ sig (Elt Ideal)) :
    out_main_v54 W = AFTER (W (Proc.devRef .tc main_v23_6)) (W (Proc.devRef .tc main_arg0)) (W (Proc.devRef .tc main_arg5)) (W (Proc.devRef .tc main_arg6))
      (W (Proc.devRef .tc main_arg7)) := rfl

theorem MIX_apply (Y : FVec Ideal S4096x8x2048 .f32) (x : FVec Ideal S8x4096x512 .f32) (w : FVec Ideal S2048x256 .f32) (d : FVec Ideal S256 .f32)
    (b : Fin 8) (s : Fin 4096) (j : Fin 256) :
    MIX Y x w d (ix3 b s j) = (∑ l : Fin 1024, Y (ix3 s b ⟨l.val, by omega⟩) * w (ix2 ⟨l.val, by omega⟩ j))
      + (∑ l : Fin 1024, Y (ix3 s b ⟨1024 + l.val, by omega⟩) * w (ix2 ⟨1024 + l.val, by omega⟩ j)) + d (ix1 j) * x (ix3 b s ⟨j.val, by omega⟩) := by
  refine Eq.trans ?_ (congrArg (· + _) (Scan.sum_halves fun n => Y (ix3 s b n) * w (ix2 n j)))
  pointwise [MIX]
  exact congrArg (· + _) (Finset.sum_congr rfl fun k _ => mul_comm _ _)

theorem GELU_apply (M : FVec Ideal S8x4096x256 .f32) (i : S8x4096x256.Idx) : GELU M i = Scan.gelu (M i) := by
  pointwise [GELU]
  rfl
theorem GATE_apply (v z : FVec Ideal S8x4096x256 .f32) (i : S8x4096x256.Idx) : GATE v z i = Scan.gate (v i) (z i) := by
  pointwise [GATE]
  rfl

theorem TAIL_apply (G : FVec Ideal S8x4096x256 .f32) (x : FVec Ideal S8x4096x512 .f32) (g : FVec Ideal S256x256 .f32) (b : Fin 8) (s : Fin 4096) (j : Fin 256) :
    TAIL G x g (ix3 b s j) = Scan.gate (G (ix3 b s j)) (∑ k, G (ix3 b s k) * g (ix2 k j))
      * Scan.gate (x (ix3 b s ⟨256 + j.val, by omega⟩)) (x (ix3 b s ⟨256 + j.val, by omega⟩)) := by
  show GATE _ _ _ * GATE _ _ _ = _
  rw [GATE_apply, GATE_apply]
  pointwise

/-- The reference's result is the layer of the arguments. -/
theorem final (m : (ℓ : Loc nD τ sig) → Buf (Elt Ideal) ℓ) (c : Dev nD) (A : Fin 1024 → ℂ) (β : Fin 8 → Fin 1024 → ℕ → ℂ) (W : Valuation τ sig (Elt Ideal))
    (H : Before m c A β W 4096)
    (h0 : W (Proc.devRef .tc main_arg0) = a0 m c) (h5 : W (Proc.devRef .tc main_arg5) = a5 m c) (h6 : W (Proc.devRef .tc main_arg6) = a6 m c)
    (h7 : W (Proc.devRef .tc main_arg7) = a7 m c) :
    out_main_v54 W = Scan.S5 A β (a0 m c) (a5 m c) (a6 m c) (a7 m c) := by
  rw [out_eq, h0, h5, h6, h7]
  funext i
  obtain ⟨b, s, j, rfl⟩ : ∃ (b : Fin 8) (s : Fin 4096) (j : Fin 256), i = ix3 b s j := ⟨i 0, i 1, i 2, eq_ix3 i⟩
  rw [Scan.S5_apply]
  have hr (k : Fin 256) : GELU (MIX (W (Proc.devRef .tc main_v23_6)) (a0 m c) (a5 m c) (a6 m c)) (ix3 b s k)
      = Scan.read (Scan.stRe A β b s.val) (Scan.stIm A β b s.val) (fun k => a0 m c (ix3 b s ⟨k.val, by omega⟩)) (fun n k => a5 m c (ix2 n k)) (fun k => a6 m c (ix1 k)) k := by
    rw [GELU_apply, MIX_apply]
    simp only [H.yr s s.isLt, H.yi s s.isLt]
    rfl
  unfold AFTER
  generalize GELU (MIX (W (Proc.devRef .tc main_v23_6)) (a0 m c) (a5 m c) (a6 m c)) = G at hr
  rw [TAIL_apply]
  simp only [hr]
  rfl

end Cert.S5RefIdeal.RefValue

end
-- ==== Proof.S5Claims.lean ====
module

public import proofs.«01_k».proof.Defs
public import proofs.«01_k».proof.Proof.Gen.S5.Frame
public import proofs.«01_k».proof.Proof.Gen.Pre_finite_inputs
public import proofs.«01_k».proof.Proof.S5Kernel
public import proofs.«01_k».proof.Proof.S5Reference
public import Idealize.ShloMosaic.Lib.Claim

/-! The claims about the call `S5`: its frames, and that its exact-arithmetic result is the reference's where what is fed in
and the turning rates are finite. -/

@[expose] public section

set_option maxRecDepth 16384
set_option maxHeartbeats 1600000

noncomputable section

namespace Cert.Proof

open Idealize.ShloMosaic Idealize.SL.Sem

theorem runS5 : Cert.quiescent_S5 := fun m g _ => Cert.S5.Gen.frame m g

theorem runS5Ideal : Cert.quiescent_S5Ideal := fun m g _ => Cert.S5Ideal.Gen.frame m g

theorem runS5IdealPre : Cert.quiescent_S5Ideal_pre_finite_inputs := fun m g _ => Cert.S5Ideal.Gen.frame m g

theorem runS5Ref : Cert.quiescent_S5RefIdeal := fun m g _ =>
  Idealize.ShloMosaic.θ_run_mono (Cert.S5RefIdeal.Value.run m g) fun r h =>
    ⟨fun c => (h c).2, sem_eq_zero_of_no_sems (by decide) r.2⟩

theorem runS5RefPre : Cert.quiescent_S5RefIdeal_pre_finite_inputs := fun m g _ =>
  Idealize.ShloMosaic.θ_run_mono (Cert.S5RefIdeal.Value.run m g) fun r h =>
    ⟨fun c => (h c).2, sem_eq_zero_of_no_sems (by decide) r.2⟩

open Idealize.ShloMosaic.ValueKit

/-- A value that the bit test calls finite is a real number. -/
theorem real_of_test {x : EReal} (h : BitVec.ofBool (decide (FloatOps.absf (F := Ideal) (φ := .f32) x < Ideal.ofBits .f32 0x7F800000#32)) = 1#1) :
    ∃ r : ℝ, x = r := by
  have ht : Ideal.ofBits .f32 0x7F800000#32 = ⊤ := by simp [Ideal.ofBits, Ideal.ieee]
  rw [ht] at h
  have hlt : max x (-x) < ⊤ := by
    by_contra hn
    rw [decide_eq_false (show ¬ FloatOps.absf (F := Ideal) (φ := .f32) x < ⊤ from hn)] at h
    exact absurd h (by decide)
  induction x using EReal.rec with
  | bot => exact absurd hlt (by simp)
  | top => exact absurd hlt (by simp)
  | coe r => exact ⟨r, rfl⟩

theorem bound_neg : Ideal.ofBits FTy.f32 0xB8D1B717#32 < (0 : EReal) := by
  simp [Ideal.ofBits, Ideal.ieee]
  refine EReal.mul_pos ?_ (EReal.coe_pos.2 (by norm_num))
  norm_num

section
variable (x : FVec Ideal Cert.Pre_finite_inputs.S8x4096x512 .f32) (x1 x2 : FVec Ideal Cert.Pre_finite_inputs.S16x64 .f32)
  (x3 : FVec Ideal Cert.Pre_finite_inputs.S16 .f32) (w : FVec Ideal Cert.Pre_finite_inputs.S256x2048 .f32) (wo : FVec Ideal Cert.Pre_finite_inputs.S2048x256 .f32)
  (d : FVec Ideal Cert.Pre_finite_inputs.S256 .f32) (wg : FVec Ideal Cert.Pre_finite_inputs.S256x256 .f32)

theorem fed_real (h : (Cert.Pre_finite_inputs.fn (F := Ideal) x x1 x2 x3 w wo d wg).1 = fun _ => 1#1) (b : Fin 8) (s : Fin 4096) (n : Fin 2048) :
    ∃ r : ℝ, Cert.Scan.fed x w b s n = r := by
  have h1 := congrFun h (ix3 b s n)
  pointwise [Cert.Pre_finite_inputs.fn] at h1
  exact real_of_test h1

theorem turn_real (h : (Cert.Pre_finite_inputs.fn (F := Ideal) x x1 x2 x3 w wo d wg).2 = fun _ => 1#1) (i : Fin 16) (j : Fin 64) :
    ∃ r : ℝ, x2 (ix2 i j) = r := by
  have h1 := congrFun h (ix2 i j)
  pointwise [Cert.Pre_finite_inputs.fn] at h1
  exact real_of_test h1
end

/-- The reference's result, at the kernel's arguments. -/
theorem s5At (m : (ℓ : Loc Cert.S5Ideal.nD Cert.S5Ideal.τ Cert.S5Ideal.sig) → Buf (Elt Ideal) ℓ)
    (m' : (ℓ : Loc Cert.S5RefIdeal.nD Cert.S5RefIdeal.τ Cert.S5RefIdeal.sig) → Buf (Elt Ideal) ℓ) (c : Dev Cert.S5Ideal.nD)
    (hb : ∀ b s n, ∃ r : ℝ, Cert.Scan.fed (Cert.S5Ideal.RefValue.a0 m c) (Cert.S5Ideal.RefValue.a4 m c) b s n = r)
    (ht : ∀ i j, ∃ r : ℝ, Cert.S5Ideal.RefValue.a2 m c (ix2 i j) = r)
    (h0 : Cert.S5RefIdeal.RefValue.a0 m' c = Cert.S5Ideal.RefValue.a0 m c) (h1 : Cert.S5RefIdeal.RefValue.a1 m' c = Cert.S5Ideal.RefValue.a1 m c)
    (h2 : Cert.S5RefIdeal.RefValue.a2 m' c = Cert.S5Ideal.RefValue.a2 m c) (h3 : Cert.S5RefIdeal.RefValue.a3 m' c = Cert.S5Ideal.RefValue.a3 m c)
    (h4 : Cert.S5RefIdeal.RefValue.a4 m' c = Cert.S5Ideal.RefValue.a4 m c) (h5 : Cert.S5RefIdeal.RefValue.a5 m' c = Cert.S5Ideal.RefValue.a5 m c)
    (h6 : Cert.S5RefIdeal.RefValue.a6 m' c = Cert.S5Ideal.RefValue.a6 m c) (h7 : Cert.S5RefIdeal.RefValue.a7 m' c = Cert.S5Ideal.RefValue.a7 m c) :
    Cert.S5RefIdeal.Value.out_main_v54 (Cert.S5RefIdeal.Value.STEP^[4096] (StableHlo.entryContents Cert.S5RefIdeal.Value.preI m' c))
      = (Cert.S5Ideal.Gen.dats m 0 c).arrAt 9 Cert.S5Ideal.cfg0.N := by
  obtain ⟨A, hA⟩ := Cert.Scan.exists_factors (Cert.S5Ideal.RefValue.a1 m c) (Cert.S5Ideal.RefValue.a2 m c) (Cert.S5Ideal.RefValue.a3 m c) bound_neg ht
  obtain ⟨β, hβ⟩ := Cert.Scan.exists_inputs (Cert.S5Ideal.RefValue.a0 m c) (Cert.S5Ideal.RefValue.a4 m c) hb
  have hA' : Cert.Scan.Factors (Cert.S5RefIdeal.RefValue.a1 m' c) (Cert.S5RefIdeal.RefValue.a2 m' c) (Cert.S5RefIdeal.RefValue.a3 m' c) A := by
    rw [h1, h2, h3]
    exact hA
  have hβ' : Cert.Scan.Inputs (Cert.S5RefIdeal.RefValue.a0 m' c) (Cert.S5RefIdeal.RefValue.a4 m' c) β := by
    rw [h0, h4]
    exact hβ
  rw [Cert.S5RefIdeal.RefValue.final m' c A β _ (Cert.S5RefIdeal.RefValue.before hA' hβ' 4096 le_rfl) (Cert.S5RefIdeal.Value.iter_main_arg0 m' c 4096)
    (Cert.S5RefIdeal.Value.iter_main_arg5 m' c 4096) (Cert.S5RefIdeal.Value.iter_main_arg6 m' c 4096) (Cert.S5RefIdeal.Value.iter_main_arg7 m' c 4096),
    Cert.S5Ideal.RefValue.final m c hA hβ, h0, h5, h6, h7]

theorem sameS5 : Cert.algebraic_S5Ideal_S5RefIdeal_pre_finite_inputs := by
  pair_intro
  · run_from Cert.S5Ideal.Gen.run_main m g
    · exact Cert.S5Ideal.Gen.V_main_arg1 m c
    · exact Cert.S5Ideal.Gen.V_main_arg2 m c
    · exact Cert.S5Ideal.Gen.V_main_arg3 m c
    · exact Cert.S5Ideal.Gen.V_main_arg4 m c
    · exact Cert.S5Ideal.Gen.V_main_arg5 m c
    · exact Cert.S5Ideal.Gen.V_main_arg6 m c
    · exact Cert.S5Ideal.Gen.V_main_arg7 m c
  · refine Idealize.ShloMosaic.θ_run_mono (Cert.S5RefIdeal.Value.run m' g') fun r h c => ⟨(h c).1.trans ?_, (h c).2⟩
    obtain ⟨h0, h1, h2, h3, h4, h5, h6, h7⟩ := hagree c
    exact s5At m m' c (fed_real _ _ _ _ _ _ _ _ (hpre c).1) (turn_real _ _ _ _ _ _ _ _ (hpre c).2) h0 h1 h2 h3 h4 h5 h6 h7

end Cert.Proof

end
-- ==== Proof.lean ====
module

public import proofs.«01_k».proof.Defs
public import proofs.«01_k».proof.Proof.Gen.Xatt
public import proofs.«01_k».proof.Proof.Gen.Xatt.Skeleton
public import proofs.«01_k».proof.Proof.Gen.Xatt.Launch
public import proofs.«01_k».proof.Proof.Gen.Xatt.Points
public import proofs.«01_k».proof.Proof.Gen.Xatt.Frame
public import proofs.«01_k».proof.Proof.Gen.XattIdeal
public import proofs.«01_k».proof.Proof.Gen.XattIdeal.Skeleton
public import proofs.«01_k».proof.Proof.Gen.XattIdeal.Launch
public import proofs.«01_k».proof.Proof.Gen.XattIdeal.Points
public import proofs.«01_k».proof.Proof.Gen.XattIdeal.Frame
public import proofs.«01_k».proof.Proof.Gen.XattRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.MemProj
public import proofs.«01_k».proof.Proof.Gen.MemProj.Skeleton
public import proofs.«01_k».proof.Proof.Gen.MemProj.Launch
public import proofs.«01_k».proof.Proof.Gen.MemProj.Points
public import proofs.«01_k».proof.Proof.Gen.MemProj.Frame
public import proofs.«01_k».proof.Proof.Gen.MemProjIdeal
public import proofs.«01_k».proof.Proof.Gen.MemProjIdeal.Skeleton
public import proofs.«01_k».proof.Proof.Gen.MemProjIdeal.Launch
public import proofs.«01_k».proof.Proof.Gen.MemProjIdeal.Points
public import proofs.«01_k».proof.Proof.Gen.MemProjIdeal.Frame
public import proofs.«01_k».proof.Proof.Gen.MemProjRefIdeal
public import proofs.«01_k».proof.Proof.Gen.XattIdeal.Value
public import proofs.«01_k».proof.Proof.Gen.XattRefIdeal.Run
public import proofs.«01_k».proof.Proof.Gen.MergeIdeal.Value
public import proofs.«01_k».proof.Proof.Gen.MergeRefIdeal.Run
public import proofs.«01_k».proof.Proof.Gen.ProjIdeal.Value
public import proofs.«01_k».proof.Proof.Gen.ProjRefIdeal.Run
public import proofs.«01_k».proof.Proof.Gen.MemProjIdeal.Value
public import proofs.«01_k».proof.Proof.Gen.MemProjRefIdeal.Run
public import proofs.«01_k».proof.Proof.XattClaims
public import proofs.«01_k».proof.Proof.MergeClaims
public import proofs.«01_k».proof.Proof.ProjClaims
public import proofs.«01_k».proof.Proof.MemProjClaims
public import Idealize.ShloMosaic.Adequacy
public import Idealize.ShloMosaic.Init
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.RetIdeal.Value
public import proofs.«01_k».proof.Proof.Gen.RetRefIdeal.Run
public import proofs.«01_k».proof.Proof.Gen.Pre_finite_scores
public import proofs.«01_k».proof.Proof.RopeClaims
public import proofs.«01_k».proof.Proof.PrepClaims
public import proofs.«01_k».proof.Proof.RetClaims
public import proofs.«01_k».proof.Proof.S5Claims

@[expose] public section

noncomputable section

namespace Cert.Proof

open Idealize.ShloMosaic Idealize.SL.Sem Cert.Xatt

theorem claim : Cert.Claim := ⟨Cert.Xatt.Gen.facts, Cert.XattIdeal.Gen.facts, Cert.XattRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.MemProj.Gen.facts, Cert.MemProjIdeal.Gen.facts, Cert.MemProjRefIdeal.Gen.facts, Cert.Rope.Gen.facts, Cert.RopeIdeal.Gen.facts, Cert.RopeRefIdeal.Gen.facts, Cert.Prep.Gen.facts, Cert.PrepIdeal.Gen.facts, Cert.PrepRefIdeal.Gen.facts, Cert.Ret.Gen.facts, Cert.RetIdeal.Gen.facts, Cert.RetRefIdeal.Gen.facts, Cert.S5.Gen.facts, Cert.S5Ideal.Gen.facts, Cert.S5RefIdeal.Gen.facts, Cert.Pre_finite_scores.Gen.facts, Cert.Pre_finite_inputs.Gen.facts,
  runXatt, runXattIdeal, runXattIdealPre, runXattRef, runXattRefPre, runMerge, runMergeIdeal, runMergeRef, runProj, runProjIdeal, runProjRef, runMemProj, runMemProjIdeal, runMemProjRef, runRope, runRopeIdeal, runRopeRef, runPrep, runPrepIdeal, runPrepRef, runRet, runRetIdeal, runRetRef, runS5, runS5Ideal, runS5IdealPre, runS5Ref, runS5RefPre,
  trivial, sameXatt, trivial, sameMerge, trivial, sameProj, trivial, sameMemProj, trivial, sameRope, trivial, samePrep, trivial, sameRet, trivial, sameS5⟩

end Cert.Proof

end
